-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerReferenceIdeal (m : (ℓ : Loc Cert.InnerReferenceIdeal.nD Cert.InnerReferenceIdeal.τ Cert.InnerReferenceIdeal.sig) → Buf (Elt Ideal) ℓ) : Prop :=
  True

def Pre_Mixers (m : (ℓ : Loc Cert.Mixers.nD Cert.Mixers.τ Cert.Mixers.sig) → Buf (Elt Bits) ℓ) : Prop :=
  True

def Pre_MixersIdeal (m : (ℓ : Loc Cert.MixersIdeal.nD Cert.MixersIdeal.τ Cert.MixersIdeal.sig) → Buf (Elt Ideal) ℓ) : Prop :=
  True

def Pre_MixersReferenceIdeal (m : (ℓ : Loc Cert.MixersReferenceIdeal.nD Cert.MixersReferenceIdeal.τ Cert.MixersReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4)
      ∧ r.2.mem ((c.tc : Thread Cert.Inner.nD Cert.Inner.τ).loc Cert.Inner.main_arg5) = m ((c.tc : Thread Cert.Inner.nD Cert.Inner.τ).loc Cert.Inner.main_arg5))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5))
      ∧ r.2.sem = fun _ => 0)

def quiescent_InnerReferenceIdeal [hInnerReferenceIdeal : Cert.InnerReferenceIdeal.Facts] : Prop :=
  ∀ (m : (ℓ : Loc Cert.InnerReferenceIdeal.nD Cert.InnerReferenceIdeal.τ Cert.InnerReferenceIdeal.sig) → Buf (Elt Ideal) ℓ) (g : Dev Cert.InnerReferenceIdeal.nD → PrngReg), Pre_InnerReferenceIdeal m →
    θ_run (Cert.InnerReferenceIdeal.defs (F := Ideal)) (onTc (τ := Cert.InnerReferenceIdeal.τ) (Cert.InnerReferenceIdeal.main (F := Ideal))) ⟨m, fun _ => 0, g⟩ (fun r => (∀ c : Dev Cert.InnerReferenceIdeal.nD,
      r.2.mem ((c.tc : Thread Cert.InnerReferenceIdeal.nD Cert.InnerReferenceIdeal.τ).loc Cert.InnerReferenceIdeal.main_arg0) = m ((c.tc : Thread Cert.InnerReferenceIdeal.nD Cert.InnerReferenceIdeal.τ).loc Cert.InnerReferenceIdeal.main_arg0)
      ∧ r.2.mem ((c.tc : Thread Cert.InnerReferenceIdeal.nD Cert.InnerReferenceIdeal.τ).loc Cert.InnerReferenceIdeal.main_arg1) = m ((c.tc : Thread Cert.InnerReferenceIdeal.nD Cert.InnerReferenceIdeal.τ).loc Cert.InnerReferenceIdeal.main_arg1)
      ∧ r.2.mem ((c.tc : Thread Cert.InnerReferenceIdeal.nD Cert.InnerReferenceIdeal.τ).loc Cert.InnerReferenceIdeal.main_arg2) = m ((c.tc : Thread Cert.InnerReferenceIdeal.nD Cert.InnerReferenceIdeal.τ).loc Cert.InnerReferenceIdeal.main_arg2)
      ∧ r.2.mem ((c.tc : Thread Cert.InnerReferenceIdeal.nD Cert.InnerReferenceIdeal.τ).loc Cert.InnerReferenceIdeal.main_arg3) = m ((c.tc : Thread Cert.InnerReferenceIdeal.nD Cert.InnerReferenceIdeal.τ).loc Cert.InnerReferenceIdeal.main_arg3)
      ∧ r.2.mem ((c.tc : Thread Cert.InnerReferenceIdeal.nD Cert.InnerReferenceIdeal.τ).loc Cert.InnerReferenceIdeal.main_arg4) = m ((c.tc : Thread Cert.InnerReferenceIdeal.nD Cert.InnerReferenceIdeal.τ).loc Cert.InnerReferenceIdeal.main_arg4)
      ∧ r.2.mem ((c.tc : Thread Cert.InnerReferenceIdeal.nD Cert.InnerReferenceIdeal.τ).loc Cert.InnerReferenceIdeal.main_arg5) = m ((c.tc : Thread Cert.InnerReferenceIdeal.nD Cert.InnerReferenceIdeal.τ).loc Cert.InnerReferenceIdeal.main_arg5))
      ∧ r.2.sem = fun _ => 0)

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2))
      ∧ r.2.sem = fun _ => 0)

def quiescent_MixersReferenceIdeal [hMixersReferenceIdeal : Cert.MixersReferenceIdeal.Facts] : Prop :=
  ∀ (m : (ℓ : Loc Cert.MixersReferenceIdeal.nD Cert.MixersReferenceIdeal.τ Cert.MixersReferenceIdeal.sig) → Buf (Elt Ideal) ℓ) (g : Dev Cert.MixersReferenceIdeal.nD → PrngReg), Pre_MixersReferenceIdeal m →
    θ_run (Cert.MixersReferenceIdeal.defs (F := Ideal)) (onTc (τ := Cert.MixersReferenceIdeal.τ) (Cert.MixersReferenceIdeal.main (F := Ideal))) ⟨m, fun _ => 0, g⟩ (fun r => (∀ c : Dev Cert.MixersReferenceIdeal.nD,
      r.2.mem ((c.tc : Thread Cert.MixersReferenceIdeal.nD Cert.MixersReferenceIdeal.τ).loc Cert.MixersReferenceIdeal.main_arg0) = m ((c.tc : Thread Cert.MixersReferenceIdeal.nD Cert.MixersReferenceIdeal.τ).loc Cert.MixersReferenceIdeal.main_arg0)
      ∧ r.2.mem ((c.tc : Thread Cert.MixersReferenceIdeal.nD Cert.MixersReferenceIdeal.τ).loc Cert.MixersReferenceIdeal.main_arg1) = m ((c.tc : Thread Cert.MixersReferenceIdeal.nD Cert.MixersReferenceIdeal.τ).loc Cert.MixersReferenceIdeal.main_arg1)
      ∧ r.2.mem ((c.tc : Thread Cert.MixersReferenceIdeal.nD Cert.MixersReferenceIdeal.τ).loc Cert.MixersReferenceIdeal.main_arg2) = m ((c.tc : Thread Cert.MixersReferenceIdeal.nD Cert.MixersReferenceIdeal.τ).loc Cert.MixersReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Inner_InnerIdeal : Prop :=
  True

def algebraic_InnerIdeal_InnerReferenceIdeal [hInnerIdeal : Cert.InnerIdeal.Facts] [hInnerReferenceIdeal : Cert.InnerReferenceIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerReferenceIdeal.nD Cert.InnerReferenceIdeal.τ Cert.InnerReferenceIdeal.sig) → Buf (Elt Ideal) ℓ) (g' : Dev Cert.InnerReferenceIdeal.nD → PrngReg), Pre_InnerIdeal m →
    (∀ c : Dev Cert.InnerIdeal.nD,
      m' ((c.tc : Thread Cert.InnerReferenceIdeal.nD Cert.InnerReferenceIdeal.τ).loc Cert.InnerReferenceIdeal.main_arg0) = m ((c.tc : Thread Cert.InnerIdeal.nD Cert.InnerIdeal.τ).loc Cert.InnerIdeal.main_arg0)
      ∧ m' ((c.tc : Thread Cert.InnerReferenceIdeal.nD Cert.InnerReferenceIdeal.τ).loc Cert.InnerReferenceIdeal.main_arg1) = m ((c.tc : Thread Cert.InnerIdeal.nD Cert.InnerIdeal.τ).loc Cert.InnerIdeal.main_arg1)
      ∧ m' ((c.tc : Thread Cert.InnerReferenceIdeal.nD Cert.InnerReferenceIdeal.τ).loc Cert.InnerReferenceIdeal.main_arg2) = m ((c.tc : Thread Cert.InnerIdeal.nD Cert.InnerIdeal.τ).loc Cert.InnerIdeal.main_arg2)
      ∧ m' ((c.tc : Thread Cert.InnerReferenceIdeal.nD Cert.InnerReferenceIdeal.τ).loc Cert.InnerReferenceIdeal.main_arg3) = m ((c.tc : Thread Cert.InnerIdeal.nD Cert.InnerIdeal.τ).loc Cert.InnerIdeal.main_arg3)
      ∧ m' ((c.tc : Thread Cert.InnerReferenceIdeal.nD Cert.InnerReferenceIdeal.τ).loc Cert.InnerReferenceIdeal.main_arg4) = m ((c.tc : Thread Cert.InnerIdeal.nD Cert.InnerIdeal.τ).loc Cert.InnerIdeal.main_arg4)
      ∧ m' ((c.tc : Thread Cert.InnerReferenceIdeal.nD Cert.InnerReferenceIdeal.τ).loc Cert.InnerReferenceIdeal.main_arg5) = m ((c.tc : Thread Cert.InnerIdeal.nD Cert.InnerIdeal.τ).loc Cert.InnerIdeal.main_arg5)) →
    ∃ (v0 : (c : Dev Cert.InnerIdeal.nD) → Buf (Elt Ideal) ((c.tc : Thread Cert.InnerIdeal.nD Cert.InnerIdeal.τ).loc Cert.InnerIdeal.main_v3)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v3) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
          ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5))
      ∧ θ_run (Cert.InnerReferenceIdeal.defs (F := Ideal)) (onTc (τ := Cert.InnerReferenceIdeal.τ) (Cert.InnerReferenceIdeal.main (F := Ideal))) ⟨m', fun _ => 0, g'⟩ (fun r => ∀ c : Dev Cert.InnerReferenceIdeal.nD,
          r.2.mem ((c.tc : Thread Cert.InnerReferenceIdeal.nD Cert.InnerReferenceIdeal.τ).loc Cert.InnerReferenceIdeal.main_v35) = v0 c
          ∧ r.2.mem ((c.tc : Thread Cert.InnerReferenceIdeal.nD Cert.InnerReferenceIdeal.τ).loc Cert.InnerReferenceIdeal.main_arg0) = m' ((c.tc : Thread Cert.InnerReferenceIdeal.nD Cert.InnerReferenceIdeal.τ).loc Cert.InnerReferenceIdeal.main_arg0)
          ∧ r.2.mem ((c.tc : Thread Cert.InnerReferenceIdeal.nD Cert.InnerReferenceIdeal.τ).loc Cert.InnerReferenceIdeal.main_arg1) = m' ((c.tc : Thread Cert.InnerReferenceIdeal.nD Cert.InnerReferenceIdeal.τ).loc Cert.InnerReferenceIdeal.main_arg1)
          ∧ r.2.mem ((c.tc : Thread Cert.InnerReferenceIdeal.nD Cert.InnerReferenceIdeal.τ).loc Cert.InnerReferenceIdeal.main_arg2) = m' ((c.tc : Thread Cert.InnerReferenceIdeal.nD Cert.InnerReferenceIdeal.τ).loc Cert.InnerReferenceIdeal.main_arg2)
          ∧ r.2.mem ((c.tc : Thread Cert.InnerReferenceIdeal.nD Cert.InnerReferenceIdeal.τ).loc Cert.InnerReferenceIdeal.main_arg3) = m' ((c.tc : Thread Cert.InnerReferenceIdeal.nD Cert.InnerReferenceIdeal.τ).loc Cert.InnerReferenceIdeal.main_arg3)
          ∧ r.2.mem ((c.tc : Thread Cert.InnerReferenceIdeal.nD Cert.InnerReferenceIdeal.τ).loc Cert.InnerReferenceIdeal.main_arg4) = m' ((c.tc : Thread Cert.InnerReferenceIdeal.nD Cert.InnerReferenceIdeal.τ).loc Cert.InnerReferenceIdeal.main_arg4)
          ∧ r.2.mem ((c.tc : Thread Cert.InnerReferenceIdeal.nD Cert.InnerReferenceIdeal.τ).loc Cert.InnerReferenceIdeal.main_arg5) = m' ((c.tc : Thread Cert.InnerReferenceIdeal.nD Cert.InnerReferenceIdeal.τ).loc Cert.InnerReferenceIdeal.main_arg5))

def preserves_Mixers_MixersIdeal : Prop :=
  True

def algebraic_MixersIdeal_MixersReferenceIdeal [hMixersIdeal : Cert.MixersIdeal.Facts] [hMixersReferenceIdeal : Cert.MixersReferenceIdeal.Facts] : Prop :=
  ∀ (m : (ℓ : Loc Cert.MixersIdeal.nD Cert.MixersIdeal.τ Cert.MixersIdeal.sig) → Buf (Elt Ideal) ℓ) (g : Dev Cert.MixersIdeal.nD → PrngReg)
    (m' : (ℓ : Loc Cert.MixersReferenceIdeal.nD Cert.MixersReferenceIdeal.τ Cert.MixersReferenceIdeal.sig) → Buf (Elt Ideal) ℓ) (g' : Dev Cert.MixersReferenceIdeal.nD → PrngReg), Pre_MixersIdeal m →
    (∀ c : Dev Cert.MixersIdeal.nD,
      m' ((c.tc : Thread Cert.MixersReferenceIdeal.nD Cert.MixersReferenceIdeal.τ).loc Cert.MixersReferenceIdeal.main_arg0) = m ((c.tc : Thread Cert.MixersIdeal.nD Cert.MixersIdeal.τ).loc Cert.MixersIdeal.main_arg0)
      ∧ m' ((c.tc : Thread Cert.MixersReferenceIdeal.nD Cert.MixersReferenceIdeal.τ).loc Cert.MixersReferenceIdeal.main_arg1) = m ((c.tc : Thread Cert.MixersIdeal.nD Cert.MixersIdeal.τ).loc Cert.MixersIdeal.main_arg1)
      ∧ m' ((c.tc : Thread Cert.MixersReferenceIdeal.nD Cert.MixersReferenceIdeal.τ).loc Cert.MixersReferenceIdeal.main_arg2) = m ((c.tc : Thread Cert.MixersIdeal.nD Cert.MixersIdeal.τ).loc Cert.MixersIdeal.main_arg2)) →
    ∃ (v0 : (c : Dev Cert.MixersIdeal.nD) → Buf (Elt Ideal) ((c.tc : Thread Cert.MixersIdeal.nD Cert.MixersIdeal.τ).loc Cert.MixersIdeal.main_v128_0)) (v1 : (c : Dev Cert.MixersIdeal.nD) → Buf (Elt Ideal) ((c.tc : Thread Cert.MixersIdeal.nD Cert.MixersIdeal.τ).loc Cert.MixersIdeal.main_v128_1)) (v2 : (c : Dev Cert.MixersIdeal.nD) → Buf (Elt Ideal) ((c.tc : Thread Cert.MixersIdeal.nD Cert.MixersIdeal.τ).loc Cert.MixersIdeal.main_v128_2)) (v3 : (c : Dev Cert.MixersIdeal.nD) → Buf (Elt Ideal) ((c.tc : Thread Cert.MixersIdeal.nD Cert.MixersIdeal.τ).loc Cert.MixersIdeal.main_v128_3)),
      θ_run (Cert.MixersIdeal.defs (F := Ideal)) (onTc (τ := Cert.MixersIdeal.τ) (Cert.MixersIdeal.main (F := Ideal))) ⟨m, fun _ => 0, g⟩ (fun r => ∀ c : Dev Cert.MixersIdeal.nD,
          r.2.mem ((c.tc : Thread Cert.MixersIdeal.nD Cert.MixersIdeal.τ).loc Cert.MixersIdeal.main_v128_0) = v0 c
          ∧ r.2.mem ((c.tc : Thread Cert.MixersIdeal.nD Cert.MixersIdeal.τ).loc Cert.MixersIdeal.main_v128_1) = v1 c
          ∧ r.2.mem ((c.tc : Thread Cert.MixersIdeal.nD Cert.MixersIdeal.τ).loc Cert.MixersIdeal.main_v128_2) = v2 c
          ∧ r.2.mem ((c.tc : Thread Cert.MixersIdeal.nD Cert.MixersIdeal.τ).loc Cert.MixersIdeal.main_v128_3) = v3 c
          ∧ r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
          ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
          ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2))
      ∧ θ_run (Cert.MixersReferenceIdeal.defs (F := Ideal)) (onTc (τ := Cert.MixersReferenceIdeal.τ) (Cert.MixersReferenceIdeal.main (F := Ideal))) ⟨m', fun _ => 0, g'⟩ (fun r => ∀ c : Dev Cert.MixersReferenceIdeal.nD,
          r.2.mem ((c.tc : Thread Cert.MixersReferenceIdeal.nD Cert.MixersReferenceIdeal.τ).loc Cert.MixersReferenceIdeal.main_v213) = v0 c
          ∧ r.2.mem ((c.tc : Thread Cert.MixersReferenceIdeal.nD Cert.MixersReferenceIdeal.τ).loc Cert.MixersReferenceIdeal.main_v216) = v1 c
          ∧ r.2.mem ((c.tc : Thread Cert.MixersReferenceIdeal.nD Cert.MixersReferenceIdeal.τ).loc Cert.MixersReferenceIdeal.main_v224) = v2 c
          ∧ r.2.mem ((c.tc : Thread Cert.MixersReferenceIdeal.nD Cert.MixersReferenceIdeal.τ).loc Cert.MixersReferenceIdeal.main_v232) = v3 c
          ∧ r.2.mem ((c.tc : Thread Cert.MixersReferenceIdeal.nD Cert.MixersReferenceIdeal.τ).loc Cert.MixersReferenceIdeal.main_arg0) = m' ((c.tc : Thread Cert.MixersReferenceIdeal.nD Cert.MixersReferenceIdeal.τ).loc Cert.MixersReferenceIdeal.main_arg0)
          ∧ r.2.mem ((c.tc : Thread Cert.MixersReferenceIdeal.nD Cert.MixersReferenceIdeal.τ).loc Cert.MixersReferenceIdeal.main_arg1) = m' ((c.tc : Thread Cert.MixersReferenceIdeal.nD Cert.MixersReferenceIdeal.τ).loc Cert.MixersReferenceIdeal.main_arg1)
          ∧ r.2.mem ((c.tc : Thread Cert.MixersReferenceIdeal.nD Cert.MixersReferenceIdeal.τ).loc Cert.MixersReferenceIdeal.main_arg2) = m' ((c.tc : Thread Cert.MixersReferenceIdeal.nD Cert.MixersReferenceIdeal.τ).loc Cert.MixersReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v145_0)) (v1 : (c : Dev Cert.InProjIdeal.nD) → Buf (Elt Ideal) ((c.tc : Thread Cert.InProjIdeal.nD Cert.InProjIdeal.τ).loc Cert.InProjIdeal.main_v145_1)) (v2 : (c : Dev Cert.InProjIdeal.nD) → Buf (Elt Ideal) ((c.tc : Thread Cert.InProjIdeal.nD Cert.InProjIdeal.τ).loc Cert.InProjIdeal.main_v145_2)) (v3 : (c : Dev Cert.InProjIdeal.nD) → Buf (Elt Ideal) ((c.tc : Thread Cert.InProjIdeal.nD Cert.InProjIdeal.τ).loc Cert.InProjIdeal.main_v145_3)) (v4 : (c : Dev Cert.InProjIdeal.nD) → Buf (Elt Ideal) ((c.tc : Thread Cert.InProjIdeal.nD Cert.InProjIdeal.τ).loc Cert.InProjIdeal.main_v145_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v145_0) = v0 c
          ∧ r.2.mem ((c.tc : Thread Cert.InProjIdeal.nD Cert.InProjIdeal.τ).loc Cert.InProjIdeal.main_v145_1) = v1 c
          ∧ r.2.mem ((c.tc : Thread Cert.InProjIdeal.nD Cert.InProjIdeal.τ).loc Cert.InProjIdeal.main_v145_2) = v2 c
          ∧ r.2.mem ((c.tc : Thread Cert.InProjIdeal.nD Cert.InProjIdeal.τ).loc Cert.InProjIdeal.main_v145_3) = v3 c
          ∧ r.2.mem ((c.tc : Thread Cert.InProjIdeal.nD Cert.InProjIdeal.τ).loc Cert.InProjIdeal.main_v145_6) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v93) = v0 c
          ∧ r.2.mem ((c.tc : Thread Cert.InProjReferenceIdeal.nD Cert.InProjReferenceIdeal.τ).loc Cert.InProjReferenceIdeal.main_v96) = v1 c
          ∧ r.2.mem ((c.tc : Thread Cert.InProjReferenceIdeal.nD Cert.InProjReferenceIdeal.τ).loc Cert.InProjReferenceIdeal.main_v99) = v2 c
          ∧ r.2.mem ((c.tc : Thread Cert.InProjReferenceIdeal.nD Cert.InProjReferenceIdeal.τ).loc Cert.InProjReferenceIdeal.main_v102) = v3 c
          ∧ r.2.mem ((c.tc : Thread Cert.InProjReferenceIdeal.nD Cert.InProjReferenceIdeal.τ).loc Cert.InProjReferenceIdeal.main_v105) = v4 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def Claim : Prop :=
  ∃ (hKernel : Cert.Kernel.Facts) (hKernelIdeal : Cert.KernelIdeal.Facts) (hReferenceIdeal : Cert.ReferenceIdeal.Facts) (hInner : Cert.Inner.Facts) (hInnerIdeal : Cert.InnerIdeal.Facts) (hInnerReferenceIdeal : Cert.InnerReferenceIdeal.Facts) (hMixers : Cert.Mixers.Facts) (hMixersIdeal : Cert.MixersIdeal.Facts) (hMixersReferenceIdeal : Cert.MixersReferenceIdeal.Facts) (hInProj : Cert.InProj.Facts) (hInProjIdeal : Cert.InProjIdeal.Facts) (hInProjReferenceIdeal : Cert.InProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Inner (hInner := hInner)
    ∧ quiescent_InnerIdeal (hInnerIdeal := hInnerIdeal)
    ∧ quiescent_InnerReferenceIdeal (hInnerReferenceIdeal := hInnerReferenceIdeal)
    ∧ quiescent_Mixers (hMixers := hMixers)
    ∧ quiescent_MixersIdeal (hMixersIdeal := hMixersIdeal)
    ∧ quiescent_MixersReferenceIdeal (hMixersReferenceIdeal := hMixersReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ algebraic_KernelIdeal_ReferenceIdeal (hKernelIdeal := hKernelIdeal) (hReferenceIdeal := hReferenceIdeal)
    ∧ preserves_Inner_InnerIdeal
    ∧ algebraic_InnerIdeal_InnerReferenceIdeal (hInnerIdeal := hInnerIdeal) (hInnerReferenceIdeal := hInnerReferenceIdeal)
    ∧ preserves_Mixers_MixersIdeal
    ∧ algebraic_MixersIdeal_MixersReferenceIdeal (hMixersIdeal := hMixersIdeal) (hMixersReferenceIdeal := hMixersReferenceIdeal)
    ∧ preserves_InProj_InProjIdeal
    ∧ algebraic_InProjIdeal_InProjReferenceIdeal (hInProjIdeal := hInProjIdeal) (hInProjReferenceIdeal := hInProjReferenceIdeal)
-- ==== Kernel.lean ====
abbrev S32x2048x1024 : Shape := ⟨3, ![32, 2048, 1024]⟩
abbrev S32x1x6144 : Shape := ⟨3, ![32, 1, 6144]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S1x1024 : Shape := ⟨2, ![1, 1024]⟩
abbrev S1x1024x1024 : Shape := ⟨3, ![1, 1024, 1024]⟩
abbrev S1x16x1024 : Shape := ⟨3, ![1, 16, 1024]⟩
abbrev S1x1x6144 : Shape := ⟨3, ![1, 1, 6144]⟩
abbrev S1040x1024 : Shape := ⟨2, ![1040, 1024]⟩
abbrev S1024x2816 : Shape := ⟨2, ![1024, 2816]⟩
abbrev S1024x1024 : Shape := ⟨2, ![1024, 1024]⟩
abbrev S8x128x1024 : Shape := ⟨3, ![8, 128, 1024]⟩
abbrev S128x8x1024 : Shape := ⟨3, ![128, 8, 1024]⟩
abbrev S16x1024 : Shape := ⟨2, ![16, 1024]⟩
abbrev S1024x256 : Shape := ⟨2, ![1024, 256]⟩
abbrev S1040x256 : Shape := ⟨2, ![1040, 256]⟩
abbrev S3x256 : Shape := ⟨2, ![3, 256]⟩
abbrev S1x256 : Shape := ⟨2, ![1, 256]⟩
abbrev S7x256 : Shape := ⟨2, ![7, 256]⟩
abbrev S8x256 : Shape := ⟨2, ![8, 256]⟩
abbrev S1016x256 : Shape := ⟨2, ![1016, 256]⟩
abbrev S1x1x1024 : Shape := ⟨3, ![1, 1, 1024]⟩
abbrev S1024x1 : Shape := ⟨2, ![1024, 1]⟩

abbrev nBuf : Space → Nat
  | .hbm => 12
  | .vmem => 18
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x1x6144, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S32x2048x1024, .bf16⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x1x6144, .f32⟩
  | .local _ .vmem, ⟨9, _⟩ => ⟨S1x1x6144, .f32⟩
  | .local _ .vmem, ⟨10, _⟩ => ⟨S1024x5632, .bf16⟩
  | .local _ .vmem, ⟨11, _⟩ => ⟨S3x5632, .f32⟩
  | .local _ .vmem, ⟨12, _⟩ => ⟨S2816x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1040x1024, .bf16⟩
  | .local _ .vmem, ⟨17, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S32x2048x1024 : Shape := ⟨3, ![32, 2048, 1024]⟩
abbrev S32x1x6144 : Shape := ⟨3, ![32, 1, 6144]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S32x1x1024 : Shape := ⟨3, ![32, 1, 1024]⟩
abbrev S32x2048x5632 : Shape := ⟨3, ![32, 2048, 5632]⟩
abbrev S_ : Shape := ⟨0, ![]⟩
abbrev S32x2050x5632 : Shape := ⟨3, ![32, 2050, 5632]⟩
abbrev S1x5632 : Shape := ⟨2, ![1, 5632]⟩
abbrev S5632 : Shape := ⟨1, ![5632]⟩
abbrev S1x1x5632 : Shape := ⟨3, ![1, 1, 5632]⟩
abbrev S32x2048x2816 : Shape := ⟨3, ![32, 2048, 2816]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x1x6144, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x2048x5632, .f32⟩
  | .hbm, ⟨14, _⟩ => ⟨S_, .i32⟩
  | .hbm, ⟨15, _⟩ => ⟨S_, .f32⟩
  | .hbm, ⟨16, _⟩ => ⟨S32x2050x5632, .f32⟩
  | .hbm, ⟨17, _⟩ => ⟨S32x2048x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S32x2048x5632, .f32⟩
  | .hbm, ⟨22, _⟩ => ⟨S32x2048x5632, .f32⟩
  | .hbm, ⟨23, _⟩ => ⟨S32x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S32x2048x5632, .f32⟩
  | .hbm, ⟨28, _⟩ => ⟨S32x2048x5632, .f32⟩
  | .hbm, ⟨29, _⟩ => ⟨S32x2048x5632, .f32⟩
  | .hbm, ⟨30, _⟩ => ⟨S32x2048x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S32x2048x5632, .f32⟩
  | .hbm, ⟨35, _⟩ => ⟨S32x2048x5632, .f32⟩
  | .hbm, ⟨36, _⟩ => ⟨S32x2048x5632, .f32⟩
  | .hbm, ⟨37, _⟩ => ⟨S32x2048x2816, .f32⟩
  | .hbm, ⟨38, _⟩ => ⟨S32x2048x2816, .f32⟩
  | .hbm, ⟨39, _⟩ => ⟨S32x2048x2816, .f32⟩
  | .hbm, ⟨40, _⟩ => ⟨S32x2048x2816, .f32⟩
  | .hbm, ⟨41, _⟩ => ⟨S_, .f32⟩
  | .hbm, ⟨42, _⟩ => ⟨S32x2048x2816, .f32⟩
  | .hbm, ⟨43, _⟩ => ⟨S32x2048x2816, .f32⟩
  | .hbm, ⟨44, _⟩ => ⟨S_, .f32⟩
  | .hbm, ⟨45, _⟩ => ⟨S32x2048x2816, .f32⟩
  | .hbm, ⟨46, _⟩ => ⟨S32x2048x2816, .f32⟩
  | .hbm, ⟨47, _⟩ => ⟨S32x2048x2816, .f32⟩
  | .hbm, ⟨48, _⟩ => ⟨S32x2048x2816, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S32x2048x1024, .f32⟩
  | .hbm, ⟨53, _⟩ => ⟨S32x2048x1024, .f32⟩
  | .hbm, ⟨54, _⟩ => ⟨S_, .f32⟩
  | .hbm, ⟨55, _⟩ => ⟨S32x2048, .f32⟩
  | .hbm, ⟨56, _⟩ => ⟨S32x2048x1, .f32⟩
  | .hbm, ⟨57, _⟩ => ⟨S_, .f32⟩
  | .hbm, ⟨58, _⟩ => ⟨S32x2048x1, .f32⟩
  | .hbm, ⟨59, _⟩ => ⟨S32x2048x1, .f32⟩
  | .hbm, ⟨60, _⟩ => ⟨S_, .f32⟩
  | .hbm, ⟨61, _⟩ => ⟨S32x2048x1, .f32⟩
  | .hbm, ⟨62, _⟩ => ⟨S32x2048x1, .f32⟩
  | .hbm, ⟨63, _⟩ => ⟨S32x2048x1, .f32⟩
  | .hbm, ⟨64, _⟩ => ⟨S32x2048x1024, .f32⟩
  | .hbm, ⟨65, _⟩ => ⟨S32x2048x1024, .f32⟩
  | .hbm, ⟨66, _⟩ => ⟨S1x1x1024, .f32⟩
  | .hbm, ⟨67, _⟩ => ⟨S32x2048x1024, .f32⟩
  | .hbm, ⟨68, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_0 : Ref sig .tc := ⟨.hbm, 57, rfl⟩
abbrev main_v39 : Ref sig .tc := ⟨.hbm, 58, rfl⟩
abbrev main_v40 : Ref sig .tc := ⟨.hbm, 59, rfl⟩
abbrev main_cst_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Inner.lean ====
abbrev S32x2048x1024 : Shape := ⟨3, ![32, 2048, 1024]⟩
abbrev S32x1x6144 : Shape := ⟨3, ![32, 1, 6144]⟩
abbrev S1024x5632 : Shape := ⟨2, ![1024, 5632]⟩
abbrev S3x5632 : Shape := ⟨2, ![3, 5632]⟩
abbrev S2816x1024 : Shape := ⟨2, ![2816, 1024]⟩
abbrev S1x1024x1024 : Shape := ⟨3, ![1, 1024, 1024]⟩
abbrev S1x16x1024 : Shape := ⟨3, ![1, 16, 1024]⟩
abbrev S1x1x6144 : Shape := ⟨3, ![1, 1, 6144]⟩
abbrev S1040x1024 : Shape := ⟨2, ![1040, 1024]⟩
abbrev S1024x2816 : Shape := ⟨2, ![1024, 2816]⟩
abbrev S1024x1024 : Shape := ⟨2, ![1024, 1024]⟩
abbrev S8x128x1024 : Shape := ⟨3, ![8, 128, 1024]⟩
abbrev S128x8x1024 : Shape := ⟨3, ![128, 8, 1024]⟩
abbrev S16x1024 : Shape := ⟨2, ![16, 1024]⟩
abbrev S1x1024 : Shape := ⟨2, ![1, 1024]⟩
abbrev S1024x256 : Shape := ⟨2, ![1024, 256]⟩
abbrev S1040x256 : Shape := ⟨2, ![1040, 256]⟩
abbrev S3x256 : Shape := ⟨2, ![3, 256]⟩
abbrev S1x256 : Shape := ⟨2, ![1, 256]⟩
abbrev S7x256 : Shape := ⟨2, ![7, 256]⟩
abbrev S8x256 : Shape := ⟨2, ![8, 256]⟩
abbrev S1016x256 : Shape := ⟨2, ![1016, 256]⟩
abbrev S1x1x1024 : Shape := ⟨3, ![1, 1, 1024]⟩

abbrev nBuf : Space → Nat
  | .hbm => 10
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x1x6144, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S32x2048x1024, .bf16⟩
  | .hbm, ⟨7, _⟩ => ⟨S1024x5632, .bf16⟩
  | .hbm, ⟨8, _⟩ => ⟨S2816x1024, .bf16⟩
  | .hbm, ⟨9, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x1x6144, .f32⟩
  | .local _ .vmem, ⟨9, _⟩ => ⟨S1x1x6144, .f32⟩
  | .local _ .vmem, ⟨10, _⟩ => ⟨S1024x5632, .bf16⟩
  | .local _ .vmem, ⟨11, _⟩ => ⟨S3x5632, .f32⟩
  | .local _ .vmem, ⟨12, _⟩ => ⟨S2816x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1040x1024, .bf16⟩
  | .local _ .vmem, ⟨16, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InnerReferenceIdeal.lean ====
abbrev S32x2048x1024 : Shape := ⟨3, ![32, 2048, 1024]⟩
abbrev S32x1x6144 : Shape := ⟨3, ![32, 1, 6144]⟩
abbrev S1024x5632 : Shape := ⟨2, ![1024, 5632]⟩
abbrev S3x5632 : Shape := ⟨2, ![3, 5632]⟩
abbrev S2816x1024 : Shape := ⟨2, ![2816, 1024]⟩
abbrev S32x1x1024 : Shape := ⟨3, ![32, 1, 1024]⟩
abbrev S32x2048x5632 : Shape := ⟨3, ![32, 2048, 5632]⟩
abbrev S_ : Shape := ⟨0, ![]⟩
abbrev S32x2050x5632 : Shape := ⟨3, ![32, 2050, 5632]⟩
abbrev S1x5632 : Shape := ⟨2, ![1, 5632]⟩
abbrev S5632 : Shape := ⟨1, ![5632]⟩
abbrev S1x1x5632 : Shape := ⟨3, ![1, 1, 5632]⟩
abbrev S32x2048x2816 : Shape := ⟨3, ![32, 2048, 2816]⟩

abbrev nBuf : Space → Nat
  | .hbm => 52
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x1x6144, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x2048x5632, .f32⟩
  | .hbm, ⟨13, _⟩ => ⟨S_, .i32⟩
  | .hbm, ⟨14, _⟩ => ⟨S_, .f32⟩
  | .hbm, ⟨15, _⟩ => ⟨S32x2050x5632, .f32⟩
  | .hbm, ⟨16, _⟩ => ⟨S32x2048x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S32x2048x5632, .f32⟩
  | .hbm, ⟨21, _⟩ => ⟨S32x2048x5632, .f32⟩
  | .hbm, ⟨22, _⟩ => ⟨S32x2048x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S32x2048x5632, .f32⟩
  | .hbm, ⟨27, _⟩ => ⟨S32x2048x5632, .f32⟩
  | .hbm, ⟨28, _⟩ => ⟨S32x2048x5632, .f32⟩
  | .hbm, ⟨29, _⟩ => ⟨S32x2048x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S32x2048x5632, .f32⟩
  | .hbm, ⟨34, _⟩ => ⟨S32x2048x5632, .f32⟩
  | .hbm, ⟨35, _⟩ => ⟨S32x2048x5632, .f32⟩
  | .hbm, ⟨36, _⟩ => ⟨S32x2048x2816, .f32⟩
  | .hbm, ⟨37, _⟩ => ⟨S32x2048x2816, .f32⟩
  | .hbm, ⟨38, _⟩ => ⟨S32x2048x2816, .f32⟩
  | .hbm, ⟨39, _⟩ => ⟨S32x2048x2816, .f32⟩
  | .hbm, ⟨40, _⟩ => ⟨S_, .f32⟩
  | .hbm, ⟨41, _⟩ => ⟨S32x2048x2816, .f32⟩
  | .hbm, ⟨42, _⟩ => ⟨S32x2048x2816, .f32⟩
  | .hbm, ⟨43, _⟩ => ⟨S_, .f32⟩
  | .hbm, ⟨44, _⟩ => ⟨S32x2048x2816, .f32⟩
  | .hbm, ⟨45, _⟩ => ⟨S32x2048x2816, .f32⟩
  | .hbm, ⟨46, _⟩ => ⟨S32x2048x2816, .f32⟩
  | .hbm, ⟨47, _⟩ => ⟨S32x2048x2816, .f32⟩
  | .hbm, ⟨48, _⟩ => ⟨S32x2048x1024, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Mixers.lean ====
abbrev S32x256x3072 : Shape := ⟨3, ![32, 256, 3072]⟩
abbrev S2x8 : Shape := ⟨2, ![2, 8]⟩
abbrev S3x256 : Shape := ⟨2, ![3, 256]⟩
abbrev S_ : Shape := ⟨0, ![]⟩
abbrev S1x8 : Shape := ⟨2, ![1, 8]⟩
abbrev S8 : Shape := ⟨1, ![8]⟩
abbrev S128 : Shape := ⟨1, ![128]⟩
abbrev S8x64 : Shape := ⟨2, ![8, 64]⟩
abbrev S512 : Shape := ⟨1, ![512]⟩
abbrev S1x512 : Shape := ⟨2, ![1, 512]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S4x2x128x128 : Shape := ⟨4, ![4, 2, 128, 128]⟩
abbrev S128x512 : Shape := ⟨2, ![128, 512]⟩
abbrev S128x4x128 : Shape := ⟨3, ![128, 4, 128]⟩
abbrev S4x128x128 : Shape := ⟨3, ![4, 128, 128]⟩
abbrev S32x256x512 : Shape := ⟨3, ![32, 256, 512]⟩
abbrev S32x256x4x128 : Shape := ⟨4, ![32, 256, 4, 128]⟩
abbrev S32x4x256x128 : Shape := ⟨4, ![32, 4, 256, 128]⟩
abbrev S32x4x2x128x128 : Shape := ⟨5, ![32, 4, 2, 128, 128]⟩
abbrev S1x4x1x128x128 : Shape := ⟨5, ![1, 4, 1, 128, 128]⟩
abbrev S32x8x256x128 : Shape := ⟨4, ![32, 8, 256, 128]⟩
abbrev S32x256x256 : Shape := ⟨3, ![32, 256, 256]⟩
abbrev S32x256x2x128 : Shape := ⟨4, ![32, 256, 2, 128]⟩
abbrev S32x2x256x128 : Shape := ⟨4, ![32, 2, 256, 128]⟩
abbrev S32x4x128x128 : Shape := ⟨4, ![32, 4, 128, 128]⟩
abbrev S1x4x256x128 : Shape := ⟨4, ![1, 4, 256, 128]⟩
abbrev S1x8x256x128 : Shape := ⟨4, ![1, 8, 256, 128]⟩
abbrev S1x2x256x128 : Shape := ⟨4, ![1, 2, 256, 128]⟩
abbrev S1x4x128x128 : Shape := ⟨4, ![1, 4, 128, 128]⟩
abbrev S2x4x2x128x128 : Shape := ⟨5, ![2, 4, 2, 128, 128]⟩
abbrev S1x1x1x128x128 : Shape := ⟨5, ![1, 1, 1, 128, 128]⟩
abbrev S1x1x128x128 : Shape := ⟨4, ![1, 1, 128, 128]⟩
abbrev S256x128 : Shape := ⟨2, ![256, 128]⟩
abbrev S128x256 : Shape := ⟨2, ![128, 256]⟩
abbrev S1x1x16x128 : Shape := ⟨4, ![1, 1, 16, 128]⟩
abbrev S16x128 : Shape := ⟨2, ![16, 128]⟩
abbrev S16x256 : Shape := ⟨2, ![16, 256]⟩
abbrev S160x256 : Shape := ⟨2, ![160, 256]⟩
abbrev S1x256 : Shape := ⟨2, ![1, 256]⟩

abbrev nBuf : Space → Nat
  | .hbm => 167
  | .vmem => 29
  | .smem => 0
  | _ => 0

abbrev hbmTy0_0 (i : Nat) : BufTy := match i % 128 with
  | 0 => ⟨S32x256x3072, .f32⟩
  | 1 => ⟨S2x8, .f32⟩
  | 2 => ⟨S3x256, .f32⟩
  | 3 => ⟨S2x8, .f32⟩
  | 4 => ⟨S_, .f32⟩
  | 5 => ⟨S2x8, .f32⟩
  | 6 => ⟨S2x8, .f32⟩
  | 7 => ⟨S2x8, .f32⟩
  | 8 => ⟨S2x8, .f32⟩
  | 9 => ⟨S2x8, .i1⟩
  | 10 => ⟨S2x8, .f32⟩
  | 11 => ⟨S2x8, .f32⟩
  | 12 => ⟨S2x8, .f32⟩
  | 13 => ⟨S2x8, .f32⟩
  | 14 => ⟨S2x8, .f32⟩
  | 15 => ⟨S2x8, .f32⟩
  | 16 => ⟨S2x8, .f32⟩
  | 17 => ⟨S2x8, .f32⟩
  | 18 => ⟨S2x8, .f32⟩
  | 19 => ⟨S1x8, .f32⟩
  | 20 => ⟨S8, .f32⟩
  | 21 => ⟨S1x8, .f32⟩
  | 22 => ⟨S8, .f32⟩
  | 23 => ⟨S128, .f32⟩
  | 24 => ⟨S8x64, .f32⟩
  | 25 => ⟨S512, .f32⟩
  | 26 => ⟨S1x512, .f32⟩
  | 27 => ⟨S8x64, .f32⟩
  | 28 => ⟨S512, .f32⟩
  | 29 => ⟨S1x512, .f32⟩
  | 30 => ⟨S128x1, .f32⟩
  | 31 => ⟨S1x128, .f32⟩
  | 32 => ⟨S128x128, .f32⟩
  | 33 => ⟨S128x128, .f32⟩
  | 34 => ⟨S128x128, .f32⟩
  | 35 => ⟨S_, .f32⟩
  | 36 => ⟨S128x128, .f32⟩
  | 37 => ⟨S128x128, .i1⟩
  | 38 => ⟨S8x1x1, .f32⟩
  | 39 => ⟨S_, .f32⟩
  | 40 => ⟨S128x128, .f32⟩
  | 41 => ⟨S128x128, .f32⟩
  | 42 => ⟨S1x128x128, .f32⟩
  | 43 => ⟨S8x128x128, .f32⟩
  | 44 => ⟨S8x128x128, .f32⟩
  | 45 => ⟨S8x128x128, .f32⟩
  | 46 => ⟨S8x128x128, .f32⟩
  | 47 => ⟨S_, .f32⟩
  | 48 => ⟨S128x128, .f32⟩
  | 49 => ⟨S128x128, .i1⟩
  | 50 => ⟨S8x1x1, .f32⟩
  | 51 => ⟨S128x128, .f32⟩
  | 52 => ⟨S_, .f32⟩
  | 53 => ⟨S128x128, .f32⟩
  | 54 => ⟨S128x128, .f32⟩
  | 55 => ⟨S1x128x128, .f32⟩
  | 56 => ⟨S8x128x128, .f32⟩
  | 57 => ⟨S8x128x128, .f32⟩
  | 58 => ⟨S8x128x128, .f32⟩
  | 59 => ⟨S8x128x128, .f32⟩
  | 60 => ⟨S_, .f32⟩
  | 61 => ⟨S_, .f32⟩
  | 62 => ⟨S8x128x128, .i1⟩
  | 63 => ⟨S8x128x128, .f32⟩
  | 64 => ⟨S8x128x128, .f32⟩
  | 65 => ⟨S8x128x128, .i1⟩
  | 66 => ⟨S8x128x128, .f32⟩
  | 67 => ⟨S4x2x128x128, .f32⟩
  | 68 => ⟨S128x1, .f32⟩
  | 69 => ⟨S_, .f32⟩
  | 70 => ⟨S128x1, .f32⟩
  | 71 => ⟨S128x1, .f32⟩
  | 72 => ⟨S128x512, .f32⟩
  | 73 => ⟨S128x512, .f32⟩
  | 74 => ⟨S128x512, .f32⟩
  | 75 => ⟨S128x512, .f32⟩
  | 76 => ⟨S128x1, .f32⟩
  | 77 => ⟨S_, .f32⟩
  | 78 => ⟨S128x1, .f32⟩
  | 79 => ⟨S128x1, .f32⟩
  | 80 => ⟨S128x512, .f32⟩
  | 81 => ⟨S128x512, .f32⟩
  | 82 => ⟨S128x512, .f32⟩
  | 83 => ⟨S128x512, .f32⟩
  | 84 => ⟨S128x1, .f32⟩
  | 85 => ⟨S_, .f32⟩
  | 86 => ⟨S128x1, .f32⟩
  | 87 => ⟨S128x1, .f32⟩
  | 88 => ⟨S128x512, .f32⟩
  | 89 => ⟨S128x512, .f32⟩
  | 90 => ⟨S128x512, .f32⟩
  | 91 => ⟨S128x512, .f32⟩
  | 92 => ⟨S128x1, .f32⟩
  | 93 => ⟨S128x512, .f32⟩
  | 94 => ⟨S128x512, .f32⟩
  | 95 => ⟨S128x512, .f32⟩
  | 96 => ⟨S128x512, .f32⟩
  | 97 => ⟨S_, .f32⟩
  | 98 => ⟨S1x512, .f32⟩
  | 99 => ⟨S1x512, .f32⟩
  | 100 => ⟨S1x512, .f32⟩
  | 101 => ⟨S_, .f32⟩
  | 102 => ⟨S1x512, .f32⟩
  | 103 => ⟨S1x512, .f32⟩
  | 104 => ⟨S1x512, .f32⟩
  | 105 => ⟨S128x4x128, .f32⟩
  | 106 => ⟨S4x128x128, .f32⟩
  | 107 => ⟨S128x4x128, .f32⟩
  | 108 => ⟨S4x128x128, .f32⟩
  | 109 => ⟨S128x4x128, .f32⟩
  | 110 => ⟨S4x128x128, .f32⟩
  | 111 => ⟨S128x4x128, .f32⟩
  | 112 => ⟨S4x128x128, .f32⟩
  | 113 => ⟨S32x256x512, .f32⟩
  | 114 => ⟨S32x256x4x128, .f32⟩
  | 115 => ⟨S32x4x256x128, .f32⟩
  | 116 => ⟨S_, .f32⟩
  | 117 => ⟨S32x4x256x128, .f32⟩
  | 118 => ⟨S32x4x256x128, .f32⟩
  | 119 => ⟨S32x4x2x128x128, .f32⟩
  | 120 => ⟨S1x4x1x128x128, .f32⟩
  | 121 => ⟨S32x4x2x128x128, .f32⟩
  | 122 => ⟨S32x4x2x128x128, .f32⟩
  | 123 => ⟨S32x4x256x128, .f32⟩
  | 124 => ⟨S32x4x2x128x128, .f32⟩
  | 125 => ⟨S1x4x1x128x128, .f32⟩
  | 126 => ⟨S32x4x2x128x128, .f32⟩
  | 127 => ⟨S32x4x2x128x128, .f32⟩
  | _ => ⟨S32x256x3072, .f32⟩

abbrev hbmTy0_1 (i : Nat) : BufTy := match i % 128 with
  | 0 => ⟨S32x4x256x128, .f32⟩
  | 1 => ⟨S32x8x256x128, .f32⟩
  | 2 => ⟨S32x256x512, .f32⟩
  | 3 => ⟨S32x256x256, .f32⟩
  | 4 => ⟨S32x256x256, .f32⟩
  | 5 => ⟨S32x256x256, .f32⟩
  | 6 => ⟨S32x256x2x128, .f32⟩
  | 7 => ⟨S32x2x256x128, .f32⟩
  | 8 => ⟨S32x256x256, .f32⟩
  | 9 => ⟨S32x256x2x128, .f32⟩
  | 10 => ⟨S32x2x256x128, .f32⟩
  | 11 => ⟨S32x4x256x128, .f32⟩
  | 12 => ⟨S32x256x512, .f32⟩
  | 13 => ⟨S32x256x4x128, .f32⟩
  | 14 => ⟨S32x4x256x128, .f32⟩
  | 15 => ⟨S32x4x256x128, .bf16⟩
  | 16 => ⟨S32x4x256x128, .bf16⟩
  | 17 => ⟨S32x256x512, .f32⟩
  | 18 => ⟨S32x256x4x128, .f32⟩
  | 19 => ⟨S32x4x256x128, .f32⟩
  | 20 => ⟨S32x4x256x128, .bf16⟩
  | 21 => ⟨S32x256x512, .f32⟩
  | 22 => ⟨S32x256x512, .f32⟩
  | 23 => ⟨S_, .f32⟩
  | 24 => ⟨S32x256x512, .f32⟩
  | 25 => ⟨S32x256x512, .f32⟩
  | 26 => ⟨S_, .f32⟩
  | 27 => ⟨S32x256x512, .f32⟩
  | 28 => ⟨S32x256x512, .f32⟩
  | 29 => ⟨S32x256x512, .f32⟩
  | 30 => ⟨S32x256x4x128, .f32⟩
  | 31 => ⟨S32x4x256x128, .f32⟩
  | 32 => ⟨S32x4x256x128, .bf16⟩
  | 33 => ⟨S32x8x256x128, .bf16⟩
  | 34 => ⟨S32x4x256x128, .bf16⟩
  | 35 => ⟨S32x4x256x128, .bf16⟩
  | 36 => ⟨S32x2x256x128, .bf16⟩
  | 37 => ⟨S32x4x128x128, .f32⟩
  | 38 => ⟨S32x4x128x128, .f32⟩
  | _ => ⟨S32x256x3072, .f32⟩

abbrev hbmTy (i : Nat) : BufTy := match i / 128 with
  | 0 => hbmTy0_0 i
  | 1 => hbmTy0_1 i
  | _ => ⟨S32x256x3072, .f32⟩

abbrev bufTy : (tb : Table) → Fin (tcTables nBuf tb) → BufTy
  | .hbm, ⟨i, _⟩ => hbmTy i
  | .local _ .vmem, ⟨0, _⟩ => ⟨S1x4x256x128, .bf16⟩
  | .local _ .vmem, ⟨1, _⟩ => ⟨S1x4x256x128, .bf16⟩
  | .local _ .vmem, ⟨2, _⟩ => ⟨S1x4x256x128, .bf16⟩
  | .local _ .vmem, ⟨3, _⟩ => ⟨S1x4x256x128, .bf16⟩
  | .local _ .vmem, ⟨4, _⟩ => ⟨S1x4x256x128, .bf16⟩
  | .local _ .vmem, ⟨5, _⟩ => ⟨S1x4x256x128, .bf16⟩
  | .local _ .vmem, ⟨6, _⟩ => ⟨S1x4x256x128, .bf16⟩
  | .local _ .vmem, ⟨7, _⟩ => ⟨S1x4x256x128, .bf16⟩
  | .local _ .vmem, ⟨8, _⟩ => ⟨S1x8x256x128, .bf16⟩
  | .local _ .vmem, ⟨9, _⟩ => ⟨S1x8x256x128, .bf16⟩
  | .local _ .vmem, ⟨10, _⟩ => ⟨S1x4x256x128, .bf16⟩
  | .local _ .vmem, ⟨11, _⟩ => ⟨S1x4x256x128, .bf16⟩
  | .local _ .vmem, ⟨12, _⟩ => ⟨S4x2x128x128, .f32⟩
  | .local _ .vmem, ⟨13, _⟩ => ⟨S4x128x128, .f32⟩
  | .local _ .vmem, ⟨14, _⟩ => ⟨S4x128x128, .f32⟩
  | .local _ .vmem, ⟨15, _⟩ => ⟨S1x512, .f32⟩
  | .local _ .vmem, ⟨16, _⟩ => ⟨S1x512, .f32⟩
  | .local _ .vmem, ⟨17, _⟩ => ⟨S3x256, .f32⟩
  | .local _ .vmem, ⟨18, _⟩ => ⟨S1x4x256x128, .bf16⟩
  | .local _ .vmem, ⟨19, _⟩ => ⟨S1x4x256x128, .bf16⟩
  | .local _ .vmem, ⟨20, _⟩ => ⟨S1x2x256x128, .bf16⟩
  | .local _ .vmem, ⟨21, _⟩ => ⟨S1x2x256x128, .bf16⟩
  | .local _ .vmem, ⟨22, _⟩ => ⟨S1x4x128x128, .f32⟩
  | .local _ .vmem, ⟨23, _⟩ => ⟨S1x4x128x128, .f32⟩
  | .local _ .vmem, ⟨24, _⟩ => ⟨S1x4x128x128, .f32⟩
  | .local _ .vmem, ⟨25, _⟩ => ⟨S1x4x128x128, .f32⟩
  | .local _ .vmem, ⟨26, _⟩ => ⟨S4x128x128, .f32⟩
  | .local _ .vmem, ⟨27, _⟩ => ⟨S4x128x128, .f32⟩
  | .local _ .vmem, ⟨28, _⟩ => ⟨S2x4x2x128x128, .bf16⟩
  | _, _ => ⟨S32x256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_v1 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_1 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v38 : Ref sig .tc := ⟨.hbm, 64, rfl⟩
abbrev main_call2_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_6 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_7 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_8 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_9 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_10 : Ref sig .tc := ⟨.hbm, 151, rfl⟩
abbrev main_v118 : Ref sig .tc := ⟨.hbm, 152, rfl⟩
abbrev main_v119 : Ref sig .tc := ⟨.hbm, 153, rfl⟩
abbrev main_cst_11 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128_0 : Ref sig .tc := ⟨.hbm, 163, rfl⟩
abbrev main_v128_1 : Ref sig .tc := ⟨.hbm, 164, rfl⟩
abbrev main_v128_2 : Ref sig .tc := ⟨.hbm, 165, rfl⟩
abbrev main_v128_3 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c128_i32 : BitVec 32 := 128#32
  let v16 : BitVec 32 := Scalar.muli c0_i32 c128_i32
  v16
def k0_mult2 : BitVec 32 :=
  let c1_i32 : BitVec 32 := 1#32
  let c0_i32 : BitVec 32 := 0#32
  let v18 : BitVec 32 := Scalar.subi c1_i32 c0_i32
  let c128_i32_8 : BitVec 32 := 128#32
  let v19 : BitVec 32 := Scalar.muli v18 c128_i32_8
  v19
def k0_off1 (c0_i32 : BitVec 32) : Fin 5 → Nat :=
  let c1_i32 : BitVec 32 := 1#32
  let v18 : BitVec 32 := Scalar.subi c1_i32 c0_i32
  let v31 : Index := Scalar.indexCast v18
  let c0_19 : Index := 0#32
  let c1 : Index := 1#32
  let c0_20 : Index := 0#32
  let c0_21 : Index := 0#32
  ![v31.toNat, 0, 1, 0, 0]
def k0_off2 (c0_i32 : BitVec 32) : Fin 4 → Nat :=
  let c0_22 : Index := 0#32
  let c0_23 : Index := 0#32
  let c128_i32 : BitVec 32 := 128#32
  let v16 : BitVec 32 := Scalar.muli c0_i32 c128_i32
  let v17 : BitVec 32 := v16
  let v35 : Index := Scalar.indexCast v17
  let c0_24 : Index := 0#32
  ![0, 0, v35.toNat, 0]
def k0_off3 (c0_i32 : BitVec 32) : Fin 4 → Nat :=
  let c0_25 : Index := 0#32
  let c0_26 : Index := 0#32
  let c128_i32 : BitVec 32 := 128#32
  let v16 : BitVec 32 := Scalar.muli c0_i32 c128_i32
  let v17 : BitVec 32 := v16
  let v38 : Index := Scalar.indexCast v17
  let c0_27 : Index := 0#32
  ![0, 0, v38.toNat, 0]
def k0_off4 (c0_i32 : BitVec 32) : Fin 4 → Nat :=
  let c0_38 : Index := 0#32
  let c4 : Index := 4#32
  let c1_i32 : BitVec 32 := 1#32
  let v18 : BitVec 32 := Scalar.subi c1_i32 c0_i32
  let c128_i32_8 : BitVec 32 := 128#32
  let v19 : BitVec 32 := Scalar.muli v18 c128_i32_8
  let v20 : BitVec 32 := v19
  let v54 : Index := Scalar.indexCast v20
  let c0_39 : Index := 0#32
  ![0, 4, v54.toNat, 0]
def k0_off5 (c0_i32 : BitVec 32) : Fin 4 → Nat :=
  let c0_40 : Index := 0#32
  let c0_41 : Index := 0#32
  let c1_i32 : BitVec 32 := 1#32
  let v18 : BitVec 32 := Scalar.subi c1_i32 c0_i32
  let c128_i32_8 : BitVec 32 := 128#32
  let v19 : BitVec 32 := Scalar.muli v18 c128_i32_8
  let v20 : BitVec 32 := v19
  let v57 : Index := Scalar.indexCast v20
  let c0_42 : Index := 0#32
  ![0, 0, v57.toNat, 0]
def k0_off6 (c0_i32 : BitVec 32) : Fin 5 → Nat :=
  let c1_i32 : BitVec 32 := 1#32
  let v18 : BitVec 32 := Scalar.subi c1_i32 c0_i32
  let v83 : Index := Scalar.indexCast v18
  let c1_63 : Index := 1#32
  let c1_64 : Index := 1#32
  let c0_65 : Index := 0#32
  let c0_66 : Index := 0#32
  ![v83.toNat, 1, 1, 0, 0]
def k0_off7 (c0_i32 : BitVec 32) : Fin 4 → Nat :=
  let c0_67 : Index := 0#32
  let c1_68 : Index := 1#32
  let c128_i32 : BitVec 32 := 128#32
  let v16 : BitVec 32 := Scalar.muli c0_i32 c128_i32
  let v17 : BitVec 32 := v16
  let v87 : Index := Scalar.indexCast v17
  let c0_69 : Index := 0#32
  ![0, 1, v87.toNat, 0]
def k0_off8 (c0_i32 : BitVec 32) : Fin 4 → Nat :=
  let c0_70 : Index := 0#32
  let c1_71 : Index := 1#32
  let c128_i32 : BitVec 32 := 128#32
  let v16 : BitVec 32 := Scalar.muli c0_i32 c128_i32
  let v17 : BitVec 32 := v16
  let v90 : Index := Scalar.indexCast v17
  let c0_72 : Index := 0#32
  ![0, 1, v90.toNat, 0]
def k0_off9 (c0_i32 : BitVec 32) : Fin 4 → Nat :=
  let c0_82 : Index := 0#32
  let c5 : Index := 5#32
  let c1_i32 : BitVec 32 := 1#32
  let v18 : BitVec 32 := Scalar.subi c1_i32 c0_i32
  let c128_i32_8 : BitVec 32 := 128#32
  let v19 : BitVec 32 := Scalar.muli v18 c128_i32_8
  let v20 : BitVec 32 := v19
  let v106 : Index := Scalar.indexCast v20
  let c0_83 : Index := 0#32
  ![0, 5, v106.toNat, 0]
def k0_off10 (c0_i32 : BitVec 32) : Fin 4 → Nat :=
  let c0_84 : Index := 0#32
  let c1_85 : Index := 1#32
  let c1_i32 : BitVec 32 := 1#32
  let v18 : BitVec 32 := Scalar.subi c1_i32 c0_i32
  let c128_i32_8 : BitVec 32 := 128#32
  let v19 : BitVec 32 := Scalar.muli v18 c128_i32_8
  let v20 : BitVec 32 := v19
  let v109 : Index := Scalar.indexCast v20
  let c0_86 : Index := 0#32
  ![0, 1, v109.toNat, 0]
def k0_off11 (c0_i32 : BitVec 32) : Fin 5 → Nat :=
  let c1_i32 : BitVec 32 := 1#32
  let v18 : BitVec 32 := Scalar.subi c1_i32 c0_i32
  let v135 : Index := Scalar.indexCast v18
  let c2_106 : Index := 2#32
  let c1_107 : Index := 1#32
  let c0_108 : Index := 0#32
  let c0_109 : Index := 0#32
  ![v135.toNat, 2, 1, 0, 0]
def k0_off12 (c0_i32 : BitVec 32) : Fin 4 → Nat :=
  let c0_110 : Index := 0#32
  let c2_111 : Index := 2#32
  let c128_i32 : BitVec 32 := 128#32
  let v16 : BitVec 32 := Scalar.muli c0_i32 c128_i32
  let v17 : BitVec 32 := v16
  let v139 : Index := Scalar.indexCast v17
  let c0_112 : Index := 0#32
  ![0, 2, v139.toNat, 0]
def k0_off13 (c0_i32 : BitVec 32) : Fin 4 → Nat :=
  let c0_113 : Index := 0#32
  let c2_114 : Index := 2#32
  let c128_i32 : BitVec 32 := 128#32
  let v16 : BitVec 32 := Scalar.muli c0_i32 c128_i32
  let v17 : BitVec 32 := v16
  let v142 : Index := Scalar.indexCast v17
  let c0_115 : Index := 0#32
  ![0, 2, v142.toNat, 0]
def k0_off14 (c0_i32 : BitVec 32) : Fin 4 → Nat :=
  let c0_125 : Index := 0#32
  let c6 : Index := 6#32
  let c1_i32 : BitVec 32 := 1#32
  let v18 : BitVec 32 := Scalar.subi c1_i32 c0_i32
  let c128_i32_8 : BitVec 32 := 128#32
  let v19 : BitVec 32 := Scalar.muli v18 c128_i32_8
  let v20 : BitVec 32 := v19
  let v158 : Index := Scalar.indexCast v20
  let c0_126 : Index := 0#32
  ![0, 6, v158.toNat, 0]
def k0_off15 (c0_i32 : BitVec 32) : Fin 4 → Nat :=
  let c0_127 : Index := 0#32
  let c2_128 : Index := 2#32
  let c1_i32 : BitVec 32 := 1#32
  let v18 : BitVec 32 := Scalar.subi c1_i32 c0_i32
  let c128_i32_8 : BitVec 32 := 128#32
  let v19 : BitVec 32 := Scalar.muli v18 c128_i32_8
  let v20 : BitVec 32 := v19
  let v161 : Index := Scalar.indexCast v20
  let c0_129 : Index := 0#32
  ![0, 2, v161.toNat, 0]
def k0_off16 (c0_i32 : BitVec 32) : Fin 5 → Nat :=
  let c1_i32 : BitVec 32 := 1#32
  let v18 : BitVec 32 := Scalar.subi c1_i32 c0_i32
  let v187 : Index := Scalar.indexCast v18
  let c3_149 : Index := 3#32
  let c1_150 : Index := 1#32
  let c0_151 : Index := 0#32
  let c0_152 : Index := 0#32
  ![v187.toNat, 3, 1, 0, 0]
def k0_off17 (c0_i32 : BitVec 32) : Fin 4 → Nat :=
  let c0_153 : Index := 0#32
  let c3_154 : Index := 3#32
  let c128_i32 : BitVec 32 := 128#32
  let v16 : BitVec 32 := Scalar.muli c0_i32 c128_i32
  let v17 : BitVec 32 := v16
  let v191 : Index := Scalar.indexCast v17
  let c0_155 : Index := 0#32
  ![0, 3, v191.toNat, 0]
def k0_off18 (c0_i32 : BitVec 32) : Fin 4 → Nat :=
  let c0_156 : Index := 0#32
  let c3_157 : Index := 3#32
  let c128_i32 : BitVec 32 := 128#32
  let v16 : BitVec 32 := Scalar.muli c0_i32 c128_i32
  let v17 : BitVec 32 := v16
  let v194 : Index := Scalar.indexCast v17
  let c0_158 : Index := 0#32
  ![0, 3, v194.toNat, 0]
def k0_off19 (c0_i32 : BitVec 32) : Fin 4 → Nat :=
  let c0_168 : Index := 0#32
  let c7 : Index := 7#32
  let c1_i32 : BitVec 32 := 1#32
  let v18 : BitVec 32 := Scalar.subi c1_i32 c0_i32
  let c128_i32_8 : BitVec 32 := 128#32
  let v19 : BitVec 32 := Scalar.muli v18 c128_i32_8
  let v20 : BitVec 32 := v19
  let v210 : Index := Scalar.indexCast v20
  let c0_169 : Index := 0#32
  ![0, 7, v210.toNat, 0]
def k0_off20 (c0_i32 : BitVec 32) : Fin 4 → Nat :=
  let c0_170 : Index := 0#32
  let c3_171 : Index := 3#32
  let c1_i32 : BitVec 32 := 1#32
  let v18 : BitVec 32 := Scalar.subi c1_i32 c0_i32
  let c128_i32_8 : BitVec 32 := 128#32
  let v19 : BitVec 32 := Scalar.muli v18 c128_i32_8
  let v20 : BitVec 32 := v19
  let v213 : Index := Scalar.indexCast v20
  let c0_172 : Index := 0#32
  ![0, 3, v213.toNat, 0]
def k0_mult3 : BitVec 32 :=
  let c1_i32_183 : BitVec 32 := 1#32
  let c128_i32_184 : BitVec 32 := 128#32
  let v229 : BitVec 32 := Scalar.muli c1_i32_183 c128_i32_184
  v229
def k0_mult4 : BitVec 32 :=
  let c1_i32_185 : BitVec 32 := 1#32
  let c1_i32_183 : BitVec 32 := 1#32
  let v231 : BitVec 32 := Scalar.subi c1_i32_185 c1_i32_183
  let c128_i32_186 : BitVec 32 := 128#32
  let v232 : BitVec 32 := Scalar.muli v231 c128_i32_186
  v232
def k0_mult5 : BitVec 32 :=
  let c0_i32_396 : BitVec 32 := 0#32
  let c128_i32_397 : BitVec 32 := 128#32
  let v468 : BitVec 32 := Scalar.muli c0_i32_396 c128_i32_397
  v468
def k0_mult6 : BitVec 32 :=
  let c0_i32_396 : BitVec 32 := 0#32
  let c128_i32_397 : BitVec 32 := 128#32
  let v468 : BitVec 32 := Scalar.muli c0_i32_396 c128_i32_397
  let v469 : BitVec 32 := v468
  let c16_i32 : BitVec 32 := 16#32
  let v778 : BitVec 32 := Scalar.subi v469 c16_i32
  let c0_i32_570 : BitVec 32 := 0#32
  let v779 : BitVec 32 := Scalar.maxsi v778 c0_i32_570
  v779
def k0_mult7 : BitVec 32 :=
  let c0_i32_396 : BitVec 32 := 0#32
  let c128_i32_397 : BitVec 32 := 128#32
  let v468 : BitVec 32 := Scalar.muli c0_i32_396 c128_i32_397
  let v469 : BitVec 32 := v468
  let c128_i32_571 : BitVec 32 := 128#32
  let v781 : BitVec 32 := Scalar.addi v469 c128_i32_571
  let c240_i32 : BitVec 32 := 240#32
  let v782 : BitVec 32 := Scalar.minsi v781 c240_i32
  v782
def k0_off21 (c0_i32_396 : BitVec 32) : Fin 4 → Nat :=
  let c0_573 : Index := 0#32
  let c2_574 : Index := 2#32
  let c128_i32_397 : BitVec 32 := 128#32
  let v468 : BitVec 32 := Scalar.muli c0_i32_396 c128_i32_397
  let v469 : BitVec 32 := v468
  let c16_i32 : BitVec 32 := 16#32
  let v778 : BitVec 32 := Scalar.subi v469 c16_i32
  let c0_i32_570 : BitVec 32 := 0#32
  let v779 : BitVec 32 := Scalar.maxsi v778 c0_i32_570
  let v780 : BitVec 32 := v779
  let v785 : Index := Scalar.indexCast v780
  let c0_575 : Index := 0#32
  ![0, 2, v785.toNat, 0]
def k0_off22 (c0_i32_396 : BitVec 32) : Fin 4 → Nat :=
  let c0_576 : Index := 0#32
  let c3_577 : Index := 3#32
  let c128_i32_397 : BitVec 32 := 128#32
  let v468 : BitVec 32 := Scalar.muli c0_i32_396 c128_i32_397
  let v469 : BitVec 32 := v468
  let c16_i32 : BitVec 32 := 16#32
  let v778 : BitVec 32 := Scalar.subi v469 c16_i32
  let c0_i32_570 : BitVec 32 := 0#32
  let v779 : BitVec 32 := Scalar.maxsi v778 c0_i32_570
  let v780 : BitVec 32 := v779
  let v788 : Index := Scalar.indexCast v780
  let c0_578 : Index := 0#32
  ![0, 3, v788.toNat, 0]
def k0_off23 (c0_i32_396 : BitVec 32) : Fin 4 → Nat :=
  let c0_581 : Index := 0#32
  let c2_582 : Index := 2#32
  let c128_i32_397 : BitVec 32 := 128#32
  let v468 : BitVec 32 := Scalar.muli c0_i32_396 c128_i32_397
  let v469 : BitVec 32 := v468
  let c128_i32_571 : BitVec 32 := 128#32
  let v781 : BitVec 32 := Scalar.addi v469 c128_i32_571
  let c240_i32 : BitVec 32 := 240#32
  let v782 : BitVec 32 := Scalar.minsi v781 c240_i32
  let v783 : BitVec 32 := v782
  let v796 : Index := Scalar.indexCast v783
  let c0_583 : Index := 0#32
  ![0, 2, v796.toNat, 0]
def k0_off24 (c0_i32_396 : BitVec 32) : Fin 4 → Nat :=
  let c0_584 : Index := 0#32
  let c3_585 : Index := 3#32
  let c128_i32_397 : BitVec 32 := 128#32
  let v468 : BitVec 32 := Scalar.muli c0_i32_396 c128_i32_397
  let v469 : BitVec 32 := v468
  let c128_i32_571 : BitVec 32 := 128#32
  let v781 : BitVec 32 := Scalar.addi v469 c128_i32_571
  let c240_i32 : BitVec 32 := 240#32
  let v782 : BitVec 32 := Scalar.minsi v781 c240_i32
  let v783 : BitVec 32 := v782
  let v799 : Index := Scalar.indexCast v783
  let c0_586 : Index := 0#32
  ![0, 3, v799.toNat, 0]
def k0_off25 (c0_i32_396 : BitVec 32) : Fin 4 → Nat :=
  let c0_600 : Index := 0#32
  let c0_601 : Index := 0#32
  let c128_i32_397 : BitVec 32 := 128#32
  let v468 : BitVec 32 := Scalar.muli c0_i32_396 c128_i32_397
  let v469 : BitVec 32 := v468
  let v839 : Index := Scalar.indexCast v469
  let c0_602 : Index := 0#32
  ![0, 0, v839.toNat, 0]
def k0_off26 (c0_i32_396 : BitVec 32) : Fin 4 → Nat :=
  let c0_603 : Index := 0#32
  let c1_604 : Index := 1#32
  let c128_i32_397 : BitVec 32 := 128#32
  let v468 : BitVec 32 := Scalar.muli c0_i32_396 c128_i32_397
  let v469 : BitVec 32 := v468
  let v844 : Index := Scalar.indexCast v469
  let c0_605 : Index := 0#32
  ![0, 1, v844.toNat, 0]
def k0_mult8 : BitVec 32 :=
  let c1_i32_606 : BitVec 32 := 1#32
  let c128_i32_607 : BitVec 32 := 128#32
  let v848 : BitVec 32 := Scalar.muli c1_i32_606 c128_i32_607
  v848
def k0_mult9 : BitVec 32 :=
  let c1_i32_606 : BitVec 32 := 1#32
  let c128_i32_607 : BitVec 32 := 128#32
  let v848 : BitVec 32 := Scalar.muli c1_i32_606 c128_i32_607
  let v849 : BitVec 32 := v848
  let c16_i32_780 : BitVec 32 := 16#32
  let v1158 : BitVec 32 := Scalar.subi v849 c16_i32_780
  let c0_i32_781 : BitVec 32 := 0#32
  let v1159 : BitVec 32 := Scalar.maxsi v1158 c0_i32_781
  v1159
def k0_mult10 : BitVec 32 :=
  let c1_i32_606 : BitVec 32 := 1#32
  let c128_i32_607 : BitVec 32 := 128#32
  let v848 : BitVec 32 := Scalar.muli c1_i32_606 c128_i32_607
  let v849 : BitVec 32 := v848
  let c128_i32_782 : BitVec 32 := 128#32
  let v1161 : BitVec 32 := Scalar.addi v849 c128_i32_782
  let c240_i32_783 : BitVec 32 := 240#32
  let v1162 : BitVec 32 := Scalar.minsi v1161 c240_i32_783
  v1162
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x2x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixersReferenceIdeal.lean ====
abbrev S32x256x3072 : Shape := ⟨3, ![32, 256, 3072]⟩
abbrev S2x8 : Shape := ⟨2, ![2, 8]⟩
abbrev S3x256 : Shape := ⟨2, ![3, 256]⟩
abbrev S_ : Shape := ⟨0, ![]⟩
abbrev S32x8x64x64 : Shape := ⟨4, ![32, 8, 64, 64]⟩
abbrev S1x8 : Shape := ⟨2, ![1, 8]⟩
abbrev S8 : Shape := ⟨1, ![8]⟩
abbrev S32x256x512 : Shape := ⟨3, ![32, 256, 512]⟩
abbrev S32x256x8x64 : Shape := ⟨4, ![32, 256, 8, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S32x2x128x8x64 : Shape := ⟨5, ![32, 2, 128, 8, 64]⟩
abbrev S32x2x8x128x128 : Shape := ⟨5, ![32, 2, 8, 128, 128]⟩
abbrev S1x1x8x128x128 : Shape := ⟨5, ![1, 1, 8, 128, 128]⟩
abbrev S32x2x8x64x128 : Shape := ⟨5, ![32, 2, 8, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2x32x8x64x64 : Shape := ⟨5, ![2, 32, 8, 64, 64]⟩
abbrev S1x8x1x1 : Shape := ⟨4, ![1, 8, 1, 1]⟩
abbrev S1x32x8x64x64 : Shape := ⟨5, ![1, 32, 8, 64, 64]⟩
abbrev S32x256x8 : Shape := ⟨3, ![32, 256, 8]⟩
abbrev S32x256x8x1 : Shape := ⟨4, ![32, 256, 8, 1]⟩
abbrev S32x256x256 : Shape := ⟨3, ![32, 256, 256]⟩
abbrev S32x258x256 : Shape := ⟨3, ![32, 258, 256]⟩
abbrev S1x256 : Shape := ⟨2, ![1, 256]⟩
abbrev S256 : Shape := ⟨1, ![256]⟩
abbrev S1x1x256 : Shape := ⟨3, ![1, 1, 256]⟩
abbrev S32x256x4x128 : Shape := ⟨4, ![32, 256, 4, 128]⟩
abbrev S32x4x256x128 : Shape := ⟨4, ![32, 4, 256, 128]⟩
abbrev S32x256x2x128 : Shape := ⟨4, ![32, 256, 2, 128]⟩
abbrev S32x2x256x128 : Shape := ⟨4, ![32, 2, 256, 128]⟩
abbrev S32x4x2x64x64 : Shape := ⟨5, ![32, 4, 2, 64, 64]⟩
abbrev S32x4x1x64x64 : Shape := ⟨5, ![32, 4, 1, 64, 64]⟩
abbrev S32x4x64x64 : Shape := ⟨4, ![32, 4, 64, 64]⟩
abbrev S32x4x128x128 : Shape := ⟨4, ![32, 4, 128, 128]⟩

abbrev nBuf : Space → Nat
  | .hbm => 292
  | .vmem => 0
  | .smem => 0
  | _ => 0

abbrev hbmTy0_0 (i : Nat) : BufTy := match i % 128 with
  | 0 => ⟨S32x256x3072, .f32⟩
  | 1 => ⟨S2x8, .f32⟩
  | 2 => ⟨S3x256, .f32⟩
  | 3 => ⟨S_, .f32⟩
  | 4 => ⟨S32x8x64x64, .f32⟩
  | 5 => ⟨S2x8, .f32⟩
  | 6 => ⟨S_, .f32⟩
  | 7 => ⟨S2x8, .f32⟩
  | 8 => ⟨S2x8, .f32⟩
  | 9 => ⟨S2x8, .f32⟩
  | 10 => ⟨S2x8, .f32⟩
  | 11 => ⟨S2x8, .i1⟩
  | 12 => ⟨S2x8, .f32⟩
  | 13 => ⟨S2x8, .f32⟩
  | 14 => ⟨S2x8, .f32⟩
  | 15 => ⟨S2x8, .f32⟩
  | 16 => ⟨S2x8, .f32⟩
  | 17 => ⟨S2x8, .f32⟩
  | 18 => ⟨S2x8, .f32⟩
  | 19 => ⟨S2x8, .f32⟩
  | 20 => ⟨S2x8, .f32⟩
  | 21 => ⟨S1x8, .f32⟩
  | 22 => ⟨S8, .f32⟩
  | 23 => ⟨S1x8, .f32⟩
  | 24 => ⟨S8, .f32⟩
  | 25 => ⟨S32x256x512, .f32⟩
  | 26 => ⟨S32x256x8x64, .f32⟩
  | 27 => ⟨S32x256x512, .f32⟩
  | 28 => ⟨S32x256x8x64, .f32⟩
  | 29 => ⟨S_, .f32⟩
  | 30 => ⟨S32x256x8x64, .f32⟩
  | 31 => ⟨S32x256x8x64, .f32⟩
  | 32 => ⟨S32x256x512, .f32⟩
  | 33 => ⟨S32x256x8x64, .f32⟩
  | 34 => ⟨S128, .f32⟩
  | 35 => ⟨S128x1, .f32⟩
  | 36 => ⟨S1x128, .f32⟩
  | 37 => ⟨S128x128, .f32⟩
  | 38 => ⟨S128x128, .f32⟩
  | 39 => ⟨S128x128, .f32⟩
  | 40 => ⟨S_, .f32⟩
  | 41 => ⟨S128x128, .f32⟩
  | 42 => ⟨S128x128, .i1⟩
  | 43 => ⟨S8x1x1, .f32⟩
  | 44 => ⟨S_, .f32⟩
  | 45 => ⟨S128x128, .f32⟩
  | 46 => ⟨S128x128, .f32⟩
  | 47 => ⟨S1x128x128, .f32⟩
  | 48 => ⟨S8x128x128, .f32⟩
  | 49 => ⟨S8x128x128, .f32⟩
  | 50 => ⟨S8x128x128, .f32⟩
  | 51 => ⟨S8x128x128, .f32⟩
  | 52 => ⟨S_, .f32⟩
  | 53 => ⟨S_, .f32⟩
  | 54 => ⟨S8x128x128, .i1⟩
  | 55 => ⟨S8x128x128, .f32⟩
  | 56 => ⟨S8x128x128, .f32⟩
  | 57 => ⟨S8x1, .f32⟩
  | 58 => ⟨S_, .f32⟩
  | 59 => ⟨S128, .f32⟩
  | 60 => ⟨S128, .f32⟩
  | 61 => ⟨S1x128, .f32⟩
  | 62 => ⟨S8x128, .f32⟩
  | 63 => ⟨S8x128, .f32⟩
  | 64 => ⟨S8x128, .f32⟩
  | 65 => ⟨S8x128, .f32⟩
  | 66 => ⟨S32x2x128x8x64, .f32⟩
  | 67 => ⟨S32x2x128x8x64, .f32⟩
  | 68 => ⟨S32x2x128x8x64, .f32⟩
  | 69 => ⟨S32x2x8x128x128, .f32⟩
  | 70 => ⟨S1x1x8x128x128, .f32⟩
  | 71 => ⟨S32x2x8x128x128, .f32⟩
  | 72 => ⟨S32x2x8x128x128, .f32⟩
  | 73 => ⟨S32x2x8x64x128, .f32⟩
  | 74 => ⟨S32x2x128x8x64, .f32⟩
  | 75 => ⟨S128, .f32⟩
  | 76 => ⟨S8x1, .f32⟩
  | 77 => ⟨S_, .f32⟩
  | 78 => ⟨S128, .f32⟩
  | 79 => ⟨S128, .f32⟩
  | 80 => ⟨S1x128, .f32⟩
  | 81 => ⟨S8x128, .f32⟩
  | 82 => ⟨S8x128, .f32⟩
  | 83 => ⟨S8x128, .f32⟩
  | 84 => ⟨S8x128, .f32⟩
  | 85 => ⟨S_, .f32⟩
  | 86 => ⟨S8, .f32⟩
  | 87 => ⟨S8, .f32⟩
  | 88 => ⟨S8, .f32⟩
  | 89 => ⟨S128x8, .f32⟩
  | 90 => ⟨S128x8x1, .f32⟩
  | 91 => ⟨S1x1x128x8x1, .f32⟩
  | 92 => ⟨S32x2x128x8x64, .f32⟩
  | 93 => ⟨S32x2x128x8x64, .f32⟩
  | 94 => ⟨S2x32x8x64x64, .f32⟩
  | 95 => ⟨S1x8x1x1, .f32⟩
  | 96 => ⟨S32x8x64x64, .f32⟩
  | 97 => ⟨S32x8x64x64, .f32⟩
  | 98 => ⟨S1x32x8x64x64, .f32⟩
  | 99 => ⟨S32x8x64x64, .f32⟩
  | 100 => ⟨S32x8x64x64, .f32⟩
  | 101 => ⟨S1x8x1x1, .f32⟩
  | 102 => ⟨S32x8x64x64, .f32⟩
  | 103 => ⟨S32x8x64x64, .f32⟩
  | 104 => ⟨S1x32x8x64x64, .f32⟩
  | 105 => ⟨S32x8x64x64, .f32⟩
  | 106 => ⟨S32x8x64x64, .f32⟩
  | 107 => ⟨S1x32x8x64x64, .f32⟩
  | 108 => ⟨S1x32x8x64x64, .f32⟩
  | 109 => ⟨S2x32x8x64x64, .f32⟩
  | 110 => ⟨S32x2x8x64x128, .f32⟩
  | 111 => ⟨S32x2x128x8x64, .f32⟩
  | 112 => ⟨S128x8, .f32⟩
  | 113 => ⟨S128x8x1, .f32⟩
  | 114 => ⟨S1x1x128x8x1, .f32⟩
  | 115 => ⟨S32x2x128x8x64, .f32⟩
  | 116 => ⟨S32x2x128x8x64, .f32⟩
  | 117 => ⟨S32x2x128x8x64, .f32⟩
  | 118 => ⟨S32x256x8x64, .f32⟩
  | 119 => ⟨S32x256x8x64, .f32⟩
  | 120 => ⟨S32x256x8x64, .f32⟩
  | 121 => ⟨S32x256x8x64, .f32⟩
  | 122 => ⟨S128, .f32⟩
  | 123 => ⟨S128x1, .f32⟩
  | 124 => ⟨S1x128, .f32⟩
  | 125 => ⟨S128x128, .f32⟩
  | 126 => ⟨S128x128, .f32⟩
  | 127 => ⟨S128x128, .f32⟩
  | _ => ⟨S32x256x3072, .f32⟩

abbrev hbmTy0_1 (i : Nat) : BufTy := match i % 128 with
  | 0 => ⟨S_, .f32⟩
  | 1 => ⟨S128x128, .f32⟩
  | 2 => ⟨S128x128, .i1⟩
  | 3 => ⟨S8x1x1, .f32⟩
  | 4 => ⟨S_, .f32⟩
  | 5 => ⟨S128x128, .f32⟩
  | 6 => ⟨S128x128, .f32⟩
  | 7 => ⟨S1x128x128, .f32⟩
  | 8 => ⟨S8x128x128, .f32⟩
  | 9 => ⟨S8x128x128, .f32⟩
  | 10 => ⟨S8x128x128, .f32⟩
  | 11 => ⟨S8x128x128, .f32⟩
  | 12 => ⟨S_, .f32⟩
  | 13 => ⟨S_, .f32⟩
  | 14 => ⟨S8x128x128, .i1⟩
  | 15 => ⟨S8x128x128, .f32⟩
  | 16 => ⟨S8x128x128, .f32⟩
  | 17 => ⟨S8x1, .f32⟩
  | 18 => ⟨S_, .f32⟩
  | 19 => ⟨S128, .f32⟩
  | 20 => ⟨S128, .f32⟩
  | 21 => ⟨S1x128, .f32⟩
  | 22 => ⟨S8x128, .f32⟩
  | 23 => ⟨S8x128, .f32⟩
  | 24 => ⟨S8x128, .f32⟩
  | 25 => ⟨S8x128, .f32⟩
  | 26 => ⟨S32x2x128x8x64, .f32⟩
  | 27 => ⟨S32x2x128x8x64, .f32⟩
  | 28 => ⟨S32x2x128x8x64, .f32⟩
  | 29 => ⟨S32x2x8x128x128, .f32⟩
  | 30 => ⟨S1x1x8x128x128, .f32⟩
  | 31 => ⟨S32x2x8x128x128, .f32⟩
  | 32 => ⟨S32x2x8x128x128, .f32⟩
  | 33 => ⟨S32x2x8x64x128, .f32⟩
  | 34 => ⟨S32x2x128x8x64, .f32⟩
  | 35 => ⟨S128, .f32⟩
  | 36 => ⟨S8x1, .f32⟩
  | 37 => ⟨S_, .f32⟩
  | 38 => ⟨S128, .f32⟩
  | 39 => ⟨S128, .f32⟩
  | 40 => ⟨S1x128, .f32⟩
  | 41 => ⟨S8x128, .f32⟩
  | 42 => ⟨S8x128, .f32⟩
  | 43 => ⟨S8x128, .f32⟩
  | 44 => ⟨S8x128, .f32⟩
  | 45 => ⟨S_, .f32⟩
  | 46 => ⟨S8, .f32⟩
  | 47 => ⟨S8, .f32⟩
  | 48 => ⟨S8, .f32⟩
  | 49 => ⟨S128x8, .f32⟩
  | 50 => ⟨S128x8x1, .f32⟩
  | 51 => ⟨S1x1x128x8x1, .f32⟩
  | 52 => ⟨S32x2x128x8x64, .f32⟩
  | 53 => ⟨S32x2x128x8x64, .f32⟩
  | 54 => ⟨S2x32x8x64x64, .f32⟩
  | 55 => ⟨S1x8x1x1, .f32⟩
  | 56 => ⟨S32x8x64x64, .f32⟩
  | 57 => ⟨S32x8x64x64, .f32⟩
  | 58 => ⟨S1x32x8x64x64, .f32⟩
  | 59 => ⟨S32x8x64x64, .f32⟩
  | 60 => ⟨S32x8x64x64, .f32⟩
  | 61 => ⟨S1x8x1x1, .f32⟩
  | 62 => ⟨S32x8x64x64, .f32⟩
  | 63 => ⟨S32x8x64x64, .f32⟩
  | 64 => ⟨S1x32x8x64x64, .f32⟩
  | 65 => ⟨S32x8x64x64, .f32⟩
  | 66 => ⟨S32x8x64x64, .f32⟩
  | 67 => ⟨S1x32x8x64x64, .f32⟩
  | 68 => ⟨S1x32x8x64x64, .f32⟩
  | 69 => ⟨S2x32x8x64x64, .f32⟩
  | 70 => ⟨S32x2x8x64x128, .f32⟩
  | 71 => ⟨S32x2x128x8x64, .f32⟩
  | 72 => ⟨S128x8, .f32⟩
  | 73 => ⟨S128x8x1, .f32⟩
  | 74 => ⟨S1x1x128x8x1, .f32⟩
  | 75 => ⟨S32x2x128x8x64, .f32⟩
  | 76 => ⟨S32x2x128x8x64, .f32⟩
  | 77 => ⟨S32x2x128x8x64, .f32⟩
  | 78 => ⟨S32x256x8x64, .f32⟩
  | 79 => ⟨S32x256x8x64, .f32⟩
  | 80 => ⟨S32x256x8x64, .f32⟩
  | 81 => ⟨S32x256x8x64, .f32⟩
  | 82 => ⟨S_, .f32⟩
  | 83 => ⟨S32x256x8, .f32⟩
  | 84 => ⟨S32x256x8x1, .f32⟩
  | 85 => ⟨S_, .f32⟩
  | 86 => ⟨S32x256x8x1, .f32⟩
  | 87 => ⟨S32x256x8x1, .f32⟩
  | 88 => ⟨S_, .f32⟩
  | 89 => ⟨S32x256x8x1, .f32⟩
  | 90 => ⟨S32x256x8x1, .f32⟩
  | 91 => ⟨S32x256x8x1, .f32⟩
  | 92 => ⟨S32x256x8x64, .f32⟩
  | 93 => ⟨S32x256x8x64, .f32⟩
  | 94 => ⟨S32x256x512, .f32⟩
  | 95 => ⟨S32x256x512, .f32⟩
  | 96 => ⟨S32x256x512, .f32⟩
  | 97 => ⟨S32x256x512, .f32⟩
  | 98 => ⟨S_, .f32⟩
  | 99 => ⟨S32x256x512, .f32⟩
  | 100 => ⟨S32x256x512, .f32⟩
  | 101 => ⟨S_, .f32⟩
  | 102 => ⟨S32x256x512, .f32⟩
  | 103 => ⟨S32x256x512, .f32⟩
  | 104 => ⟨S32x256x512, .f32⟩
  | 105 => ⟨S32x256x512, .f32⟩
  | 106 => ⟨S32x256x256, .f32⟩
  | 107 => ⟨S32x256x256, .f32⟩
  | 108 => ⟨S32x256x256, .f32⟩
  | 109 => ⟨S32x256x256, .f32⟩
  | 110 => ⟨S_, .i32⟩
  | 111 => ⟨S_, .f32⟩
  | 112 => ⟨S32x258x256, .f32⟩
  | 113 => ⟨S32x256x256, .f32⟩
  | 114 => ⟨S1x256, .f32⟩
  | 115 => ⟨S256, .f32⟩
  | 116 => ⟨S1x1x256, .f32⟩
  | 117 => ⟨S32x256x256, .f32⟩
  | 118 => ⟨S32x256x256, .f32⟩
  | 119 => ⟨S32x256x256, .f32⟩
  | 120 => ⟨S1x256, .f32⟩
  | 121 => ⟨S256, .f32⟩
  | 122 => ⟨S1x1x256, .f32⟩
  | 123 => ⟨S32x256x256, .f32⟩
  | 124 => ⟨S32x256x256, .f32⟩
  | 125 => ⟨S32x256x256, .f32⟩
  | 126 => ⟨S32x256x256, .f32⟩
  | 127 => ⟨S1x256, .f32⟩
  | _ => ⟨S32x256x3072, .f32⟩

abbrev hbmTy0_2 (i : Nat) : BufTy := match i % 128 with
  | 0 => ⟨S256, .f32⟩
  | 1 => ⟨S1x1x256, .f32⟩
  | 2 => ⟨S32x256x256, .f32⟩
  | 3 => ⟨S32x256x256, .f32⟩
  | 4 => ⟨S32x256x256, .f32⟩
  | 5 => ⟨S32x256x256, .f32⟩
  | 6 => ⟨S32x256x4x128, .f32⟩
  | 7 => ⟨S32x4x256x128, .f32⟩
  | 8 => ⟨S32x4x256x128, .bf16⟩
  | 9 => ⟨S32x256x2x128, .f32⟩
  | 10 => ⟨S32x2x256x128, .f32⟩
  | 11 => ⟨S32x2x256x128, .bf16⟩
  | 12 => ⟨S32x4x2x64x64, .f32⟩
  | 13 => ⟨S32x4x1x64x64, .f32⟩
  | 14 => ⟨S32x4x64x64, .f32⟩
  | 15 => ⟨S_, .i32⟩
  | 16 => ⟨S_, .f32⟩
  | 17 => ⟨S32x4x128x128, .f32⟩
  | 18 => ⟨S32x4x1x64x64, .f32⟩
  | 19 => ⟨S32x4x64x64, .f32⟩
  | 20 => ⟨S_, .i32⟩
  | 21 => ⟨S_, .f32⟩
  | 22 => ⟨S32x4x128x128, .f32⟩
  | 23 => ⟨S32x4x128x128, .f32⟩
  | 24 => ⟨S32x4x2x64x64, .f32⟩
  | 25 => ⟨S32x4x1x64x64, .f32⟩
  | 26 => ⟨S32x4x64x64, .f32⟩
  | 27 => ⟨S_, .i32⟩
  | 28 => ⟨S_, .f32⟩
  | 29 => ⟨S32x4x128x128, .f32⟩
  | 30 => ⟨S32x4x1x64x64, .f32⟩
  | 31 => ⟨S32x4x64x64, .f32⟩
  | 32 => ⟨S_, .i32⟩
  | 33 => ⟨S_, .f32⟩
  | 34 => ⟨S32x4x128x128, .f32⟩
  | 35 => ⟨S32x4x128x128, .f32⟩
  | _ => ⟨S32x256x3072, .f32⟩

abbrev hbmTy (i : Nat) : BufTy := match i / 128 with
  | 0 => hbmTy0_0 i
  | 1 => hbmTy0_1 i
  | 2 => hbmTy0_2 i
  | _ => ⟨S32x256x3072, .f32⟩

abbrev bufTy : (tb : Table) → Fin (tcTables nBuf tb) → BufTy
  | .hbm, ⟨i, _⟩ => hbmTy i
  | _, _ => ⟨S32x256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_7 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_8 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_9 : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_v109 : Ref sig .tc := ⟨.hbm, 144, rfl⟩
abbrev main_v110 : Ref sig .tc := ⟨.hbm, 145, rfl⟩
abbrev main_cst_10 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_11 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_12 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_cst_13 : Ref sig .tc := ⟨.hbm, 210, rfl⟩
abbrev main_v172 : Ref sig .tc := ⟨.hbm, 211, rfl⟩
abbrev main_v173 : Ref sig .tc := ⟨.hbm, 212, rfl⟩
abbrev main_cst_14 : Ref sig .tc := ⟨.hbm, 213, rfl⟩
abbrev main_v174 : Ref sig .tc := ⟨.hbm, 214, rfl⟩
abbrev main_v175 : Ref sig .tc := ⟨.hbm, 215, rfl⟩
abbrev main_cst_15 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_call3_v0 : Ref sig .tc := ⟨.hbm, 224, rfl⟩
abbrev main_call3_v1 : Ref sig .tc := ⟨.hbm, 225, rfl⟩
abbrev main_call3_cst : Ref sig .tc := ⟨.hbm, 226, rfl⟩
abbrev main_call3_v2 : Ref sig .tc := ⟨.hbm, 227, rfl⟩
abbrev main_call3_v3 : Ref sig .tc := ⟨.hbm, 228, rfl⟩
abbrev main_call3_cst_0 : Ref sig .tc := ⟨.hbm, 229, rfl⟩
abbrev main_call3_v4 : Ref sig .tc := ⟨.hbm, 230, rfl⟩
abbrev main_call3_v5 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_c : Ref sig .tc := ⟨.hbm, 238, rfl⟩
abbrev main_call4_v0 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_c_16 : Ref sig .tc := ⟨.hbm, 271, rfl⟩
abbrev main_call5_v0 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_c_17 : Ref sig .tc := ⟨.hbm, 276, rfl⟩
abbrev main_call6_v0 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_c_18 : Ref sig .tc := ⟨.hbm, 283, rfl⟩
abbrev main_call7_v0 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_c_19 : Ref sig .tc := ⟨.hbm, 288, rfl⟩
abbrev main_call8_v0 : Ref sig .tc := ⟨.hbm, 289, rfl⟩
abbrev main_v231 : Ref sig .tc := ⟨.hbm, 290, rfl⟩
abbrev main_v232 : Ref sig .tc := ⟨.hbm, 291, rfl⟩

abbrev nD : Nat := 1
abbrev τ : Topo := Topo.v7x

variable {F : FTy → Type} [FloatOps F]
-- ==== InProj.lean ====
abbrev S32x2048x1024 : Shape := ⟨3, ![32, 2048, 1024]⟩
abbrev S32x1x6144 : Shape := ⟨3, ![32, 1, 6144]⟩
abbrev S1024x3072 : Shape := ⟨2, ![1024, 3072]⟩
abbrev S2x8 : Shape := ⟨2, ![2, 8]⟩
abbrev S_ : Shape := ⟨0, ![]⟩
abbrev S1x8 : Shape := ⟨2, ![1, 8]⟩
abbrev S8 : Shape := ⟨1, ![8]⟩
abbrev S128 : Shape := ⟨1, ![128]⟩
abbrev S8x64 : Shape := ⟨2, ![8, 64]⟩
abbrev S512 : Shape := ⟨1, ![512]⟩
abbrev S1x512 : Shape := ⟨2, ![1, 512]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S4x2x128x128 : Shape := ⟨4, ![4, 2, 128, 128]⟩
abbrev S128x512 : Shape := ⟨2, ![128, 512]⟩
abbrev S128x4x128 : Shape := ⟨3, ![128, 4, 128]⟩
abbrev S4x128x128 : Shape := ⟨3, ![4, 128, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S64x1 : Shape := ⟨2, ![64, 1]⟩
abbrev S64x64 : Shape := ⟨2, ![64, 64]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S256x512 : Shape := ⟨2, ![256, 512]⟩
abbrev S32x4x2048x128 : Shape := ⟨4, ![32, 4, 2048, 128]⟩
abbrev S32x8x2048x128 : Shape := ⟨4, ![32, 8, 2048, 128]⟩
abbrev S32x2048x512 : Shape := ⟨3, ![32, 2048, 512]⟩
abbrev S1x1024x1024 : Shape := ⟨3, ![1, 1024, 1024]⟩
abbrev S1x1x6144 : Shape := ⟨3, ![1, 1, 6144]⟩
abbrev S1024x128 : Shape := ⟨2, ![1024, 128]⟩
abbrev S1x4x1024x128 : Shape := ⟨4, ![1, 4, 1024, 128]⟩
abbrev S1x8x1024x128 : Shape := ⟨4, ![1, 8, 1024, 128]⟩
abbrev S1x1024x512 : Shape := ⟨3, ![1, 1024, 512]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S1x1024x128 : Shape := ⟨3, ![1, 1024, 128]⟩
abbrev S1x1x1024x128 : Shape := ⟨4, ![1, 1, 1024, 128]⟩
abbrev S1024x256 : Shape := ⟨2, ![1024, 256]⟩

abbrev nBuf : Space → Nat
  | .hbm => 246
  | .vmem => 26
  | .smem => 0
  | _ => 0

abbrev hbmTy0_0 (i : Nat) : BufTy := match i % 128 with
  | 0 => ⟨S32x2048x1024, .f32⟩
  | 1 => ⟨S32x1x6144, .f32⟩
  | 2 => ⟨S1024x3072, .f32⟩
  | 3 => ⟨S2x8, .f32⟩
  | 4 => ⟨S2x8, .f32⟩
  | 5 => ⟨S_, .f32⟩
  | 6 => ⟨S2x8, .f32⟩
  | 7 => ⟨S2x8, .f32⟩
  | 8 => ⟨S2x8, .f32⟩
  | 9 => ⟨S2x8, .f32⟩
  | 10 => ⟨S2x8, .i1⟩
  | 11 => ⟨S2x8, .f32⟩
  | 12 => ⟨S2x8, .f32⟩
  | 13 => ⟨S2x8, .f32⟩
  | 14 => ⟨S2x8, .f32⟩
  | 15 => ⟨S2x8, .f32⟩
  | 16 => ⟨S2x8, .f32⟩
  | 17 => ⟨S2x8, .f32⟩
  | 18 => ⟨S2x8, .f32⟩
  | 19 => ⟨S2x8, .f32⟩
  | 20 => ⟨S1x8, .f32⟩
  | 21 => ⟨S8, .f32⟩
  | 22 => ⟨S1x8, .f32⟩
  | 23 => ⟨S8, .f32⟩
  | 24 => ⟨S128, .f32⟩
  | 25 => ⟨S8x64, .f32⟩
  | 26 => ⟨S512, .f32⟩
  | 27 => ⟨S1x512, .f32⟩
  | 28 => ⟨S8x64, .f32⟩
  | 29 => ⟨S512, .f32⟩
  | 30 => ⟨S1x512, .f32⟩
  | 31 => ⟨S128x1, .f32⟩
  | 32 => ⟨S1x128, .f32⟩
  | 33 => ⟨S128x128, .f32⟩
  | 34 => ⟨S128x128, .f32⟩
  | 35 => ⟨S128x128, .f32⟩
  | 36 => ⟨S_, .f32⟩
  | 37 => ⟨S128x128, .f32⟩
  | 38 => ⟨S128x128, .i1⟩
  | 39 => ⟨S8x1x1, .f32⟩
  | 40 => ⟨S_, .f32⟩
  | 41 => ⟨S128x128, .f32⟩
  | 42 => ⟨S128x128, .f32⟩
  | 43 => ⟨S1x128x128, .f32⟩
  | 44 => ⟨S8x128x128, .f32⟩
  | 45 => ⟨S8x128x128, .f32⟩
  | 46 => ⟨S8x128x128, .f32⟩
  | 47 => ⟨S8x128x128, .f32⟩
  | 48 => ⟨S_, .f32⟩
  | 49 => ⟨S128x128, .f32⟩
  | 50 => ⟨S128x128, .i1⟩
  | 51 => ⟨S8x1x1, .f32⟩
  | 52 => ⟨S128x128, .f32⟩
  | 53 => ⟨S_, .f32⟩
  | 54 => ⟨S128x128, .f32⟩
  | 55 => ⟨S128x128, .f32⟩
  | 56 => ⟨S1x128x128, .f32⟩
  | 57 => ⟨S8x128x128, .f32⟩
  | 58 => ⟨S8x128x128, .f32⟩
  | 59 => ⟨S8x128x128, .f32⟩
  | 60 => ⟨S8x128x128, .f32⟩
  | 61 => ⟨S_, .f32⟩
  | 62 => ⟨S_, .f32⟩
  | 63 => ⟨S8x128x128, .i1⟩
  | 64 => ⟨S8x128x128, .f32⟩
  | 65 => ⟨S8x128x128, .f32⟩
  | 66 => ⟨S8x128x128, .i1⟩
  | 67 => ⟨S8x128x128, .f32⟩
  | 68 => ⟨S4x2x128x128, .f32⟩
  | 69 => ⟨S128x1, .f32⟩
  | 70 => ⟨S_, .f32⟩
  | 71 => ⟨S128x1, .f32⟩
  | 72 => ⟨S128x1, .f32⟩
  | 73 => ⟨S128x512, .f32⟩
  | 74 => ⟨S128x512, .f32⟩
  | 75 => ⟨S128x512, .f32⟩
  | 76 => ⟨S128x512, .f32⟩
  | 77 => ⟨S128x1, .f32⟩
  | 78 => ⟨S_, .f32⟩
  | 79 => ⟨S128x1, .f32⟩
  | 80 => ⟨S128x1, .f32⟩
  | 81 => ⟨S128x512, .f32⟩
  | 82 => ⟨S128x512, .f32⟩
  | 83 => ⟨S128x512, .f32⟩
  | 84 => ⟨S128x512, .f32⟩
  | 85 => ⟨S128x1, .f32⟩
  | 86 => ⟨S_, .f32⟩
  | 87 => ⟨S128x1, .f32⟩
  | 88 => ⟨S128x1, .f32⟩
  | 89 => ⟨S128x512, .f32⟩
  | 90 => ⟨S128x512, .f32⟩
  | 91 => ⟨S128x512, .f32⟩
  | 92 => ⟨S128x512, .f32⟩
  | 93 => ⟨S128x1, .f32⟩
  | 94 => ⟨S128x512, .f32⟩
  | 95 => ⟨S128x512, .f32⟩
  | 96 => ⟨S128x512, .f32⟩
  | 97 => ⟨S128x512, .f32⟩
  | 98 => ⟨S_, .f32⟩
  | 99 => ⟨S1x512, .f32⟩
  | 100 => ⟨S1x512, .f32⟩
  | 101 => ⟨S1x512, .f32⟩
  | 102 => ⟨S_, .f32⟩
  | 103 => ⟨S1x512, .f32⟩
  | 104 => ⟨S1x512, .f32⟩
  | 105 => ⟨S1x512, .f32⟩
  | 106 => ⟨S128x4x128, .f32⟩
  | 107 => ⟨S4x128x128, .f32⟩
  | 108 => ⟨S128x4x128, .f32⟩
  | 109 => ⟨S4x128x128, .f32⟩
  | 110 => ⟨S128x4x128, .f32⟩
  | 111 => ⟨S4x128x128, .f32⟩
  | 112 => ⟨S128x4x128, .f32⟩
  | 113 => ⟨S4x128x128, .f32⟩
  | 114 => ⟨S1024x3072, .bf16⟩
  | 115 => ⟨S32, .f32⟩
  | 116 => ⟨S32x64, .f32⟩
  | 117 => ⟨S2048, .f32⟩
  | 118 => ⟨S64, .f32⟩
  | 119 => ⟨S1x64, .f32⟩
  | 120 => ⟨S32x64, .f32⟩
  | 121 => ⟨S2048, .f32⟩
  | 122 => ⟨S16, .f32⟩
  | 123 => ⟨S16, .f32⟩
  | 124 => ⟨S_, .f32⟩
  | 125 => ⟨S16, .f32⟩
  | 126 => ⟨S16, .f32⟩
  | 127 => ⟨S_, .f32⟩
  | _ => ⟨S32x2048x1024, .f32⟩

abbrev hbmTy0_1 (i : Nat) : BufTy := match i % 128 with
  | 0 => ⟨S16, .f32⟩
  | 1 => ⟨S16, .f32⟩
  | 2 => ⟨S2048x1, .f32⟩
  | 3 => ⟨S1x16, .f32⟩
  | 4 => ⟨S2048x16, .f32⟩
  | 5 => ⟨S2048x16, .f32⟩
  | 6 => ⟨S2048x16, .f32⟩
  | 7 => ⟨S2048x1, .f32⟩
  | 8 => ⟨S1x16, .f32⟩
  | 9 => ⟨S2048x16, .f32⟩
  | 10 => ⟨S2048x16, .f32⟩
  | 11 => ⟨S2048x16, .f32⟩
  | 12 => ⟨S2048x32, .f32⟩
  | 13 => ⟨S2048x32, .f32⟩
  | 14 => ⟨S1x2048x1x32, .f32⟩
  | 15 => ⟨S1x2048x4x32, .f32⟩
  | 16 => ⟨S2048x128, .f32⟩
  | 17 => ⟨S128, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S128, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i1⟩
  | 32 => ⟨S_, .i32⟩
  | 33 => ⟨S_, .i1⟩
  | 34 => ⟨S128, .i1⟩
  | 35 => ⟨S128, .i1⟩
  | 36 => ⟨S128, .i1⟩
  | 37 => ⟨S128, .i32⟩
  | 38 => ⟨S128, .i32⟩
  | 39 => ⟨S128, .i32⟩
  | 40 => ⟨S_, .i32⟩
  | 41 => ⟨S128, .i32⟩
  | 42 => ⟨S128, .i1⟩
  | 43 => ⟨S_, .f32⟩
  | 44 => ⟨S_, .f32⟩
  | 45 => ⟨S128, .f32⟩
  | 46 => ⟨S128, .f32⟩
  | 47 => ⟨S128, .f32⟩
  | 48 => ⟨S128, .f32⟩
  | 49 => ⟨S2048x32, .f32⟩
  | 50 => ⟨S1x2048x1x32, .f32⟩
  | 51 => ⟨S1x2048x4x32, .f32⟩
  | 52 => ⟨S2048x128, .f32⟩
  | 53 => ⟨S1x128, .f32⟩
  | 54 => ⟨S2048x128, .f32⟩
  | 55 => ⟨S2048x128, .f32⟩
  | 56 => ⟨S64, .i32⟩
  | 57 => ⟨S64x1, .i32⟩
  | 58 => ⟨S1x64, .i32⟩
  | 59 => ⟨S64x64, .i32⟩
  | 60 => ⟨S64x64, .i32⟩
  | 61 => ⟨S64x64, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S64x64, .i32⟩
  | 69 => ⟨S64x64, .i32⟩
  | 70 => ⟨S_, .i32⟩
  | 71 => ⟨S64x64, .i32⟩
  | 72 => ⟨S64x64, .i1⟩
  | 73 => ⟨S_, .i32⟩
  | 74 => ⟨S64x64, .i32⟩
  | 75 => ⟨S64x64, .i1⟩
  | 76 => ⟨S_, .i32⟩
  | 77 => ⟨S_, .i1⟩
  | 78 => ⟨S64x64, .i1⟩
  | 79 => ⟨S64x64, .i1⟩
  | 80 => ⟨S64x64, .i1⟩
  | 81 => ⟨S64x64, .i32⟩
  | 82 => ⟨S64x64, .i32⟩
  | 83 => ⟨S64x64, .i32⟩
  | 84 => ⟨S64x64, .f32⟩
  | 85 => ⟨S_, .f32⟩
  | 86 => ⟨S64x64, .f32⟩
  | 87 => ⟨S64x64, .f32⟩
  | 88 => ⟨S4x4, .i32⟩
  | 89 => ⟨S4x4, .i32⟩
  | 90 => ⟨S_, .i32⟩
  | 91 => ⟨S4x4, .i32⟩
  | 92 => ⟨S4x4, .i32⟩
  | 93 => ⟨S4x4, .i1⟩
  | 94 => ⟨S4x4, .f32⟩
  | 95 => ⟨S64x64, .f32⟩
  | 96 => ⟨S4x1x4x1, .f32⟩
  | 97 => ⟨S1x64x1x64, .f32⟩
  | 98 => ⟨S4x64x4x64, .f32⟩
  | 99 => ⟨S4x64x4x64, .f32⟩
  | 100 => ⟨S4x64x4x64, .f32⟩
  | 101 => ⟨S256x256, .f32⟩
  | 102 => ⟨S64x64, .f32⟩
  | 103 => ⟨S4x1x4x1, .f32⟩
  | 104 => ⟨S1x64x1x64, .f32⟩
  | 105 => ⟨S4x64x4x64, .f32⟩
  | 106 => ⟨S4x64x4x64, .f32⟩
  | 107 => ⟨S4x64x4x64, .f32⟩
  | 108 => ⟨S256x256, .f32⟩
  | 109 => ⟨S256x512, .f32⟩
  | 110 => ⟨S256x512, .bf16⟩
  | 111 => ⟨S32x4x2048x128, .bf16⟩
  | 112 => ⟨S32x4x2048x128, .bf16⟩
  | 113 => ⟨S32x4x2048x128, .bf16⟩
  | 114 => ⟨S32x4x2048x128, .bf16⟩
  | 115 => ⟨S32x8x2048x128, .bf16⟩
  | 116 => ⟨S32x2048x512, .bf16⟩
  | 117 => ⟨S32x4x2048x128, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1024x3072, .bf16⟩
  | .local _ .vmem, ⟨5, _⟩ => ⟨S4x128x128, .f32⟩
  | .local _ .vmem, ⟨6, _⟩ => ⟨S4x128x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S256x512, .bf16⟩
  | .local _ .vmem, ⟨12, _⟩ => ⟨S1x4x1024x128, .bf16⟩
  | .local _ .vmem, ⟨13, _⟩ => ⟨S1x4x1024x128, .bf16⟩
  | .local _ .vmem, ⟨14, _⟩ => ⟨S1x4x1024x128, .bf16⟩
  | .local _ .vmem, ⟨15, _⟩ => ⟨S1x4x1024x128, .bf16⟩
  | .local _ .vmem, ⟨16, _⟩ => ⟨S1x4x1024x128, .bf16⟩
  | .local _ .vmem, ⟨17, _⟩ => ⟨S1x4x1024x128, .bf16⟩
  | .local _ .vmem, ⟨18, _⟩ => ⟨S1x4x1024x128, .bf16⟩
  | .local _ .vmem, ⟨19, _⟩ => ⟨S1x4x1024x128, .bf16⟩
  | .local _ .vmem, ⟨20, _⟩ => ⟨S1x8x1024x128, .bf16⟩
  | .local _ .vmem, ⟨21, _⟩ => ⟨S1x8x1024x128, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x4x1024x128, .bf16⟩
  | .local _ .vmem, ⟨25, _⟩ => ⟨S1x4x1024x128, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v38 : Ref sig .tc := ⟨.hbm, 65, rfl⟩
abbrev main_call2_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_4 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_5 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_6 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_7 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_9 : Ref sig .tc := ⟨.hbm, 124, rfl⟩
abbrev main_v91 : Ref sig .tc := ⟨.hbm, 125, rfl⟩
abbrev main_v92 : Ref sig .tc := ⟨.hbm, 126, rfl⟩
abbrev main_cst_10 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c : Ref sig .tc := ⟨.hbm, 146, rfl⟩
abbrev main_call3_v0 : Ref sig .tc := ⟨.hbm, 147, rfl⟩
abbrev main_call3_c : Ref sig .tc := ⟨.hbm, 148, rfl⟩
abbrev main_call3_v1 : Ref sig .tc := ⟨.hbm, 149, rfl⟩
abbrev main_call3_c_0 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_c_1 : Ref sig .tc := ⟨.hbm, 154, rfl⟩
abbrev main_call3_v5 : Ref sig .tc := ⟨.hbm, 155, rfl⟩
abbrev main_call3_v6 : Ref sig .tc := ⟨.hbm, 156, rfl⟩
abbrev main_call3_c_2 : Ref sig .tc := ⟨.hbm, 157, rfl⟩
abbrev main_call3_v7 : Ref sig .tc := ⟨.hbm, 158, rfl⟩
abbrev main_call3_v8 : Ref sig .tc := ⟨.hbm, 159, rfl⟩
abbrev main_call3_c_3 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_v12 : Ref sig .tc := ⟨.hbm, 164, rfl⟩
abbrev main_call3_v13 : Ref sig .tc := ⟨.hbm, 165, rfl⟩
abbrev main_call3_v14 : Ref sig .tc := ⟨.hbm, 166, rfl⟩
abbrev main_v111 : Ref sig .tc := ⟨.hbm, 167, rfl⟩
abbrev main_c_11 : Ref sig .tc := ⟨.hbm, 168, rfl⟩
abbrev main_v112 : Ref sig .tc := ⟨.hbm, 169, rfl⟩
abbrev main_v113 : Ref sig .tc := ⟨.hbm, 170, rfl⟩
abbrev main_cst_12 : Ref sig .tc := ⟨.hbm, 171, rfl⟩
abbrev main_cst_13 : Ref sig .tc := ⟨.hbm, 172, rfl⟩
abbrev main_call4_v0 : Ref sig .tc := ⟨.hbm, 173, rfl⟩
abbrev main_call4_v1 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_c_14 : Ref sig .tc := ⟨.hbm, 190, rfl⟩
abbrev main_call5_v0 : Ref sig .tc := ⟨.hbm, 191, rfl⟩
abbrev main_call5_c : Ref sig .tc := ⟨.hbm, 192, rfl⟩
abbrev main_call5_v1 : Ref sig .tc := ⟨.hbm, 193, rfl⟩
abbrev main_call5_c_0 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_call5_c_1 : Ref sig .tc := ⟨.hbm, 198, rfl⟩
abbrev main_call5_v5 : Ref sig .tc := ⟨.hbm, 199, rfl⟩
abbrev main_call5_v6 : Ref sig .tc := ⟨.hbm, 200, rfl⟩
abbrev main_call5_c_2 : Ref sig .tc := ⟨.hbm, 201, rfl⟩
abbrev main_call5_v7 : Ref sig .tc := ⟨.hbm, 202, rfl⟩
abbrev main_call5_v8 : Ref sig .tc := ⟨.hbm, 203, rfl⟩
abbrev main_call5_c_3 : Ref sig .tc := ⟨.hbm, 204, rfl⟩
abbrev main_call5_v9 : Ref sig .tc := ⟨.hbm, 205, rfl⟩
abbrev main_call5_v10 : Ref sig .tc := ⟨.hbm, 206, rfl⟩
abbrev main_call5_v11 : Ref sig .tc := ⟨.hbm, 207, rfl⟩
abbrev main_call5_v12 : Ref sig .tc := ⟨.hbm, 208, rfl⟩
abbrev main_call5_v13 : Ref sig .tc := ⟨.hbm, 209, rfl⟩
abbrev main_call5_v14 : Ref sig .tc := ⟨.hbm, 210, rfl⟩
abbrev main_v129 : Ref sig .tc := ⟨.hbm, 211, rfl⟩
abbrev main_v130 : Ref sig .tc := ⟨.hbm, 212, rfl⟩
abbrev main_cst_15 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_c_16 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_call6_v0 : Ref sig .tc := ⟨.hbm, 224, rfl⟩
abbrev main_call6_v1 : Ref sig .tc := ⟨.hbm, 225, rfl⟩
abbrev main_call6_v2 : Ref sig .tc := ⟨.hbm, 226, rfl⟩
abbrev main_call6_v3 : Ref sig .tc := ⟨.hbm, 227, rfl⟩
abbrev main_call6_v4 : Ref sig .tc := ⟨.hbm, 228, rfl⟩
abbrev main_v140 : Ref sig .tc := ⟨.hbm, 229, rfl⟩
abbrev main_v141 : Ref sig .tc := ⟨.hbm, 230, rfl⟩
abbrev main_call7_v0 : Ref sig .tc := ⟨.hbm, 231, rfl⟩
abbrev main_call7_v1 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145_0 : Ref sig .tc := ⟨.hbm, 239, rfl⟩
abbrev main_v145_1 : Ref sig .tc := ⟨.hbm, 240, rfl⟩
abbrev main_v145_2 : Ref sig .tc := ⟨.hbm, 241, rfl⟩
abbrev main_v145_3 : Ref sig .tc := ⟨.hbm, 242, rfl⟩
abbrev main_v145_4 : Ref sig .tc := ⟨.hbm, 243, rfl⟩
abbrev main_v145_5 : Ref sig .tc := ⟨.hbm, 244, rfl⟩
abbrev main_v145_6 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InProjReferenceIdeal.lean ====
abbrev S32x2048x1024 : Shape := ⟨3, ![32, 2048, 1024]⟩
abbrev S32x1x6144 : Shape := ⟨3, ![32, 1, 6144]⟩
abbrev S1024x3072 : Shape := ⟨2, ![1024, 3072]⟩
abbrev S2x8 : Shape := ⟨2, ![2, 8]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S32x2048x3072 : Shape := ⟨3, ![32, 2048, 3072]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S32x2048x512 : Shape := ⟨3, ![32, 2048, 512]⟩
abbrev S32x2048x8x64 : Shape := ⟨4, ![32, 2048, 8, 64]⟩
abbrev S32x2048x8x32 : Shape := ⟨4, ![32, 2048, 8, 32]⟩
abbrev S32x2048x256 : Shape := ⟨3, ![32, 2048, 256]⟩
abbrev S32x2048x4x128 : Shape := ⟨4, ![32, 2048, 4, 128]⟩
abbrev S32x4x2048x128 : Shape := ⟨4, ![32, 4, 2048, 128]⟩

abbrev nBuf : Space → Nat
  | .hbm => 125
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x6144, .f32⟩
  | .hbm, ⟨2, _⟩ => ⟨S1024x3072, .f32⟩
  | .hbm, ⟨3, _⟩ => ⟨S2x8, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x2048x1024, .f32⟩
  | .hbm, ⟨11, _⟩ => ⟨S_, .f32⟩
  | .hbm, ⟨12, _⟩ => ⟨S32x2048, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S32x2048x1, .f32⟩
  | .hbm, ⟨21, _⟩ => ⟨S32x2048x1024, .f32⟩
  | .hbm, ⟨22, _⟩ => ⟨S32x2048x1024, .f32⟩
  | .hbm, ⟨23, _⟩ => ⟨S_, .f32⟩
  | .hbm, ⟨24, _⟩ => ⟨S32x1x1024, .f32⟩
  | .hbm, ⟨25, _⟩ => ⟨S32x1x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x3072, .f32⟩
  | .hbm, ⟨31, _⟩ => ⟨S32, .f32⟩
  | .hbm, ⟨32, _⟩ => ⟨S32x64, .f32⟩
  | .hbm, ⟨33, _⟩ => ⟨S2048, .f32⟩
  | .hbm, ⟨34, _⟩ => ⟨S64, .f32⟩
  | .hbm, ⟨35, _⟩ => ⟨S1x64, .f32⟩
  | .hbm, ⟨36, _⟩ => ⟨S32x64, .f32⟩
  | .hbm, ⟨37, _⟩ => ⟨S2048, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S2048x1, .f32⟩
  | .hbm, ⟨47, _⟩ => ⟨S1x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x1, .f32⟩
  | .hbm, ⟨52, _⟩ => ⟨S1x16, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S2048x32, .f32⟩
  | .hbm, ⟨57, _⟩ => ⟨S2048x32, .f32⟩
  | .hbm, ⟨58, _⟩ => ⟨S1x2048x1x32, .f32⟩
  | .hbm, ⟨59, _⟩ => ⟨S2048x32, .f32⟩
  | .hbm, ⟨60, _⟩ => ⟨S1x2048x1x32, .f32⟩
  | .hbm, ⟨61, _⟩ => ⟨S32x2048x512, .f32⟩
  | .hbm, ⟨62, _⟩ => ⟨S32x2048x8x64, .f32⟩
  | .hbm, ⟨63, _⟩ => ⟨S32x2048x8x32, .f32⟩
  | .hbm, ⟨64, _⟩ => ⟨S32x2048x8x32, .f32⟩
  | .hbm, ⟨65, _⟩ => ⟨S32x2048x8x32, .f32⟩
  | .hbm, ⟨66, _⟩ => ⟨S32x2048x8x32, .f32⟩
  | .hbm, ⟨67, _⟩ => ⟨S32x2048x8x32, .f32⟩
  | .hbm, ⟨68, _⟩ => ⟨S32x2048x8x32, .f32⟩
  | .hbm, ⟨69, _⟩ => ⟨S32x2048x8x32, .f32⟩
  | .hbm, ⟨70, _⟩ => ⟨S32x2048x8x32, .f32⟩
  | .hbm, ⟨71, _⟩ => ⟨S32x2048x8x32, .f32⟩
  | .hbm, ⟨72, _⟩ => ⟨S32x2048x8x32, .f32⟩
  | .hbm, ⟨73, _⟩ => ⟨S32x2048x8x32, .f32⟩
  | .hbm, ⟨74, _⟩ => ⟨S32x2048x8x32, .f32⟩
  | .hbm, ⟨75, _⟩ => ⟨S32x2048x8x64, .f32⟩
  | .hbm, ⟨76, _⟩ => ⟨S32x2048x512, .f32⟩
  | .hbm, ⟨77, _⟩ => ⟨S32x2048x8x64, .f32⟩
  | .hbm, ⟨78, _⟩ => ⟨S_, .f32⟩
  | .hbm, ⟨79, _⟩ => ⟨S32x2048x8x64, .f32⟩
  | .hbm, ⟨80, _⟩ => ⟨S32x2048x8x64, .f32⟩
  | .hbm, ⟨81, _⟩ => ⟨S32x2048x8x32, .f32⟩
  | .hbm, ⟨82, _⟩ => ⟨S32x2048x8x32, .f32⟩
  | .hbm, ⟨83, _⟩ => ⟨S32x2048x8x32, .f32⟩
  | .hbm, ⟨84, _⟩ => ⟨S32x2048x8x32, .f32⟩
  | .hbm, ⟨85, _⟩ => ⟨S32x2048x8x32, .f32⟩
  | .hbm, ⟨86, _⟩ => ⟨S32x2048x8x32, .f32⟩
  | .hbm, ⟨87, _⟩ => ⟨S32x2048x8x32, .f32⟩
  | .hbm, ⟨88, _⟩ => ⟨S32x2048x8x32, .f32⟩
  | .hbm, ⟨89, _⟩ => ⟨S32x2048x8x32, .f32⟩
  | .hbm, ⟨90, _⟩ => ⟨S32x2048x8x32, .f32⟩
  | .hbm, ⟨91, _⟩ => ⟨S32x2048x8x32, .f32⟩
  | .hbm, ⟨92, _⟩ => ⟨S32x2048x8x32, .f32⟩
  | .hbm, ⟨93, _⟩ => ⟨S32x2048x8x64, .f32⟩
  | .hbm, ⟨94, _⟩ => ⟨S32x2048x512, .f32⟩
  | .hbm, ⟨95, _⟩ => ⟨S32x2048x512, .f32⟩
  | .hbm, ⟨96, _⟩ => ⟨S32x2048x512, .f32⟩
  | .hbm, ⟨97, _⟩ => ⟨S32x2048x512, .f32⟩
  | .hbm, ⟨98, _⟩ => ⟨S_, .f32⟩
  | .hbm, ⟨99, _⟩ => ⟨S32x2048x512, .f32⟩
  | .hbm, ⟨100, _⟩ => ⟨S32x2048x512, .f32⟩
  | .hbm, ⟨101, _⟩ => ⟨S_, .f32⟩
  | .hbm, ⟨102, _⟩ => ⟨S32x2048x512, .f32⟩
  | .hbm, ⟨103, _⟩ => ⟨S32x2048x512, .f32⟩
  | .hbm, ⟨104, _⟩ => ⟨S32x2048x512, .f32⟩
  | .hbm, ⟨105, _⟩ => ⟨S32x2048x256, .f32⟩
  | .hbm, ⟨106, _⟩ => ⟨S32x2048x256, .f32⟩
  | .hbm, ⟨107, _⟩ => ⟨S32x2048x256, .f32⟩
  | .hbm, ⟨108, _⟩ => ⟨S32x2048x256, .f32⟩
  | .hbm, ⟨109, _⟩ => ⟨S32x2048x512, .f32⟩
  | .hbm, ⟨110, _⟩ => ⟨S32x2048x4x128, .f32⟩
  | .hbm, ⟨111, _⟩ => ⟨S32x4x2048x128, .f32⟩
  | .hbm, ⟨112, _⟩ => ⟨S32x4x2048x128, .bf16⟩
  | .hbm, ⟨113, _⟩ => ⟨S32x2048x4x128, .f32⟩
  | .hbm, ⟨114, _⟩ => ⟨S32x4x2048x128, .f32⟩
  | .hbm, ⟨115, _⟩ => ⟨S32x4x2048x128, .bf16⟩
  | .hbm, ⟨116, _⟩ => ⟨S32x2048x4x128, .f32⟩
  | .hbm, ⟨117, _⟩ => ⟨S32x4x2048x128, .f32⟩
  | .hbm, ⟨118, _⟩ => ⟨S32x4x2048x128, .bf16⟩
  | .hbm, ⟨119, _⟩ => ⟨S32x2048x4x128, .f32⟩
  | .hbm, ⟨120, _⟩ => ⟨S32x4x2048x128, .f32⟩
  | .hbm, ⟨121, _⟩ => ⟨S32x4x2048x128, .bf16⟩
  | .hbm, ⟨122, _⟩ => ⟨S32x2048x4x128, .f32⟩
  | .hbm, ⟨123, _⟩ => ⟨S32x4x2048x128, .f32⟩
  | .hbm, ⟨124, _⟩ => ⟨S32x4x2048x128, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_5 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩

abbrev nD : Nat := 1
abbrev τ : Topo := Topo.v7x

variable {F : FTy → Type} [FloatOps F]
-- ==== Proof.Spec.lean ====
/-
  The feed-forward block written index by index on the extended reals, for one batch row: `T` tokens of 1024 channels.
  Nothing here mentions a program; the kernel's block and the reference's array are both shown equal to these.
-/
module

public import Idealize.ShloMosaic.Lib.Pointwise
public import Idealize.ShloMosaic.Lib.Pipeline.ValueKit

@[expose] public section

set_option maxRecDepth 16384

noncomputable section

namespace Cert.FfnSpec

open Idealize.ShloMosaic

variable {T : ℕ} (h : Fin T → Fin 1024 → EReal) (wu : Fin 1024 → Fin 5632 → EReal) (cw : Fin 3 → Fin 5632 → EReal)
  (wd : Fin 2816 → Fin 1024 → EReal) (x : Fin T → Fin 1024 → EReal) (g fg : Fin 1024 → EReal)

/-- The up-projection at token `t`, column `q`. -/
def up (t : Fin T) (q : Fin 5632) : EReal := ∑ k : Fin 1024, h t k * wu k q

/-- The up-projection one token before, zero before the first token. -/
def upPrev (t : Fin T) (q : Fin 5632) : EReal :=
  if t.val < 1 then 0 else up h wu ⟨t.val - 1, by omega⟩ q

/-- The up-projection one token after, zero past the last token. -/
def upNext (t : Fin T) (q : Fin 5632) : EReal :=
  if ht : t.val + 1 < T then up h wu ⟨t.val + 1, ht⟩ q else 0

theorem upPrev_eq (t : Fin T) (q : Fin 5632) (ht : 1 ≤ t.val) : upPrev h wu t q = up h wu ⟨t.val - 1, by omega⟩ q :=
  if_neg (by omega)

theorem upNext_eq (t : Fin T) (q : Fin 5632) (ht : t.val + 1 < T) : upNext h wu t q = up h wu ⟨t.val + 1, ht⟩ q :=
  dif_pos ht

/-- The three-tap depthwise convolution along the tokens. -/
def conv (t : Fin T) (q : Fin 5632) : EReal :=
  upPrev h wu t q * cw 0 q + up h wu t q * cw 1 q + upNext h wu t q * cw 2 q

/-- The gated activation: the value half times the gate half's `silu`. -/
def act (t : Fin T) (q : Fin 2816) : EReal :=
  conv h wu cw t ⟨q.val, by omega⟩
    * (conv h wu cw t ⟨2816 + q.val, by omega⟩ * Ideal.logistic (conv h wu cw t ⟨2816 + q.val, by omega⟩))

/-- The residual sum with the gated down-projection. -/
def mix (t : Fin T) (l : Fin 1024) : EReal := x t l + g l * ∑ q : Fin 2816, act h wu cw t q * wd q l

/-- The final root-mean-square normalisation with its gain. -/
def out (t : Fin T) (l : Fin 1024) : EReal :=
  mix h wu cw wd x g t l
    * Ideal.rsqrt (Ideal.div (∑ k : Fin 1024, mix h wu cw wd x g t k * mix h wu cw wd x g t k)
        (Ideal.ofBits FTy.f32 0x44800000#32) + Ideal.ofBits FTy.f32 0x358637BD#32)
    * fg l

end Cert.FfnSpec

end
-- ==== Proof.Tile.lean ====
/-
  One tile of the kernel's body on the extended reals: 1024 tokens by 256 columns of the gated activation.
  The body keeps its tokens in an interleaved order: row `s` of a tile is token `s % 8 * 128 + s / 8` of the block,
  so that a step of eight rows is a step of one token.
-/
module

public import proofs.«01_k».proof.Proof.Gen.KernelIdeal.Value
public import proofs.«01_k».proof.Proof.Spec

@[expose] public section

set_option maxRecDepth 16384

noncomputable section

namespace Cert.KernelIdeal.Ffn

open Cert.KernelIdeal Cert.KernelIdeal.Gen Idealize.ShloMosaic Idealize.ShloMosaic.TcCoe Idealize.SL.Sem

section Payloads

variable {F : FTy → Type} [FloatOps F]

/-- The gated activation of one tile, over the token rows and the two halves' weight columns and taps. -/
def tile (he : FVec F S1040x1024 .bf16) (wv : FVec F S1024x256 .bf16) (cv : FVec F S3x256 .f32) (wg : FVec F S1024x256 .bf16)
    (cg : FVec F S3x256 .f32) : FVec F S1024x256 .bf16 :=
  shapeCast S1024x256 (truncf .bf16 (mulf (k0_pay5 he wv cv) (mulf (k0_pay5 he wg cg) (logistic (k0_pay5 he wg cg)))) bitsLt_bf16_f32)
    shapeCasts_S1024x256_S1024x256

variable (he : FVec F S1040x1024 .bf16) (wv : FVec F S1024x256 .bf16) (cv : FVec F S3x256 .f32) (wg : FVec F S1024x256 .bf16)
    (cg : FVec F S3x256 .f32)

/- The eleven stores of the body each write such a tile, however their operations are grouped. -/
theorem tile_0 : k0_pay11 (k0_pay5 he wv cv) cg (k0_pay7 he wg) (k0_pay8 he wg) (k0_pay9 he wg cg) (k0_pay10 cg) = tile he wv cv wg cg := rfl
theorem tile_1 : k0_pay14 (k0_pay12 he wv cv) (k0_pay13 he wg) cg = tile he wv cv wg cg := rfl
theorem tile_2 : k0_pay20 he cv (k0_pay16 he wv) (k0_pay17 he wv) (k0_pay18 he wv cv) (k0_pay19 cv) wg cg = tile he wv cv wg cg := rfl
theorem tile_3 : k0_pay24 (k0_pay23 he (k0_pay21 he wv) cv (k0_pay22 he wv) wg cg) = tile he wv cv wg cg := rfl
theorem tile_4 : k0_pay31 (k0_pay25 he wv cv) cg (k0_pay27 he wg) (k0_pay28 he wg) (k0_pay29 he wg cg) (k0_pay30 cg) = tile he wv cv wg cg := rfl
theorem tile_5 : k0_pay34 (k0_pay32 he wv cv) (k0_pay33 he wg) cg = tile he wv cv wg cg := rfl
theorem tile_6 : k0_pay40 he cv (k0_pay36 he wv) (k0_pay37 he wv) (k0_pay38 he wv cv) (k0_pay39 cv) wg cg = tile he wv cv wg cg := rfl
theorem tile_7 : k0_pay44 (k0_pay43 he (k0_pay41 he wv) cv (k0_pay42 he wv) wg cg) = tile he wv cv wg cg := rfl
theorem tile_8 : k0_pay51 (k0_pay45 he wv cv) cg (k0_pay47 he wg) (k0_pay48 he wg) (k0_pay49 he wg cg) (k0_pay50 cg) = tile he wv cv wg cg := rfl
theorem tile_9 : k0_pay54 (k0_pay52 he wv cv) (k0_pay53 he wg) cg = tile he wv cv wg cg := rfl
theorem tile_10 : k0_pay60 he cv (k0_pay56 he wv) (k0_pay57 he wv) (k0_pay58 he wv cv) (k0_pay59 cv) wg cg = tile he wv cv wg cg := rfl

end Payloads

/-- The token of the block that row `s` holds. -/
abbrev tok (s : ℕ) : ℕ := s % 8 * 128 + s / 8

/-- The token rows hold block `i` of `h` in interleaved order, then the row before it and the row after it, zero at the ends. -/
structure Rows (h : Fin 2048 → Fin 1024 → EReal) (i : ℕ) (he : FVec Ideal S1040x1024 .bf16) : Prop where
  lt : i < 2
  main : ∀ (s : Fin 1040) (_ : s.val < 1024) (t : Fin 2048) (_ : t.val = i * 1024 + tok s.val) (k : Fin 1024), he (ix2 s k) = h t k
  before : ∀ (s : Fin 1040) (_ : s.val = 1024) (k : Fin 1024), i = 0 → he (ix2 s k) = 0
  before' : ∀ (s : Fin 1040) (_ : s.val = 1024) (t : Fin 2048) (_ : t.val = i * 1024 - 1) (k : Fin 1024), i ≠ 0 → he (ix2 s k) = h t k
  after : ∀ (s : Fin 1040) (_ : s.val = 1025) (k : Fin 1024), i = 1 → he (ix2 s k) = 0
  after' : ∀ (s : Fin 1040) (_ : s.val = 1025) (t : Fin 2048) (_ : t.val = (i + 1) * 1024) (k : Fin 1024), i ≠ 1 → he (ix2 s k) = h t k

variable {h : Fin 2048 → Fin 1024 → EReal} {wu : Fin 1024 → Fin 5632 → EReal} {taps : Fin 3 → Fin 5632 → EReal} {i : ℕ}
  {he : FVec Ideal S1040x1024 .bf16} (H : Rows h i he)

include H

/-- A product row over a row of the block is the up-projection at its token. -/
theorem Rows.up (w : FVec Ideal S1024x256 .bf16) (s : Fin 1040) (hs : s.val < 1024) (q : Fin 256) (c : Fin 5632) (hw : ∀ k, w (ix2 k q) = wu k c)
    (t : Fin 2048) (ht : t.val = i * 1024 + tok s.val) : (∑ k : Fin 1024, he (ix2 s k) * w (ix2 k q)) = FfnSpec.up h wu t c := by
  unfold FfnSpec.up
  exact Finset.sum_congr rfl fun k _ => by rw [H.main s hs t ht k, hw k]

theorem Rows.up_prev (w : FVec Ideal S1024x256 .bf16) (s : Fin 1040) (hs : s.val = 1024) (q : Fin 256) (c : Fin 5632) (hw : ∀ k, w (ix2 k q) = wu k c)
    (t : Fin 2048) (ht : t.val = i * 1024) : (∑ k : Fin 1024, he (ix2 s k) * w (ix2 k q)) = FfnSpec.upPrev h wu t c := by
  have hlt := H.lt
  unfold FfnSpec.upPrev FfnSpec.up
  split
  · exact Finset.sum_eq_zero fun k _ => by rw [H.before s hs k (by omega), zero_mul]
  · exact Finset.sum_congr rfl fun k _ => by rw [H.before' s hs ⟨t.val - 1, by omega⟩ (by show t.val - 1 = _; omega) k (by omega), hw k]

theorem Rows.up_next (w : FVec Ideal S1024x256 .bf16) (s : Fin 1040) (hs : s.val = 1025) (q : Fin 256) (c : Fin 5632) (hw : ∀ k, w (ix2 k q) = wu k c)
    (t : Fin 2048) (ht : t.val = i * 1024 + 1023) : (∑ k : Fin 1024, he (ix2 s k) * w (ix2 k q)) = FfnSpec.upNext h wu t c := by
  have hlt := H.lt
  unfold FfnSpec.upNext FfnSpec.up
  split
  · exact Finset.sum_congr rfl fun k _ => by rw [H.after' s hs ⟨t.val + 1, by omega⟩ (by show t.val + 1 = _; omega) k (by omega), hw k]
  · exact Finset.sum_eq_zero fun k _ => by rw [H.after s hs k (by omega), zero_mul]

set_option maxHeartbeats 1000000 in
/-- The body's convolution of a tile is the convolution of the tokens its rows hold. -/
theorem Rows.conv (w : FVec Ideal S1024x256 .bf16) (cw : FVec Ideal S3x256 .f32) (s : Fin 1024) (q : Fin 256) (c : Fin 5632)
    (hw : ∀ k, w (ix2 k q) = wu k c) (hc : ∀ a, cw (ix2 a q) = taps a c) (t : Fin 2048) (ht : t.val = i * 1024 + tok s.val) :
    k0_pay5 (F := Ideal) he w cw (ix2 s q) = FfnSpec.conv h wu taps t c := by
  have hlt := H.lt
  have hs := s.isLt
  have hmid : (∑ k : Fin 1024, he (ix2 (⟨s.val, by omega⟩ : Fin 1040) k) * w (ix2 k q)) = FfnSpec.up h wu t c :=
    H.up w ⟨s.val, by omega⟩ hs q c hw t ht
  pointwise [k0_pay5]
  unfold FfnSpec.conv
  rw [hc 0, hc 1, hc 2]
  refine congrArg₂ (· + ·) (congrArg₂ (· + ·) (congrArg (· * _) ?_) (congrArg (· * _) hmid)) (congrArg (· * _) ?_)
  · split
    · rename_i h8
      have h8' : s.val < 8 := h8
      split
      · rename_i h1
        have h1' : s.val < 1 := h1
        exact H.up_prev w _ (by show 1024 + s.val = 1024; omega) q c hw t (by clear h8 h1; unfold tok at ht; omega)
      · rename_i h1
        have h1' : ¬ s.val < 1 := h1
        have ht' : t.val = i * 1024 + (s.val % 8 * 128 + s.val / 8) := ht
        have e : t.val - 1 = i * 1024 + tok (1016 + (s.val - 1)) := by
          clear h8 h1
          have e1 : s.val / 8 = 0 := by omega
          have e2 : s.val % 8 = s.val := by omega
          have e3 : (1016 + (s.val - 1)) / 8 = 127 := by omega
          have e4 : (1016 + (s.val - 1)) % 8 = s.val - 1 := by omega
          unfold tok
          rw [e3, e4]
          rw [e1, e2] at ht'
          omega
        have e' : 1 ≤ t.val := by clear h8 h1; omega
        exact (H.up w _ (by show 1016 + (s.val - 1) < 1024; clear h8 h1; omega) q c hw _ e).trans (FfnSpec.upPrev_eq h wu t c e').symm
    · rename_i h8
      have h8' : ¬ s.val < 8 := h8
      have ht' : t.val = i * 1024 + (s.val % 8 * 128 + s.val / 8) := ht
      have e : t.val - 1 = i * 1024 + tok (s.val - 8) := by clear h8; unfold tok; omega
      have e' : 1 ≤ t.val := by clear h8; omega
      exact (H.up w _ (by show s.val - 8 < 1024; clear h8; omega) q c hw _ e).trans (FfnSpec.upPrev_eq h wu t c e').symm
  · split
    · rename_i h8
      have h8' : s.val < 1016 := h8
      have ht' : t.val = i * 1024 + (s.val % 8 * 128 + s.val / 8) := ht
      have e : t.val + 1 = i * 1024 + tok (8 + s.val) := by clear h8; unfold tok; omega
      have e' : t.val + 1 < 2048 := by clear h8; omega
      exact (H.up w _ (by show 8 + s.val < 1024; clear h8; omega) q c hw _ e).trans (FfnSpec.upNext_eq h wu t c e').symm
    · rename_i h8
      have h8' : ¬ s.val < 1016 := h8
      split
      · rename_i h1
        have h1' : s.val - 1016 < 7 := h1
        have ht' : t.val = i * 1024 + (s.val % 8 * 128 + s.val / 8) := ht
        have e : t.val + 1 = i * 1024 + tok (1 + (s.val - 1016)) := by
          clear h8 h1
          have e1 : s.val / 8 = 127 := by omega
          have e2 : s.val % 8 = s.val - 1016 := by omega
          have e3 : (1 + (s.val - 1016)) / 8 = 0 := by omega
          have e4 : (1 + (s.val - 1016)) % 8 = 1 + (s.val - 1016) := by omega
          unfold tok
          rw [e3, e4]
          rw [e1, e2] at ht'
          omega
        have e' : t.val + 1 < 2048 := by clear h8 h1; omega
        exact (H.up w _ (by show 1 + (s.val - 1016) < 1024; clear h8 h1; omega) q c hw _ e).trans (FfnSpec.upNext_eq h wu t c e').symm
      · rename_i h1
        have h1' : ¬ s.val - 1016 < 7 := h1
        exact H.up_next w _ (by show 1025 + (s.val - 1016 - 7) = 1025; omega) q c hw t (by clear h8 h1; unfold tok at ht; omega)

/-- A tile holds the gated activation of the tokens its rows hold. -/
theorem Rows.act (wv : FVec Ideal S1024x256 .bf16) (cv : FVec Ideal S3x256 .f32) (wg : FVec Ideal S1024x256 .bf16)
    (cg : FVec Ideal S3x256 .f32) (s : Fin 1024) (q : Fin 256) (c : Fin 2816)
    (hwv : ∀ k, wv (ix2 k q) = wu k ⟨c.val, by omega⟩) (hcv : ∀ a, cv (ix2 a q) = taps a ⟨c.val, by omega⟩)
    (hwg : ∀ k, wg (ix2 k q) = wu k ⟨2816 + c.val, by omega⟩) (hcg : ∀ a, cg (ix2 a q) = taps a ⟨2816 + c.val, by omega⟩)
    (t : Fin 2048) (ht : t.val = i * 1024 + tok s.val) :
    tile (F := Ideal) he wv cv wg cg (ix2 s q) = FfnSpec.act h wu taps t c := by
  unfold FfnSpec.act
  rw [← H.conv wv cv s q _ hwv hcv t ht, ← H.conv wg cg s q _ hwg hcg t ht]
  pointwise [tile]

omit H

/-- The token rows' interleaved copy of the block. -/
theorem pay2_at (x1 : FVec Ideal S1x1024x1024 .bf16) (s k : Fin 1024) :
    k0_pay2 (F := Ideal) x1 (ix2 s k) = x1 (ix3 0 ⟨(s.val % 8) * 128 + s.val / 8, by omega⟩ k) := by
  pointwise [k0_pay2]

/-- A choice made on the equality of two small words is the choice on the numbers. -/
theorem select_eq_word {α : Type} (n k : ℕ) (hn : n < 2 ^ 32) (hk : k < 2 ^ 32) (a b : α) :
    Scalar.select (IntOp.cmpi .eq (BitVec.ofNat 32 n) (BitVec.ofNat 32 k)) a b = if n = k then a else b := by
  have e : (BitVec.ofNat 32 n = BitVec.ofNat 32 k) ↔ n = k := by
    rw [← BitVec.toNat_inj, BitVec.toNat_ofNat, BitVec.toNat_ofNat, Nat.mod_eq_of_lt hn, Nat.mod_eq_of_lt hk]
  by_cases hnk : n = k
  · subst hnk; simp [Scalar.select, IntOp.cmpi]
  · have hw : IntOp.cmpi .eq (BitVec.ofNat 32 n) (BitVec.ofNat 32 k) = 0#1 := by
      show BitVec.ofBool (BitVec.ofNat 32 n == BitVec.ofNat 32 k) = 0#1
      rw [beq_false_of_ne fun x => hnk (e.mp x)]
      rfl
    rw [hw, if_neg hnk]
    rfl

/-- The two rows beside the block: the row before, the row after, zero at the ends. -/
theorem pay4_at (g : grid0.Coords) (x2 x3 : FVec Ideal S1x16x1024 .bf16) (s : Fin 16) (k : Fin 1024) :
    k0_pay4 (k0_pay3 (F := Ideal) g x2 x3) (ix2 s k)
      = if s.val = 0 then (if (g 1).val = 0 then 0 else x2 (ix3 0 15 k)) else
         if s.val = 1 then (if (g 1).val = 1 then 0 else x3 (ix3 0 0 k)) else 0 := by
  have hg : (g 1).val < 2 := (g 1).isLt
  pointwise [k0_pay4, k0_pay3]
  refine (select_eq_word s.val 0 (by omega) (by omega) _ _).trans (if_congr Iff.rfl (select_eq_word (g 1).val 0 (by omega) (by omega) _ _) ?_)
  exact (select_eq_word s.val 1 (by omega) (by omega) _ _).trans (if_congr Iff.rfl (select_eq_word (g 1).val 1 (by omega) (by omega) _ _) rfl)

end Cert.KernelIdeal.Ffn

end
-- ==== Proof.Ffn.lean ====
/-
  The kernel's body at one grid point and its result array: blocks, stores and the feed-forward block of `Spec.lean`.
-/
module

public import proofs.«01_k».proof.Proof.Tile

@[expose] public section

set_option maxRecDepth 16384
noncomputable section
namespace Cert.KernelIdeal.Ffn
open Cert.KernelIdeal Cert.KernelIdeal.Gen Idealize.ShloMosaic Idealize.ShloMosaic.TcCoe Idealize.SL.Sem
open Idealize.ShloMosaic.Pipeline (Dat)

/-- Where each window's block lies. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val * 64 - 1, 0]
    ∧ win0_3.index t = ![(grid0.coords t 0).val, min (((grid0.coords t 1).val + 1) * 64) 127, 0]
    ∧ win0_4.index t = ![(grid0.coords t 0).val, 0, 0] ∧ win0_5.index t = ![0, 0] ∧ win0_6.index t = ![0, 0]
    ∧ win0_7.index t = ![0, 0] ∧ win0_8.index t = ![0, 0]
    ∧ win0_9.index t = ![(grid0.coords t 0).val, (grid0.coords t 1).val, 0] :=
  (by decide +kernel : ∀ t : Fin grid0.N, _)

section Blocks

variable (m : (ℓ : Loc nD τ sig) → Buf (Elt Ideal) ℓ) (c : Dev nD) (t : Fin cfg0.N)

abbrev aX : FVec Ideal S32x2048x1024 .f32 := m ((c.tc : Thread nD τ).loc main_arg0)
abbrev aH : FVec Ideal S32x2048x1024 .f32 := m ((c.tc : Thread nD τ).loc main_arg1)
abbrev aM : FVec Ideal S32x1x6144 .f32 := m ((c.tc : Thread nD τ).loc main_arg2)
abbrev aU : FVec Ideal S1024x5632 .f32 := m ((c.tc : Thread nD τ).loc main_arg3)
abbrev aC : FVec Ideal S3x5632 .f32 := m ((c.tc : Thread nD τ).loc main_arg4)
abbrev aD : FVec Ideal S2816x1024 .f32 := m ((c.tc : Thread nD τ).loc main_arg5)
abbrev aF : FVec Ideal S1024 .f32 := m ((c.tc : Thread nD τ).loc main_arg6)
abbrev row : Fin 32 := ⟨(grid0.coords t 0).val, (grid0.coords t 0).isLt⟩
abbrev half : ℕ := (grid0.coords t 1).val

theorem half_lt : half t < 2 := (grid0.coords t 1).isLt

theorem blk0 (r k : Fin 1024) (u : Fin 2048) (hu : u.val = half t * 1024 + r.val) :
    iblk m c 0 t (ix3 0 r k) = aX m c (ix3 (row t) u k) := by
  change u.val = (grid0.coords t 1).val * 1024 + r.val at hu
  blk_ext [iblk, V, idx t]

theorem blk1 (r k : Fin 1024) (u : Fin 2048) (hu : u.val = half t * 1024 + r.val) :
    iblk m c 1 t (ix3 0 r k) = aH m c (ix3 (row t) u k) := by
  change u.val = (grid0.coords t 1).val * 1024 + r.val at hu
  blk_simp [iblk]
  entry_read
  pointwise
  blk_ext [iblk, V, idx t]

theorem blk2 (k : Fin 1024) (u : Fin 2048) (h0 : half t ≠ 0) (hu : u.val = half t * 1024 - 1) :
    iblk m c 2 t (ix3 0 15 k) = aH m c (ix3 (row t) u k) := by
  blk_simp [iblk]
  entry_read
  pointwise
  blk_ext [iblk, V, idx t]
  change ((grid0.coords t 1).val * 64 - 1) * 16 + 15 = u.val
  change (grid0.coords t 1).val ≠ 0 at h0
  change u.val = (grid0.coords t 1).val * 1024 - 1 at hu
  omega

theorem blk3 (k : Fin 1024) (u : Fin 2048) (h0 : half t ≠ 1) (hu : u.val = (half t + 1) * 1024) :
    iblk m c 3 t (ix3 0 0 k) = aH m c (ix3 (row t) u k) := by
  have h2 := half_lt t
  blk_simp [iblk]
  entry_read
  pointwise
  blk_ext [iblk, V, idx t]
  change (grid0.coords t 1).val ≠ 1 at h0
  change (grid0.coords t 1).val < 2 at h2
  change u.val = ((grid0.coords t 1).val + 1) * 1024 at hu
  omega

theorem blk4 (l : Fin 1024) : k0_pay61 (View.ld (iblk m c 4 t) (Rect.unit ![0, 0, 5120] ![1, 1, 1024] inb_S1x1x6144_S1x1x1024_0_0_5120)) (ix2 0 l)
    = aM m c (ix3 (row t) 0 ⟨5120 + l.val, by omega⟩) := by
  pointwise [k0_pay61]
  blk_ext [iblk, V, idx t]

theorem blk5 (k : Fin 1024) (q : Fin 5632) : iblk m c 5 t (ix2 k q) = aU m c (ix2 k q) := by
  blk_simp [iblk]
  entry_read
  pointwise
  blk_ext [iblk, V, idx t]

theorem blk6 (k : Fin 3) (q : Fin 5632) : iblk m c 6 t (ix2 k q) = aC m c (ix2 k q) := by
  blk_ext [iblk, V, idx t]

theorem blk7 (q : Fin 2816) (l : Fin 1024) : k0_pay62 (iblk m c 7 t) (ix2 q l) = aD m c (ix2 q l) := by
  pointwise [k0_pay62]
  blk_simp [iblk]
  entry_read
  pointwise
  blk_ext [iblk, V, idx t]

theorem blk8 (l : Fin 1024) : iblk m c 8 t (ix2 0 l) = aF m c (ix1 l) := by
  blk_simp [iblk]
  entry_read
  pointwise
  blk_ext [iblk, V, idx t]

end Blocks

/-- The token rows' buffer: the block's interleaved copy and, behind it, the two rows beside the block. -/
theorem rows_he (h : Fin 2048 → Fin 1024 → EReal) (i : ℕ) (hi : i < 2) (hal : FVec Ideal S16x1024 .bf16) (main : FVec Ideal S1024x1024 .bf16)
    (hm : ∀ (s k : Fin 1024) (t : Fin 2048), t.val = i * 1024 + tok s.val → main (ix2 s k) = h t k)
    (hb : ∀ k, i = 0 → hal (ix2 0 k) = 0) (hb' : ∀ k (t : Fin 2048), t.val = i * 1024 - 1 → i ≠ 0 → hal (ix2 0 k) = h t k)
    (hn : ∀ k, i = 1 → hal (ix2 1 k) = 0) (hn' : ∀ k (t : Fin 2048), t.val = (i + 1) * 1024 → i ≠ 1 → hal (ix2 1 k) = h t k) :
    Rows h i ((View.whole cc0_scratch0).readCov (Val := Elt Ideal)
      [⟨Rect.unit ![1024, 0] ![16, 1024] inb_S1040x1024_S16x1024_1024_0, hal⟩, ⟨Rect.unit ![0, 0] ![1024, 1024] inb_S1040x1024_S1024x1024_0_0, main⟩]
      (Rect.unit (s := S1040x1024) ![0, 0] S1040x1024.size inb_S1040x1024_S1040x1024_0_0).toLoadRect) := by
  rw [View.readCov_eq_canon']
  have key : ∀ (s : Fin 1040) (k : Fin 1024) (v : EReal)
      (_ : ∀ s' : Fin 1024, s'.val = s.val → main (ix2 s' k) = v)
      (_ : ∀ s' : Fin 16, 1024 + s'.val = s.val → hal (ix2 s' k) = v),
      View.canon (Val := Elt Ideal) (s := S1040x1024) (e := .bf16)
      [⟨Rect.unit ![1024, 0] ![16, 1024] inb_S1040x1024_S16x1024_1024_0, hal⟩, ⟨Rect.unit ![0, 0] ![1024, 1024] inb_S1040x1024_S1024x1024_0_0, main⟩]
      ((Rect.unit (s := S1040x1024) ![0, 0] S1040x1024.size inb_S1040x1024_S1040x1024_0_0).toLoadRect.idx (ix2 s k)) = v := by
    intro s k v hM hH
    have hk := k.isLt
    have hs := s.isLt
    canon_tiles x h using (by
      by_cases hlt : s.val < 1024
      · refine ⟨⟨Rect.unit (s := S1040x1024) ![0, 0] S1024x1024.size inb_S1040x1024_S1024x1024_0_0, main⟩, List.mem_cons_of_mem _ List.mem_cons_self, ?_⟩
        refine (Rect.mem_set_unit (inb := inb_S1040x1024_S1024x1024_0_0)).mpr fun a => ?_
        match a with
        | 0 => show 0 ≤ 0 + 1 * s.val ∧ 0 + 1 * s.val < 0 + 1024; omega
        | 1 => show 0 ≤ 0 + 1 * k.val ∧ 0 + 1 * k.val < 0 + 1024; omega
      · refine ⟨⟨Rect.unit (s := S1040x1024) ![1024, 0] S16x1024.size inb_S1040x1024_S16x1024_1024_0, hal⟩, List.mem_cons_self, ?_⟩
        refine (Rect.mem_set_unit (inb := inb_S1040x1024_S16x1024_1024_0)).mpr fun a => ?_
        match a with
        | 0 => show 1024 ≤ 0 + 1 * s.val ∧ 0 + 1 * s.val < 1024 + 16; omega
        | 1 => show 0 ≤ 0 + 1 * k.val ∧ 0 + 1 * k.val < 0 + 1024; omega)
    · have e0 : 0 + 1 * s.val = 1024 + (x 0).val := h0
      have e1 : 0 + 1 * k.val = (x 1).val := by first | exact h1 | exact h1.trans (Nat.zero_add _)
      have ex : x = ix2 (x 0) k := by
        funext a
        match a with
        | 0 => rfl
        | 1 => exact Fin.ext (by show (x 1).val = k.val; omega)
      exact (congrArg hal ex).trans (hH (x 0) (by omega))
    · have e0 : 0 + 1 * s.val = (x 0).val := by first | exact h0 | exact h0.trans (Nat.zero_add _)
      have e1 : 0 + 1 * k.val = (x 1).val := by first | exact h1 | exact h1.trans (Nat.zero_add _)
      have ex : x = ix2 (x 0) k := by
        funext a
        match a with
        | 0 => rfl
        | 1 => exact Fin.ext (by show (x 1).val = k.val; omega)
      exact (congrArg main ex).trans (hM (x 0) (by omega))
  refine ⟨hi, ?_, ?_, ?_, ?_, ?_⟩
  · exact fun s hs t ht k => key s k _ (fun s' hs' => hm s' k t (by rw [hs']; exact ht)) (fun s' hs' => by omega)
  · exact fun s hs k h0 => key s k _ (fun s' hs' => by have := s'.isLt; omega) (fun s' hs' => by
      rw [show s' = 0 from Fin.ext (by show s'.val = 0; omega)]; exact hb k h0)
  · exact fun s hs t ht k h0 => key s k _ (fun s' hs' => by have := s'.isLt; omega) (fun s' hs' => by
      rw [show s' = 0 from Fin.ext (by show s'.val = 0; omega)]; exact hb' k t ht h0)
  · exact fun s hs k h0 => key s k _ (fun s' hs' => by have := s'.isLt; omega) (fun s' hs' => by
      rw [show s' = 1 from Fin.ext (by show s'.val = 1; omega)]; exact hn k h0)
  · exact fun s hs t ht k h0 => key s k _ (fun s' hs' => by have := s'.isLt; omega) (fun s' hs' => by
      rw [show s' = 1 from Fin.ext (by show s'.val = 1; omega)]; exact hn' k t ht h0)

theorem pay1_at (g : FVec Ideal S1x1024 .f32) (a : FVec Ideal S1024x2816 .bf16) (w : FVec Ideal S2816x1024 .bf16)
   (x : FVec Ideal S1x1024x1024 .f32) (fg : FVec Ideal S1x1024 .f32) (h : Fin 2048 → Fin 1024 → EReal)
   (wu : Fin 1024 → Fin 5632 → EReal) (taps : Fin 3 → Fin 5632 → EReal)
   (wd : Fin 2816 → Fin 1024 → EReal) (X : Fin 2048 → Fin 1024 → EReal) (G FG : Fin 1024 → EReal) (i : ℕ) (hi : i < 2)
   (hg : ∀ l, g (ix2 0 l) = G l)
   (hw : ∀ q l, w (ix2 q l) = wd q l)
   (hx : ∀ (r : Fin 1024) l (t : Fin 2048), t.val = i * 1024 + r.val → x (ix3 0 r l) = X t l)
   (hf : ∀ l, fg (ix2 0 l) = FG l)
   (ha : ∀ (s : Fin 1024) q (t : Fin 2048), t.val = i * 1024 + tok s.val → a (ix2 s q) = FfnSpec.act h wu taps t q)
   (r l : Fin 1024) (t : Fin 2048) (ht : t.val = i * 1024 + r.val) :
    k0_pay1 (F := Ideal) g a w (constant S1024x1024 FTy.f32 0#32) x fg (ix3 0 r l)
      = FfnSpec.out h wu taps wd X G FG t l := by
  have hr := r.isLt
  have ha' : ∀ (s : Fin 1024) (q : Fin 2816), s.val = r.val % 128 * 8 + r.val / 128 → a (ix2 s q) = FfnSpec.act h wu taps t q :=
    fun s q hs => ha s q t (by unfold tok; omega)
  have hm : ∀ (s : Fin 1024) (l : Fin 1024), s.val = r.val % 128 * 8 + r.val / 128 →
      x (ix3 0 r l) + g (ix2 0 l) * ∑ q : Fin 2816, a (ix2 s q) * w (ix2 q l) = FfnSpec.mix h wu taps wd X G t l := by
    intro s l hs
    unfold FfnSpec.mix
    rw [hx r l t ht, hg l]
    exact congrArg (fun z => X t l + G l * z) (Finset.sum_congr rfl fun q _ => by rw [ha' s q hs, hw q l])
  pointwise [k0_pay1]
  unfold FfnSpec.out
  rw [hm _ l rfl, hf l]
  exact congrArg (fun z => FfnSpec.mix h wu taps wd X G t l * Ideal.rsqrt (Ideal.div z _ + _) * FG l)
    (Finset.sum_congr rfl fun k _ => by rw [hm _ k rfl])

/-- The reference's arrays as plain functions, over the arguments. -/
abbrev fH (m : (ℓ : Loc nD τ sig) → Buf (Elt Ideal) ℓ) (c : Dev nD) (b : Fin 32) : Fin 2048 → Fin 1024 → EReal := fun u k => aH m c (ix3 b u k)
abbrev fX (m : (ℓ : Loc nD τ sig) → Buf (Elt Ideal) ℓ) (c : Dev nD) (b : Fin 32) : Fin 2048 → Fin 1024 → EReal := fun u k => aX m c (ix3 b u k)
abbrev fU (m : (ℓ : Loc nD τ sig) → Buf (Elt Ideal) ℓ) (c : Dev nD) : Fin 1024 → Fin 5632 → EReal := fun k q => aU m c (ix2 k q)
abbrev fC (m : (ℓ : Loc nD τ sig) → Buf (Elt Ideal) ℓ) (c : Dev nD) : Fin 3 → Fin 5632 → EReal := fun k q => aC m c (ix2 k q)
abbrev fD (m : (ℓ : Loc nD τ sig) → Buf (Elt Ideal) ℓ) (c : Dev nD) : Fin 2816 → Fin 1024 → EReal := fun k q => aD m c (ix2 k q)
abbrev fM (m : (ℓ : Loc nD τ sig) → Buf (Elt Ideal) ℓ) (c : Dev nD) (b : Fin 32) : Fin 1024 → EReal := fun l => aM m c (ix3 b 0 ⟨5120 + l.val, by omega⟩)
abbrev fF (m : (ℓ : Loc nD τ sig) → Buf (Elt Ideal) ℓ) (c : Dev nD) : Fin 1024 → EReal := fun l => aF m c (ix1 l)

/-- One stored tile, its columns of the weights and taps given by what each load reads. -/
theorem tile_val (h : Fin 2048 → Fin 1024 → EReal) (wu : Fin 1024 → Fin 5632 → EReal) (taps : Fin 3 → Fin 5632 → EReal) (i : ℕ)
    (he : FVec Ideal S1040x1024 .bf16) (hr : Rows h i he) (o : ℕ)
    (wv : FVec Ideal S1024x256 .bf16) (cv : FVec Ideal S3x256 .f32) (wg : FVec Ideal S1024x256 .bf16) (cg : FVec Ideal S3x256 .f32)
    (hwv : ∀ (k : Fin 1024) (p : Fin 256) (d : Fin 5632), d.val = o + p.val → wv (ix2 k p) = wu k d)
    (hcv : ∀ (k : Fin 3) (p : Fin 256) (d : Fin 5632), d.val = o + p.val → cv (ix2 k p) = taps k d)
    (hwg : ∀ (k : Fin 1024) (p : Fin 256) (d : Fin 5632), d.val = 2816 + o + p.val → wg (ix2 k p) = wu k d)
    (hcg : ∀ (k : Fin 3) (p : Fin 256) (d : Fin 5632), d.val = 2816 + o + p.val → cg (ix2 k p) = taps k d)
    (x : S1024x256.Idx) (s : Fin 1024) (q : Fin 2816) (h0 : s.val = (x 0).val) (h1 : q.val = o + (x 1).val)
    (v : Fin 2048) (hv : v.val = i * 1024 + tok s.val) :
    tile (F := Ideal) he wv cv wg cg x = FfnSpec.act h wu taps v q := by
  have ex : x = ix2 s (x 1) := by
    funext a
    match a with
    | 0 => exact Fin.ext h0.symm
    | 1 => rfl
  refine (congrArg (tile (F := Ideal) he wv cv wg cg) ex).trans ?_
  exact hr.act wv cv wg cg s (x 1) q (fun k => hwv k _ _ h1) (fun k => hcv k _ _ h1)
    (fun k => hwg k _ _ (by show 2816 + q.val = _; omega)) (fun k => hcg k _ _ (by show 2816 + q.val = _; omega)) v hv

/-- Where a load of 256 columns of the weights, or of the taps, reads. -/
theorem idx_w (o : ℕ) (inb : ∀ a, (![0, o] : Fin 2 → ℕ) a + S1024x256.size a ≤ S1024x5632.size a) (k : Fin 1024) (p : Fin 256) (d : Fin 5632)
    (hd : d.val = o + p.val) : (Rect.unit (s := S1024x5632) ![0, o] S1024x256.size inb).toLoadRect.idx (ix2 k p) = ix2 k d := by
  funext a
  match a with
  | 0 => exact Fin.ext (by show 0 + 1 * k.val = k.val; omega)
  | 1 => exact Fin.ext (by show o + 1 * p.val = d.val; omega)

theorem idx_c (o : ℕ) (inb : ∀ a, (![0, o] : Fin 2 → ℕ) a + S3x256.size a ≤ S3x5632.size a) (k : Fin 3) (p : Fin 256) (d : Fin 5632)
    (hd : d.val = o + p.val) : (Rect.unit (s := S3x5632) ![0, o] S3x256.size inb).toLoadRect.idx (ix2 k p) = ix2 k d := by
  funext a
  match a with
  | 0 => exact Fin.ext (by show 0 + 1 * k.val = k.val; omega)
  | 1 => exact Fin.ext (by show o + 1 * p.val = d.val; omega)

/-- A load of the whole activation buffer reads it at the same row and column. -/
theorem at0 (s : Fin 1024) (q : Fin 2816) (n : ℕ)
    (h : ((Rect.unit (s := S1024x2816) ![0, 0] S1024x2816.size inb_S1024x2816_S1024x2816_0_0).toLoadRect.idx (ix2 s q) 0 : ℕ) = n) : s.val = n := by
  have e : 0 + 1 * s.val = n := h
  omega

theorem at1 (s : Fin 1024) (q : Fin 2816) (n : ℕ)
    (h : ((Rect.unit (s := S1024x2816) ![0, 0] S1024x2816.size inb_S1024x2816_S1024x2816_0_0).toLoadRect.idx (ix2 s q) 1 : ℕ) = n) : q.val = n := by
  have e : 0 + 1 * q.val = n := h
  omega

set_option maxHeartbeats 2000000 in
/-- What the body leaves in its result block: the feed-forward block at the point's tokens. -/
theorem out_at (m : (ℓ : Loc nD τ sig) → Buf (Elt Ideal) ℓ) (c : Dev nD) (t : Fin cfg0.N)
    (r l : Fin 1024) (u : Fin 2048) (hu : u.val = half t * 1024 + r.val) :
    outsAt0 m c t (ix3 0 r l)
      = FfnSpec.out (fH m c (row t)) (fU m c) (fC m c) (fD m c) (fX m c (row t)) (fM m c (row t)) (fF m c) u l := by
  unfold outsAt0
  frame_out
  simp only [tile_0, tile_1, tile_2, tile_3, tile_4, tile_5, tile_6, tile_7, tile_8, tile_9, tile_10]
  refine pay1_at _ _ _ _ _ (fH m c (row t)) (fU m c) (fC m c) (fD m c) (fX m c (row t)) (fM m c (row t)) (fF m c)
    (half t) (half_lt t) ?_ ?_ ?_ ?_ ?_ r l u hu
  · exact fun l => blk4 m c t l
  · exact fun q l => blk7 m c t q l
  · exact fun r l u hu => blk0 m c t r l u hu
  · exact fun l => blk8 m c t l
  intro s q v hv
  have hr := rows_he (fH m c (row t)) (half t) (half_lt t) (k0_pay4 (k0_pay3 (grid0.coords t) (iblk m c 2 t) (iblk m c 3 t))) (k0_pay2 (iblk m c 1 t))
    (fun s k u hu => (pay2_at _ s k).trans (blk1 m c t _ k u hu))
    (fun k h0 => (pay4_at _ _ _ 0 k).trans ((if_pos rfl).trans (if_pos h0)))
    (fun k u hu h0 => (pay4_at _ _ _ 0 k).trans ((if_pos rfl).trans ((if_neg h0).trans (blk2 m c t k u h0 hu))))
    (fun k h0 => (pay4_at _ _ _ 1 k).trans ((if_neg (by decide)).trans ((if_pos rfl).trans (if_pos h0))))
    (fun k u hu h0 => (pay4_at _ _ _ 1 k).trans ((if_neg (by decide)).trans ((if_pos rfl).trans ((if_neg h0).trans (blk3 m c t k u h0 hu)))))
  rw [View.readCov_eq_canon']
  canon_tiles x h
  · exact tile_val (fH m c (row t)) (fU m c) (fC m c) (half t) _ hr 2560 _ _ _ _ (fun k p d hd => (congrArg (iblk m c 5 t) (idx_w 2560 inb_S1024x5632_S1024x256_0_2560 k p d hd)).trans (blk5 m c t k d))
      (fun k p d hd => (congrArg (iblk m c 6 t) (idx_c 2560 inb_S3x5632_S3x256_0_2560 k p d hd)).trans (blk6 m c t k d))
      (fun k p d hd => (congrArg (iblk m c 5 t) (idx_w 5376 inb_S1024x5632_S1024x256_0_5376 k p d hd)).trans (blk5 m c t k d))
      (fun k p d hd => (congrArg (iblk m c 6 t) (idx_c 5376 inb_S3x5632_S3x256_0_5376 k p d hd)).trans (blk6 m c t k d))
      x s q (at0 s q _ h0) (at1 s q _ h1) v hv
  · exact tile_val (fH m c (row t)) (fU m c) (fC m c) (half t) _ hr 2304 _ _ _ _ (fun k p d hd => (congrArg (iblk m c 5 t) (idx_w 2304 inb_S1024x5632_S1024x256_0_2304 k p d hd)).trans (blk5 m c t k d))
      (fun k p d hd => (congrArg (iblk m c 6 t) (idx_c 2304 inb_S3x5632_S3x256_0_2304 k p d hd)).trans (blk6 m c t k d))
      (fun k p d hd => (congrArg (iblk m c 5 t) (idx_w 5120 inb_S1024x5632_S1024x256_0_5120 k p d hd)).trans (blk5 m c t k d))
      (fun k p d hd => (congrArg (iblk m c 6 t) (idx_c 5120 inb_S3x5632_S3x256_0_5120 k p d hd)).trans (blk6 m c t k d))
      x s q (at0 s q _ h0) (at1 s q _ h1) v hv
  · exact tile_val (fH m c (row t)) (fU m c) (fC m c) (half t) _ hr 2048 _ _ _ _ (fun k p d hd => (congrArg (iblk m c 5 t) (idx_w 2048 inb_S1024x5632_S1024x256_0_2048 k p d hd)).trans (blk5 m c t k d))
      (fun k p d hd => (congrArg (iblk m c 6 t) (idx_c 2048 inb_S3x5632_S3x256_0_2048 k p d hd)).trans (blk6 m c t k d))
      (fun k p d hd => (congrArg (iblk m c 5 t) (idx_w 4864 inb_S1024x5632_S1024x256_0_4864 k p d hd)).trans (blk5 m c t k d))
      (fun k p d hd => (congrArg (iblk m c 6 t) (idx_c 4864 inb_S3x5632_S3x256_0_4864 k p d hd)).trans (blk6 m c t k d))
      x s q (at0 s q _ h0) (at1 s q _ h1) v hv
  · exact tile_val (fH m c (row t)) (fU m c) (fC m c) (half t) _ hr 1792 _ _ _ _ (fun k p d hd => (congrArg (iblk m c 5 t) (idx_w 1792 inb_S1024x5632_S1024x256_0_1792 k p d hd)).trans (blk5 m c t k d))
      (fun k p d hd => (congrArg (iblk m c 6 t) (idx_c 1792 inb_S3x5632_S3x256_0_1792 k p d hd)).trans (blk6 m c t k d))
      (fun k p d hd => (congrArg (iblk m c 5 t) (idx_w 4608 inb_S1024x5632_S1024x256_0_4608 k p d hd)).trans (blk5 m c t k d))
      (fun k p d hd => (congrArg (iblk m c 6 t) (idx_c 4608 inb_S3x5632_S3x256_0_4608 k p d hd)).trans (blk6 m c t k d))
      x s q (at0 s q _ h0) (at1 s q _ h1) v hv
  · exact tile_val (fH m c (row t)) (fU m c) (fC m c) (half t) _ hr 1536 _ _ _ _ (fun k p d hd => (congrArg (iblk m c 5 t) (idx_w 1536 inb_S1024x5632_S1024x256_0_1536 k p d hd)).trans (blk5 m c t k d))
      (fun k p d hd => (congrArg (iblk m c 6 t) (idx_c 1536 inb_S3x5632_S3x256_0_1536 k p d hd)).trans (blk6 m c t k d))
      (fun k p d hd => (congrArg (iblk m c 5 t) (idx_w 4352 inb_S1024x5632_S1024x256_0_4352 k p d hd)).trans (blk5 m c t k d))
      (fun k p d hd => (congrArg (iblk m c 6 t) (idx_c 4352 inb_S3x5632_S3x256_0_4352 k p d hd)).trans (blk6 m c t k d))
      x s q (at0 s q _ h0) (at1 s q _ h1) v hv
  · exact tile_val (fH m c (row t)) (fU m c) (fC m c) (half t) _ hr 1280 _ _ _ _ (fun k p d hd => (congrArg (iblk m c 5 t) (idx_w 1280 inb_S1024x5632_S1024x256_0_1280 k p d hd)).trans (blk5 m c t k d))
      (fun k p d hd => (congrArg (iblk m c 6 t) (idx_c 1280 inb_S3x5632_S3x256_0_1280 k p d hd)).trans (blk6 m c t k d))
      (fun k p d hd => (congrArg (iblk m c 5 t) (idx_w 4096 inb_S1024x5632_S1024x256_0_4096 k p d hd)).trans (blk5 m c t k d))
      (fun k p d hd => (congrArg (iblk m c 6 t) (idx_c 4096 inb_S3x5632_S3x256_0_4096 k p d hd)).trans (blk6 m c t k d))
      x s q (at0 s q _ h0) (at1 s q _ h1) v hv
  · exact tile_val (fH m c (row t)) (fU m c) (fC m c) (half t) _ hr 1024 _ _ _ _ (fun k p d hd => (congrArg (iblk m c 5 t) (idx_w 1024 inb_S1024x5632_S1024x256_0_1024 k p d hd)).trans (blk5 m c t k d))
      (fun k p d hd => (congrArg (iblk m c 6 t) (idx_c 1024 inb_S3x5632_S3x256_0_1024 k p d hd)).trans (blk6 m c t k d))
      (fun k p d hd => (congrArg (iblk m c 5 t) (idx_w 3840 inb_S1024x5632_S1024x256_0_3840 k p d hd)).trans (blk5 m c t k d))
      (fun k p d hd => (congrArg (iblk m c 6 t) (idx_c 3840 inb_S3x5632_S3x256_0_3840 k p d hd)).trans (blk6 m c t k d))
      x s q (at0 s q _ h0) (at1 s q _ h1) v hv
  · exact tile_val (fH m c (row t)) (fU m c) (fC m c) (half t) _ hr 768 _ _ _ _ (fun k p d hd => (congrArg (iblk m c 5 t) (idx_w 768 inb_S1024x5632_S1024x256_0_768 k p d hd)).trans (blk5 m c t k d))
      (fun k p d hd => (congrArg (iblk m c 6 t) (idx_c 768 inb_S3x5632_S3x256_0_768 k p d hd)).trans (blk6 m c t k d))
      (fun k p d hd => (congrArg (iblk m c 5 t) (idx_w 3584 inb_S1024x5632_S1024x256_0_3584 k p d hd)).trans (blk5 m c t k d))
      (fun k p d hd => (congrArg (iblk m c 6 t) (idx_c 3584 inb_S3x5632_S3x256_0_3584 k p d hd)).trans (blk6 m c t k d))
      x s q (at0 s q _ h0) (at1 s q _ h1) v hv
  · exact tile_val (fH m c (row t)) (fU m c) (fC m c) (half t) _ hr 512 _ _ _ _ (fun k p d hd => (congrArg (iblk m c 5 t) (idx_w 512 inb_S1024x5632_S1024x256_0_512 k p d hd)).trans (blk5 m c t k d))
      (fun k p d hd => (congrArg (iblk m c 6 t) (idx_c 512 inb_S3x5632_S3x256_0_512 k p d hd)).trans (blk6 m c t k d))
      (fun k p d hd => (congrArg (iblk m c 5 t) (idx_w 3328 inb_S1024x5632_S1024x256_0_3328 k p d hd)).trans (blk5 m c t k d))
      (fun k p d hd => (congrArg (iblk m c 6 t) (idx_c 3328 inb_S3x5632_S3x256_0_3328 k p d hd)).trans (blk6 m c t k d))
      x s q (at0 s q _ h0) (at1 s q _ h1) v hv
  · exact tile_val (fH m c (row t)) (fU m c) (fC m c) (half t) _ hr 256 _ _ _ _ (fun k p d hd => (congrArg (iblk m c 5 t) (idx_w 256 inb_S1024x5632_S1024x256_0_256 k p d hd)).trans (blk5 m c t k d))
      (fun k p d hd => (congrArg (iblk m c 6 t) (idx_c 256 inb_S3x5632_S3x256_0_256 k p d hd)).trans (blk6 m c t k d))
      (fun k p d hd => (congrArg (iblk m c 5 t) (idx_w 3072 inb_S1024x5632_S1024x256_0_3072 k p d hd)).trans (blk5 m c t k d))
      (fun k p d hd => (congrArg (iblk m c 6 t) (idx_c 3072 inb_S3x5632_S3x256_0_3072 k p d hd)).trans (blk6 m c t k d))
      x s q (at0 s q _ h0) (at1 s q _ h1) v hv
  · exact tile_val (fH m c (row t)) (fU m c) (fC m c) (half t) _ hr 0 _ _ _ _ (fun k p d hd => (congrArg (iblk m c 5 t) (idx_w 0 inb_S1024x5632_S1024x256_0_0 k p d hd)).trans (blk5 m c t k d))
      (fun k p d hd => (congrArg (iblk m c 6 t) (idx_c 0 inb_S3x5632_S3x256_0_0 k p d hd)).trans (blk6 m c t k d))
      (fun k p d hd => (congrArg (iblk m c 5 t) (idx_w 2816 inb_S1024x5632_S1024x256_0_2816 k p d hd)).trans (blk5 m c t k d))
      (fun k p d hd => (congrArg (iblk m c 6 t) (idx_c 2816 inb_S3x5632_S3x256_0_2816 k p d hd)).trans (blk6 m c t k d))
      x s q (at0 s q _ h0) ((at1 s q _ h1).trans (Nat.zero_add _).symm) v hv

/-- The result array after the run, at every token and channel. -/
theorem final (m : (ℓ : Loc nD τ sig) → Buf (Elt Ideal) ℓ) (c : Dev nD) (R : FVec Ideal S32x2048x1024 .f32)
    (hR : ∀ (b : Fin 32) (u : Fin 2048) (l : Fin 1024),
      R (ix3 b u l) = FfnSpec.out (fH m c b) (fU m c) (fC m c) (fD m c) (fX m c b) (fM m c b) (fF m c) u l) :
    (dats m 0 c).arrAt 9 cfg0.N = R := by
  refine (dats m 0 c).arrAt_eq_of_covers 9 _ (by decide +kernel) fun t _ y => ?_
  blk_simp
  rw [after0_9]
  have e : y = (ix3 0 (⟨(y 1).val, (y 1).isLt⟩ : Fin 1024) (⟨(y 2).val, (y 2).isLt⟩ : Fin 1024) : S1x1024x1024.Idx) := by
    funext a
    match a with
    | 0 => exact Fin.ext (by have h : (y 0).val < 1 := (y 0).isLt; show (y 0).val = 0; omega)
    | 1 => rfl
    | 2 => rfl
  have h1 : (y 1).val < 1024 := (y 1).isLt
  have h2 := half_lt t
  refine (congrArg (outsAt0 m c t) e).trans ((out_at m c t _ _ ⟨half t * 1024 + (y 1).val, by omega⟩ rfl).trans ((hR (row t) _ _).symm.trans (congrArg R ?_)))
  blk_ext [idx t]

end Cert.KernelIdeal.Ffn

end
-- ==== Proof.RefValue.lean ====
/-
  The reference's result, stage by stage and read at an index: it is the feed-forward block of `Spec.lean` at every token.
-/
module

public import proofs.«01_k».proof.Proof.Gen.ReferenceIdeal.Run
public import proofs.«01_k».proof.Proof.Spec

@[expose] public section

set_option maxRecDepth 16384

noncomputable section

namespace Cert.ReferenceIdeal.RefValue

open Cert.ReferenceIdeal Cert.ReferenceIdeal.Gen Idealize.ShloMosaic Idealize.ShloMosaic.TcCoe Idealize.SL.Sem

/-- The up-projection of every token, with one row of zeros before the first and after the last. -/
def UPP (H : FVec Ideal S32x2048x1024 .f32) (WU : FVec Ideal S1024x5632 .f32) : FVec Ideal S32x2050x5632 .f32 :=
  pad S32x2050x5632 ![0, 1, 0] ![0, 1, 0] ![0, 0, 0] (Host.dotGeneral dot_S32x2048x1024_S1024x5632_S32x2048x5632_2_0_01_1_n_n none H WU) (sitofp .f32 (constantI S_ 32 0#32)) pads_S32x2048x5632_S32x2050x5632_000_110_000 h_S_

/-- The convolution: three shifted copies of the padded rows, each times its tap. -/
def CONV (H : FVec Ideal S32x2048x1024 .f32) (WU : FVec Ideal S1024x5632 .f32) (CW : FVec Ideal S3x5632 .f32) : FVec Ideal S32x2048x5632 .f32 :=
  addf (addf
    (mulf (extractStridedSlice S32x2048x5632 ![0, 0, 0] (UPP H WU) slices_S32x2050x5632_S32x2048x5632_0_0_0) (broadcastInDim S32x2048x5632 ![0, 1, 2] bcast_S1x1x5632_S32x2048x5632_0_1_2 (broadcastInDim S1x1x5632 ![2] bcast_S5632_S1x1x5632_2 (shapeCast _ (extractStridedSlice S1x5632 ![0, 0] CW slices_S3x5632_S1x5632_0_0) shapeCasts_S1x5632_S5632))))
    (mulf (extractStridedSlice S32x2048x5632 ![0, 1, 0] (UPP H WU) slices_S32x2050x5632_S32x2048x5632_0_1_0) (broadcastInDim S32x2048x5632 ![0, 1, 2] bcast_S1x1x5632_S32x2048x5632_0_1_2 (broadcastInDim S1x1x5632 ![2] bcast_S5632_S1x1x5632_2 (shapeCast _ (extractStridedSlice S1x5632 ![1, 0] CW slices_S3x5632_S1x5632_1_0) shapeCasts_S1x5632_S5632)))))
    (mulf (extractStridedSlice S32x2048x5632 ![0, 2, 0] (UPP H WU) slices_S32x2050x5632_S32x2048x5632_0_2_0) (broadcastInDim S32x2048x5632 ![0, 1, 2] bcast_S1x1x5632_S32x2048x5632_0_1_2 (broadcastInDim S1x1x5632 ![2] bcast_S5632_S1x1x5632_2 (shapeCast _ (extractStridedSlice S1x5632 ![2, 0] CW slices_S3x5632_S1x5632_2_0) shapeCasts_S1x5632_S5632))))

/-- The gate half of the convolution. -/
def GATE (H : FVec Ideal S32x2048x1024 .f32) (WU : FVec Ideal S1024x5632 .f32) (CW : FVec Ideal S3x5632 .f32) : FVec Ideal S32x2048x2816 .f32 :=
  extractStridedSlice S32x2048x2816 ![0, 0, 2816] (CONV H WU CW) slices_S32x2048x5632_S32x2048x2816_0_0_2816

/-- The gated activation. -/
def ACT (H : FVec Ideal S32x2048x1024 .f32) (WU : FVec Ideal S1024x5632 .f32) (CW : FVec Ideal S3x5632 .f32) : FVec Ideal S32x2048x2816 .f32 :=
  mulf (extractStridedSlice S32x2048x2816 ![0, 0, 0] (CONV H WU CW) slices_S32x2048x5632_S32x2048x2816_0_0_0)
    (mulf (GATE H WU CW) (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf (GATE H WU CW))))))

/-- The residual sum. -/
def MIX (X H : FVec Ideal S32x2048x1024 .f32) (MD : FVec Ideal S32x1x6144 .f32) (WU : FVec Ideal S1024x5632 .f32) (CW : FVec Ideal S3x5632 .f32)
    (WD : FVec Ideal S2816x1024 .f32) : FVec Ideal S32x2048x1024 .f32 :=
  addf X (mulf (broadcastInDim S32x2048x1024 ![0, 1, 2] bcast_S32x1x1024_S32x2048x1024_0_1_2 (extractStridedSlice S32x1x1024 ![0, 0, 5120] MD slices_S32x1x6144_S32x1x1024_0_0_5120)) (Host.dotGeneral dot_S32x2048x2816_S2816x1024_S32x2048x1024_2_0_01_1_n_n none (ACT H WU CW) WD))

/-- The reference's result over its argument arrays. -/
def REF (X H : FVec Ideal S32x2048x1024 .f32) (MD : FVec Ideal S32x1x6144 .f32) (WU : FVec Ideal S1024x5632 .f32) (CW : FVec Ideal S3x5632 .f32)
    (WD : FVec Ideal S2816x1024 .f32) (FG : FVec Ideal S1024 .f32) : FVec Ideal S32x2048x1024 .f32 :=
  mulf (mulf (MIX X H MD WU CW WD) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (MIX X H MD WU CW WD) (MIX X H MD WU CW WD)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 FG))

variable (m : (ℓ : Loc nD τ sig) → Buf (Elt Ideal) ℓ)

/-- The run's result is the staged term. -/
theorem res_eq (c : Dev nD) : Value.res_main_v48 m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

variable (X H : FVec Ideal S32x2048x1024 .f32) (MD : FVec Ideal S32x1x6144 .f32) (WU : FVec Ideal S1024x5632 .f32) (CW : FVec Ideal S3x5632 .f32)
    (WD : FVec Ideal S2816x1024 .f32) (FG : FVec Ideal S1024 .f32)

/-- An array's row of batch `b`, and a matrix, as plain functions. -/
abbrev rows (A : FVec Ideal S32x2048x1024 .f32) (b : Fin 32) : Fin 2048 → Fin 1024 → EReal := fun t k => A (ix3 b t k)
abbrev wuF : Fin 1024 → Fin 5632 → EReal := fun k q => WU (ix2 k q)
abbrev cwF : Fin 3 → Fin 5632 → EReal := fun k q => CW (ix2 k q)
abbrev wdF : Fin 2816 → Fin 1024 → EReal := fun k q => WD (ix2 k q)
abbrev gF (b : Fin 32) : Fin 1024 → EReal := fun l => MD (ix3 b 0 ⟨5120 + l.val, by omega⟩)
abbrev fgF : Fin 1024 → EReal := fun l => FG (ix1 l)

theorem conv_at (b : Fin 32) (t : Fin 2048) (q : Fin 5632) :
    CONV H WU CW (ix3 b t q) = FfnSpec.conv (rows H b) (wuF WU) (cwF CW) t q := by
  have ht := t.isLt
  pointwise [CONV, UPP]
  unfold FfnSpec.conv
  refine congrArg₂ (· + ·) (congrArg₂ (· + ·) (congrArg (· * _) ?_) rfl) (congrArg (· * _) ?_)
  · split
    · rename_i h1
      exact (FfnSpec.upPrev_eq (rows H b) (wuF WU) t q (by omega)).symm
    · rename_i h1
      unfold FfnSpec.upPrev
      rw [if_pos (by omega)]
      show ((((0#32 : BitVec 32).toInt : ℤ) : ℝ) : EReal) = 0
      simp
  · split
    · rename_i h1
      refine Eq.trans ?_ (FfnSpec.upNext_eq (rows H b) (wuF WU) t q (by omega)).symm
      have e : (⟨2 + t.val - 1, by omega⟩ : Fin 2048) = ⟨t.val + 1, by omega⟩ := Fin.ext (by show 2 + t.val - 1 = t.val + 1; omega)
      exact congrArg (fun a => FfnSpec.up (rows H b) (wuF WU) a q) e
    · rename_i h1
      unfold FfnSpec.upNext
      rw [dif_neg (by omega)]
      show ((((0#32 : BitVec 32).toInt : ℤ) : ℝ) : EReal) = 0
      simp

theorem act_at (b : Fin 32) (t : Fin 2048) (q : Fin 2816) :
    ACT H WU CW (ix3 b t q) = FfnSpec.act (rows H b) (wuF WU) (cwF CW) t q := by
  unfold FfnSpec.act
  rw [← conv_at, ← conv_at]
  pointwise [ACT, GATE]
  rfl

theorem mix_at (b : Fin 32) (t : Fin 2048) (l : Fin 1024) :
    MIX X H MD WU CW WD (ix3 b t l) = FfnSpec.mix (rows H b) (wuF WU) (cwF CW) (wdF WD) (rows X b) (gF MD b) t l := by
  unfold FfnSpec.mix
  simp only [← act_at]
  pointwise [MIX]

/-- The reference at a token and channel. -/
theorem ref_at (b : Fin 32) (t : Fin 2048) (l : Fin 1024) :
    REF X H MD WU CW WD FG (ix3 b t l) = FfnSpec.out (rows H b) (wuF WU) (cwF CW) (wdF WD) (rows X b) (gF MD b) (fgF FG) t l := by
  unfold FfnSpec.out
  simp only [← mix_at]
  pointwise [REF]

end Cert.ReferenceIdeal.RefValue

end
-- ==== Proof.FfnInner.lean ====
/-
  The other layer's feed-forward kernel: the same tiles as `Tile.lean`, and the residual sum without a normalisation after it.
-/
module

public import proofs.«01_k».proof.Proof.Gen.InnerIdeal.Value
public import proofs.«01_k».proof.Proof.Gen.InnerReferenceIdeal.Run
public import proofs.«01_k».proof.Proof.Ffn
public import proofs.«01_k».proof.Proof.RefValue

@[expose] public section

set_option maxRecDepth 16384
noncomputable section
namespace Cert.InnerIdeal.Ffn
open Cert.InnerIdeal Cert.InnerIdeal.Gen Idealize.ShloMosaic Idealize.ShloMosaic.TcCoe Idealize.SL.Sem
open Idealize.ShloMosaic.Pipeline (Dat)
open Cert.KernelIdeal.Ffn (tok Rows tile_val pay2_at pay4_at idx_w idx_c at0 at1)

section Payloads

variable {F : FTy → Type} [FloatOps F]

variable (he : FVec F S1040x1024 .bf16) (wv : FVec F S1024x256 .bf16) (cv : FVec F S3x256 .f32) (wg : FVec F S1024x256 .bf16)
    (cg : FVec F S3x256 .f32)

/- The eleven stores of the body each write such a tile, however their operations are grouped. -/
theorem tile_0 : k0_pay11 (k0_pay5 he wv cv) cg (k0_pay7 he wg) (k0_pay8 he wg) (k0_pay9 he wg cg) (k0_pay10 cg) = Cert.KernelIdeal.Ffn.tile he wv cv wg cg := rfl
theorem tile_1 : k0_pay14 (k0_pay12 he wv cv) (k0_pay13 he wg) cg = Cert.KernelIdeal.Ffn.tile he wv cv wg cg := rfl
theorem tile_2 : k0_pay20 he cv (k0_pay16 he wv) (k0_pay17 he wv) (k0_pay18 he wv cv) (k0_pay19 cv) wg cg = Cert.KernelIdeal.Ffn.tile he wv cv wg cg := rfl
theorem tile_3 : k0_pay24 (k0_pay23 he (k0_pay21 he wv) cv (k0_pay22 he wv) wg cg) = Cert.KernelIdeal.Ffn.tile he wv cv wg cg := rfl
theorem tile_4 : k0_pay31 (k0_pay25 he wv cv) cg (k0_pay27 he wg) (k0_pay28 he wg) (k0_pay29 he wg cg) (k0_pay30 cg) = Cert.KernelIdeal.Ffn.tile he wv cv wg cg := rfl
theorem tile_5 : k0_pay34 (k0_pay32 he wv cv) (k0_pay33 he wg) cg = Cert.KernelIdeal.Ffn.tile he wv cv wg cg := rfl
theorem tile_6 : k0_pay40 he cv (k0_pay36 he wv) (k0_pay37 he wv) (k0_pay38 he wv cv) (k0_pay39 cv) wg cg = Cert.KernelIdeal.Ffn.tile he wv cv wg cg := rfl
theorem tile_7 : k0_pay44 (k0_pay43 he (k0_pay41 he wv) cv (k0_pay42 he wv) wg cg) = Cert.KernelIdeal.Ffn.tile he wv cv wg cg := rfl
theorem tile_8 : k0_pay51 (k0_pay45 he wv cv) cg (k0_pay47 he wg) (k0_pay48 he wg) (k0_pay49 he wg cg) (k0_pay50 cg) = Cert.KernelIdeal.Ffn.tile he wv cv wg cg := rfl
theorem tile_9 : k0_pay54 (k0_pay52 he wv cv) (k0_pay53 he wg) cg = Cert.KernelIdeal.Ffn.tile he wv cv wg cg := rfl
theorem tile_10 : k0_pay60 he cv (k0_pay56 he wv) (k0_pay57 he wv) (k0_pay58 he wv cv) (k0_pay59 cv) wg cg = Cert.KernelIdeal.Ffn.tile he wv cv wg cg := rfl

end Payloads

/-- Where each window's block lies. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val * 64 - 1, 0]
    ∧ win0_3.index t = ![(grid0.coords t 0).val, min (((grid0.coords t 1).val + 1) * 64) 127, 0]
    ∧ win0_4.index t = ![(grid0.coords t 0).val, 0, 0] ∧ win0_5.index t = ![0, 0] ∧ win0_6.index t = ![0, 0]
    ∧ win0_7.index t = ![0, 0] ∧ win0_8.index t = ![(grid0.coords t 0).val, (grid0.coords t 1).val, 0] :=
  (by decide +kernel : ∀ t : Fin grid0.N, _)

theorem rows_he (h : Fin 2048 → Fin 1024 → EReal) (i : ℕ) (hi : i < 2) (hal : FVec Ideal S16x1024 .bf16) (main : FVec Ideal S1024x1024 .bf16)
    (hm : ∀ (s k : Fin 1024) (t : Fin 2048), t.val = i * 1024 + tok s.val → main (ix2 s k) = h t k)
    (hb : ∀ k, i = 0 → hal (ix2 0 k) = 0) (hb' : ∀ k (t : Fin 2048), t.val = i * 1024 - 1 → i ≠ 0 → hal (ix2 0 k) = h t k)
    (hn : ∀ k, i = 1 → hal (ix2 1 k) = 0) (hn' : ∀ k (t : Fin 2048), t.val = (i + 1) * 1024 → i ≠ 1 → hal (ix2 1 k) = h t k) :
    Rows h i ((View.whole cc0_scratch0).readCov (Val := Elt Ideal)
      [⟨Rect.unit ![1024, 0] ![16, 1024] inb_S1040x1024_S16x1024_1024_0, hal⟩, ⟨Rect.unit ![0, 0] ![1024, 1024] inb_S1040x1024_S1024x1024_0_0, main⟩]
      (Rect.unit (s := S1040x1024) ![0, 0] S1040x1024.size inb_S1040x1024_S1040x1024_0_0).toLoadRect) := by
  have r := Cert.KernelIdeal.Ffn.rows_he h i hi hal main hm hb hb' hn hn'
  rw [View.readCov_eq_canon'] at r ⊢
  exact r

section Blocks

variable (m : (ℓ : Loc nD τ sig) → Buf (Elt Ideal) ℓ) (c : Dev nD) (t : Fin cfg0.N)

abbrev aX : FVec Ideal S32x2048x1024 .f32 := m ((c.tc : Thread nD τ).loc main_arg0)
abbrev aH : FVec Ideal S32x2048x1024 .f32 := m ((c.tc : Thread nD τ).loc main_arg1)
abbrev aM : FVec Ideal S32x1x6144 .f32 := m ((c.tc : Thread nD τ).loc main_arg2)
abbrev aU : FVec Ideal S1024x5632 .f32 := m ((c.tc : Thread nD τ).loc main_arg3)
abbrev aC : FVec Ideal S3x5632 .f32 := m ((c.tc : Thread nD τ).loc main_arg4)
abbrev aD : FVec Ideal S2816x1024 .f32 := m ((c.tc : Thread nD τ).loc main_arg5)
abbrev row : Fin 32 := ⟨(grid0.coords t 0).val, (grid0.coords t 0).isLt⟩
abbrev half : ℕ := (grid0.coords t 1).val

theorem half_lt : half t < 2 := (grid0.coords t 1).isLt

theorem blk0 (r k : Fin 1024) (u : Fin 2048) (hu : u.val = half t * 1024 + r.val) :
    iblk m c 0 t (ix3 0 r k) = aX m c (ix3 (row t) u k) := by
  change u.val = (grid0.coords t 1).val * 1024 + r.val at hu
  blk_ext [iblk, V, idx t]

theorem blk1 (r k : Fin 1024) (u : Fin 2048) (hu : u.val = half t * 1024 + r.val) :
    iblk m c 1 t (ix3 0 r k) = aH m c (ix3 (row t) u k) := by
  change u.val = (grid0.coords t 1).val * 1024 + r.val at hu
  blk_simp [iblk]
  entry_read
  pointwise
  blk_ext [iblk, V, idx t]

theorem blk2 (k : Fin 1024) (u : Fin 2048) (h0 : half t ≠ 0) (hu : u.val = half t * 1024 - 1) :
    iblk m c 2 t (ix3 0 15 k) = aH m c (ix3 (row t) u k) := by
  blk_simp [iblk]
  entry_read
  pointwise
  blk_ext [iblk, V, idx t]
  change ((grid0.coords t 1).val * 64 - 1) * 16 + 15 = u.val
  change (grid0.coords t 1).val ≠ 0 at h0
  change u.val = (grid0.coords t 1).val * 1024 - 1 at hu
  omega

theorem blk3 (k : Fin 1024) (u : Fin 2048) (h0 : half t ≠ 1) (hu : u.val = (half t + 1) * 1024) :
    iblk m c 3 t (ix3 0 0 k) = aH m c (ix3 (row t) u k) := by
  have h2 := half_lt t
  blk_simp [iblk]
  entry_read
  pointwise
  blk_ext [iblk, V, idx t]
  change (grid0.coords t 1).val ≠ 1 at h0
  change (grid0.coords t 1).val < 2 at h2
  change u.val = ((grid0.coords t 1).val + 1) * 1024 at hu
  omega

theorem blk4 (l : Fin 1024) : k0_pay61 (View.ld (iblk m c 4 t) (Rect.unit ![0, 0, 5120] ![1, 1, 1024] inb_S1x1x6144_S1x1x1024_0_0_5120)) (ix2 0 l)
    = aM m c (ix3 (row t) 0 ⟨5120 + l.val, by omega⟩) := by
  pointwise [k0_pay61]
  blk_ext [iblk, V, idx t]

theorem blk5 (k : Fin 1024) (q : Fin 5632) : iblk m c 5 t (ix2 k q) = aU m c (ix2 k q) := by
  blk_simp [iblk]
  entry_read
  pointwise
  blk_ext [iblk, V, idx t]

theorem blk6 (k : Fin 3) (q : Fin 5632) : iblk m c 6 t (ix2 k q) = aC m c (ix2 k q) := by
  blk_ext [iblk, V, idx t]

theorem blk7 (q : Fin 2816) (l : Fin 1024) : k0_pay62 (iblk m c 7 t) (ix2 q l) = aD m c (ix2 q l) := by
  pointwise [k0_pay62]
  blk_simp [iblk]
  entry_read
  pointwise
  blk_ext [iblk, V, idx t]

end Blocks

theorem pay1_at (g : FVec Ideal S1x1024 .f32) (a : FVec Ideal S1024x2816 .bf16) (w : FVec Ideal S2816x1024 .bf16)
   (x : FVec Ideal S1x1024x1024 .f32) (h : Fin 2048 → Fin 1024 → EReal)
   (wu : Fin 1024 → Fin 5632 → EReal) (taps : Fin 3 → Fin 5632 → EReal)
   (wd : Fin 2816 → Fin 1024 → EReal) (X : Fin 2048 → Fin 1024 → EReal) (G : Fin 1024 → EReal) (i : ℕ) (hi : i < 2)
   (hg : ∀ l, g (ix2 0 l) = G l)
   (hw : ∀ q l, w (ix2 q l) = wd q l)
   (hx : ∀ (r : Fin 1024) l (t : Fin 2048), t.val = i * 1024 + r.val → x (ix3 0 r l) = X t l)
   (ha : ∀ (s : Fin 1024) q (t : Fin 2048), t.val = i * 1024 + tok s.val → a (ix2 s q) = FfnSpec.act h wu taps t q)
   (r l : Fin 1024) (t : Fin 2048) (ht : t.val = i * 1024 + r.val) :
    k0_pay1 (F := Ideal) g a w (constant S1024x1024 FTy.f32 0#32) x (ix3 0 r l)
      = FfnSpec.mix h wu taps wd X G t l := by
  have hr := r.isLt
  have ha' : ∀ (s : Fin 1024) (q : Fin 2816), s.val = r.val % 128 * 8 + r.val / 128 → a (ix2 s q) = FfnSpec.act h wu taps t q :=
    fun s q hs => ha s q t (by unfold tok; omega)
  have hm : ∀ (s : Fin 1024) (l : Fin 1024), s.val = r.val % 128 * 8 + r.val / 128 →
      x (ix3 0 r l) + g (ix2 0 l) * ∑ q : Fin 2816, a (ix2 s q) * w (ix2 q l) = FfnSpec.mix h wu taps wd X G t l := by
    intro s l hs
    unfold FfnSpec.mix
    rw [hx r l t ht, hg l]
    exact congrArg (fun z => X t l + G l * z) (Finset.sum_congr rfl fun q _ => by rw [ha' s q hs, hw q l])
  pointwise [k0_pay1]
  exact hm _ l rfl

/-- The reference's arrays as plain functions, over the arguments. -/
abbrev fH (m : (ℓ : Loc nD τ sig) → Buf (Elt Ideal) ℓ) (c : Dev nD) (b : Fin 32) : Fin 2048 → Fin 1024 → EReal := fun u k => aH m c (ix3 b u k)
abbrev fX (m : (ℓ : Loc nD τ sig) → Buf (Elt Ideal) ℓ) (c : Dev nD) (b : Fin 32) : Fin 2048 → Fin 1024 → EReal := fun u k => aX m c (ix3 b u k)
abbrev fU (m : (ℓ : Loc nD τ sig) → Buf (Elt Ideal) ℓ) (c : Dev nD) : Fin 1024 → Fin 5632 → EReal := fun k q => aU m c (ix2 k q)
abbrev fC (m : (ℓ : Loc nD τ sig) → Buf (Elt Ideal) ℓ) (c : Dev nD) : Fin 3 → Fin 5632 → EReal := fun k q => aC m c (ix2 k q)
abbrev fD (m : (ℓ : Loc nD τ sig) → Buf (Elt Ideal) ℓ) (c : Dev nD) : Fin 2816 → Fin 1024 → EReal := fun k q => aD m c (ix2 k q)
abbrev fM (m : (ℓ : Loc nD τ sig) → Buf (Elt Ideal) ℓ) (c : Dev nD) (b : Fin 32) : Fin 1024 → EReal := fun l => aM m c (ix3 b 0 ⟨5120 + l.val, by omega⟩)
set_option maxHeartbeats 2000000 in
/-- What the body leaves in its result block: the feed-forward block at the point's tokens. -/
theorem out_at (m : (ℓ : Loc nD τ sig) → Buf (Elt Ideal) ℓ) (c : Dev nD) (t : Fin cfg0.N)
    (r l : Fin 1024) (u : Fin 2048) (hu : u.val = half t * 1024 + r.val) :
    outsAt0 m c t (ix3 0 r l)
      = FfnSpec.mix (fH m c (row t)) (fU m c) (fC m c) (fD m c) (fX m c (row t)) (fM m c (row t)) u l := by
  unfold outsAt0
  frame_out
  simp only [tile_0, tile_1, tile_2, tile_3, tile_4, tile_5, tile_6, tile_7, tile_8, tile_9, tile_10]
  refine pay1_at _ _ _ _ (fH m c (row t)) (fU m c) (fC m c) (fD m c) (fX m c (row t)) (fM m c (row t))
    (half t) (half_lt t) ?_ ?_ ?_ ?_ r l u hu
  · exact fun l => blk4 m c t l
  · exact fun q l => blk7 m c t q l
  · exact fun r l u hu => blk0 m c t r l u hu
  intro s q v hv
  have hr := rows_he (fH m c (row t)) (half t) (half_lt t) (k0_pay4 (k0_pay3 (grid0.coords t) (iblk m c 2 t) (iblk m c 3 t))) (k0_pay2 (iblk m c 1 t))
    (fun s k u hu => (pay2_at _ s k).trans (blk1 m c t _ k u hu))
    (fun k h0 => (pay4_at _ _ _ 0 k).trans ((if_pos rfl).trans (if_pos h0)))
    (fun k u hu h0 => (pay4_at _ _ _ 0 k).trans ((if_pos rfl).trans ((if_neg h0).trans (blk2 m c t k u h0 hu))))
    (fun k h0 => (pay4_at _ _ _ 1 k).trans ((if_neg (by decide)).trans ((if_pos rfl).trans (if_pos h0))))
    (fun k u hu h0 => (pay4_at _ _ _ 1 k).trans ((if_neg (by decide)).trans ((if_pos rfl).trans ((if_neg h0).trans (blk3 m c t k u h0 hu)))))
  rw [View.readCov_eq_canon']
  canon_tiles x h
  · exact tile_val (fH m c (row t)) (fU m c) (fC m c) (half t) _ hr 2560 _ _ _ _ (fun k p d hd => (congrArg (iblk m c 5 t) (idx_w 2560 inb_S1024x5632_S1024x256_0_2560 k p d hd)).trans (blk5 m c t k d))
      (fun k p d hd => (congrArg (iblk m c 6 t) (idx_c 2560 inb_S3x5632_S3x256_0_2560 k p d hd)).trans (blk6 m c t k d))
      (fun k p d hd => (congrArg (iblk m c 5 t) (idx_w 5376 inb_S1024x5632_S1024x256_0_5376 k p d hd)).trans (blk5 m c t k d))
      (fun k p d hd => (congrArg (iblk m c 6 t) (idx_c 5376 inb_S3x5632_S3x256_0_5376 k p d hd)).trans (blk6 m c t k d))
      x s q (at0 s q _ h0) (at1 s q _ h1) v hv
  · exact tile_val (fH m c (row t)) (fU m c) (fC m c) (half t) _ hr 2304 _ _ _ _ (fun k p d hd => (congrArg (iblk m c 5 t) (idx_w 2304 inb_S1024x5632_S1024x256_0_2304 k p d hd)).trans (blk5 m c t k d))
      (fun k p d hd => (congrArg (iblk m c 6 t) (idx_c 2304 inb_S3x5632_S3x256_0_2304 k p d hd)).trans (blk6 m c t k d))
      (fun k p d hd => (congrArg (iblk m c 5 t) (idx_w 5120 inb_S1024x5632_S1024x256_0_5120 k p d hd)).trans (blk5 m c t k d))
      (fun k p d hd => (congrArg (iblk m c 6 t) (idx_c 5120 inb_S3x5632_S3x256_0_5120 k p d hd)).trans (blk6 m c t k d))
      x s q (at0 s q _ h0) (at1 s q _ h1) v hv
  · exact tile_val (fH m c (row t)) (fU m c) (fC m c) (half t) _ hr 2048 _ _ _ _ (fun k p d hd => (congrArg (iblk m c 5 t) (idx_w 2048 inb_S1024x5632_S1024x256_0_2048 k p d hd)).trans (blk5 m c t k d))
      (fun k p d hd => (congrArg (iblk m c 6 t) (idx_c 2048 inb_S3x5632_S3x256_0_2048 k p d hd)).trans (blk6 m c t k d))
      (fun k p d hd => (congrArg (iblk m c 5 t) (idx_w 4864 inb_S1024x5632_S1024x256_0_4864 k p d hd)).trans (blk5 m c t k d))
      (fun k p d hd => (congrArg (iblk m c 6 t) (idx_c 4864 inb_S3x5632_S3x256_0_4864 k p d hd)).trans (blk6 m c t k d))
      x s q (at0 s q _ h0) (at1 s q _ h1) v hv
  · exact tile_val (fH m c (row t)) (fU m c) (fC m c) (half t) _ hr 1792 _ _ _ _ (fun k p d hd => (congrArg (iblk m c 5 t) (idx_w 1792 inb_S1024x5632_S1024x256_0_1792 k p d hd)).trans (blk5 m c t k d))
      (fun k p d hd => (congrArg (iblk m c 6 t) (idx_c 1792 inb_S3x5632_S3x256_0_1792 k p d hd)).trans (blk6 m c t k d))
      (fun k p d hd => (congrArg (iblk m c 5 t) (idx_w 4608 inb_S1024x5632_S1024x256_0_4608 k p d hd)).trans (blk5 m c t k d))
      (fun k p d hd => (congrArg (iblk m c 6 t) (idx_c 4608 inb_S3x5632_S3x256_0_4608 k p d hd)).trans (blk6 m c t k d))
      x s q (at0 s q _ h0) (at1 s q _ h1) v hv
  · exact tile_val (fH m c (row t)) (fU m c) (fC m c) (half t) _ hr 1536 _ _ _ _ (fun k p d hd => (congrArg (iblk m c 5 t) (idx_w 1536 inb_S1024x5632_S1024x256_0_1536 k p d hd)).trans (blk5 m c t k d))
      (fun k p d hd => (congrArg (iblk m c 6 t) (idx_c 1536 inb_S3x5632_S3x256_0_1536 k p d hd)).trans (blk6 m c t k d))
      (fun k p d hd => (congrArg (iblk m c 5 t) (idx_w 4352 inb_S1024x5632_S1024x256_0_4352 k p d hd)).trans (blk5 m c t k d))
      (fun k p d hd => (congrArg (iblk m c 6 t) (idx_c 4352 inb_S3x5632_S3x256_0_4352 k p d hd)).trans (blk6 m c t k d))
      x s q (at0 s q _ h0) (at1 s q _ h1) v hv
  · exact tile_val (fH m c (row t)) (fU m c) (fC m c) (half t) _ hr 1280 _ _ _ _ (fun k p d hd => (congrArg (iblk m c 5 t) (idx_w 1280 inb_S1024x5632_S1024x256_0_1280 k p d hd)).trans (blk5 m c t k d))
      (fun k p d hd => (congrArg (iblk m c 6 t) (idx_c 1280 inb_S3x5632_S3x256_0_1280 k p d hd)).trans (blk6 m c t k d))
      (fun k p d hd => (congrArg (iblk m c 5 t) (idx_w 4096 inb_S1024x5632_S1024x256_0_4096 k p d hd)).trans (blk5 m c t k d))
      (fun k p d hd => (congrArg (iblk m c 6 t) (idx_c 4096 inb_S3x5632_S3x256_0_4096 k p d hd)).trans (blk6 m c t k d))
      x s q (at0 s q _ h0) (at1 s q _ h1) v hv
  · exact tile_val (fH m c (row t)) (fU m c) (fC m c) (half t) _ hr 1024 _ _ _ _ (fun k p d hd => (congrArg (iblk m c 5 t) (idx_w 1024 inb_S1024x5632_S1024x256_0_1024 k p d hd)).trans (blk5 m c t k d))
      (fun k p d hd => (congrArg (iblk m c 6 t) (idx_c 1024 inb_S3x5632_S3x256_0_1024 k p d hd)).trans (blk6 m c t k d))
      (fun k p d hd => (congrArg (iblk m c 5 t) (idx_w 3840 inb_S1024x5632_S1024x256_0_3840 k p d hd)).trans (blk5 m c t k d))
      (fun k p d hd => (congrArg (iblk m c 6 t) (idx_c 3840 inb_S3x5632_S3x256_0_3840 k p d hd)).trans (blk6 m c t k d))
      x s q (at0 s q _ h0) (at1 s q _ h1) v hv
  · exact tile_val (fH m c (row t)) (fU m c) (fC m c) (half t) _ hr 768 _ _ _ _ (fun k p d hd => (congrArg (iblk m c 5 t) (idx_w 768 inb_S1024x5632_S1024x256_0_768 k p d hd)).trans (blk5 m c t k d))
      (fun k p d hd => (congrArg (iblk m c 6 t) (idx_c 768 inb_S3x5632_S3x256_0_768 k p d hd)).trans (blk6 m c t k d))
      (fun k p d hd => (congrArg (iblk m c 5 t) (idx_w 3584 inb_S1024x5632_S1024x256_0_3584 k p d hd)).trans (blk5 m c t k d))
      (fun k p d hd => (congrArg (iblk m c 6 t) (idx_c 3584 inb_S3x5632_S3x256_0_3584 k p d hd)).trans (blk6 m c t k d))
      x s q (at0 s q _ h0) (at1 s q _ h1) v hv
  · exact tile_val (fH m c (row t)) (fU m c) (fC m c) (half t) _ hr 512 _ _ _ _ (fun k p d hd => (congrArg (iblk m c 5 t) (idx_w 512 inb_S1024x5632_S1024x256_0_512 k p d hd)).trans (blk5 m c t k d))
      (fun k p d hd => (congrArg (iblk m c 6 t) (idx_c 512 inb_S3x5632_S3x256_0_512 k p d hd)).trans (blk6 m c t k d))
      (fun k p d hd => (congrArg (iblk m c 5 t) (idx_w 3328 inb_S1024x5632_S1024x256_0_3328 k p d hd)).trans (blk5 m c t k d))
      (fun k p d hd => (congrArg (iblk m c 6 t) (idx_c 3328 inb_S3x5632_S3x256_0_3328 k p d hd)).trans (blk6 m c t k d))
      x s q (at0 s q _ h0) (at1 s q _ h1) v hv
  · exact tile_val (fH m c (row t)) (fU m c) (fC m c) (half t) _ hr 256 _ _ _ _ (fun k p d hd => (congrArg (iblk m c 5 t) (idx_w 256 inb_S1024x5632_S1024x256_0_256 k p d hd)).trans (blk5 m c t k d))
      (fun k p d hd => (congrArg (iblk m c 6 t) (idx_c 256 inb_S3x5632_S3x256_0_256 k p d hd)).trans (blk6 m c t k d))
      (fun k p d hd => (congrArg (iblk m c 5 t) (idx_w 3072 inb_S1024x5632_S1024x256_0_3072 k p d hd)).trans (blk5 m c t k d))
      (fun k p d hd => (congrArg (iblk m c 6 t) (idx_c 3072 inb_S3x5632_S3x256_0_3072 k p d hd)).trans (blk6 m c t k d))
      x s q (at0 s q _ h0) (at1 s q _ h1) v hv
  · exact tile_val (fH m c (row t)) (fU m c) (fC m c) (half t) _ hr 0 _ _ _ _ (fun k p d hd => (congrArg (iblk m c 5 t) (idx_w 0 inb_S1024x5632_S1024x256_0_0 k p d hd)).trans (blk5 m c t k d))
      (fun k p d hd => (congrArg (iblk m c 6 t) (idx_c 0 inb_S3x5632_S3x256_0_0 k p d hd)).trans (blk6 m c t k d))
      (fun k p d hd => (congrArg (iblk m c 5 t) (idx_w 2816 inb_S1024x5632_S1024x256_0_2816 k p d hd)).trans (blk5 m c t k d))
      (fun k p d hd => (congrArg (iblk m c 6 t) (idx_c 2816 inb_S3x5632_S3x256_0_2816 k p d hd)).trans (blk6 m c t k d))
      x s q (at0 s q _ h0) ((at1 s q _ h1).trans (Nat.zero_add _).symm) v hv

/-- The result array after the run, at every token and channel. -/
theorem final (m : (ℓ : Loc nD τ sig) → Buf (Elt Ideal) ℓ) (c : Dev nD) (R : FVec Ideal S32x2048x1024 .f32)
    (hR : ∀ (b : Fin 32) (u : Fin 2048) (l : Fin 1024),
      R (ix3 b u l) = FfnSpec.mix (fH m c b) (fU m c) (fC m c) (fD m c) (fX m c b) (fM m c b) u l) :
    (dats m 0 c).arrAt 8 cfg0.N = R := by
  refine (dats m 0 c).arrAt_eq_of_covers 8 _ (by decide +kernel) fun t _ y => ?_
  blk_simp
  rw [after0_8]
  have e : y = (ix3 0 (⟨(y 1).val, (y 1).isLt⟩ : Fin 1024) (⟨(y 2).val, (y 2).isLt⟩ : Fin 1024) : S1x1024x1024.Idx) := by
    funext a
    match a with
    | 0 => exact Fin.ext (by have h : (y 0).val < 1 := (y 0).isLt; show (y 0).val = 0; omega)
    | 1 => rfl
    | 2 => rfl
  have h1 : (y 1).val < 1024 := (y 1).isLt
  have h2 := half_lt t
  refine (congrArg (outsAt0 m c t) e).trans ((out_at m c t _ _ ⟨half t * 1024 + (y 1).val, by omega⟩ rfl).trans ((hR (row t) _ _).symm.trans (congrArg R ?_)))
  blk_ext [idx t]

end Cert.InnerIdeal.Ffn

open Idealize.ShloMosaic Idealize.SL.Sem in
/-- The reference's result is the staged residual sum. -/
theorem Cert.InnerReferenceIdeal.Value.res_eq (m : (ℓ : Loc Cert.InnerReferenceIdeal.nD Cert.InnerReferenceIdeal.τ Cert.InnerReferenceIdeal.sig) → Buf (Elt Ideal) ℓ)
    (c : Dev Cert.InnerReferenceIdeal.nD) : Cert.InnerReferenceIdeal.Value.res_main_v35 m c
    = Cert.ReferenceIdeal.RefValue.MIX (m ((c.tc : Thread Cert.InnerReferenceIdeal.nD Cert.InnerReferenceIdeal.τ).loc Cert.InnerReferenceIdeal.main_arg0)) (m ((c.tc : Thread Cert.InnerReferenceIdeal.nD Cert.InnerReferenceIdeal.τ).loc Cert.InnerReferenceIdeal.main_arg1)) (m ((c.tc : Thread Cert.InnerReferenceIdeal.nD Cert.InnerReferenceIdeal.τ).loc Cert.InnerReferenceIdeal.main_arg2))
      (m ((c.tc : Thread Cert.InnerReferenceIdeal.nD Cert.InnerReferenceIdeal.τ).loc Cert.InnerReferenceIdeal.main_arg3)) (m ((c.tc : Thread Cert.InnerReferenceIdeal.nD Cert.InnerReferenceIdeal.τ).loc Cert.InnerReferenceIdeal.main_arg4)) (m ((c.tc : Thread Cert.InnerReferenceIdeal.nD Cert.InnerReferenceIdeal.τ).loc Cert.InnerReferenceIdeal.main_arg5)) := rfl

end
-- ==== Proof.MixSpec.lean ====
/-
  Retention over 256 positions in two chunks of 128, both directions, and the gated convolution beside it, as plain functions.
  `P t c` is the combined projection at position `t` and channel `c`; `L 0 h` and `L 1 h` are the logarithms of head `h`'s decays.
-/
module

public import Idealize.ShloMosaic.Lib.Pointwise
public import Idealize.ShloMosaic.Lib.Pipeline.ValueKit
public import Idealize.ShloMosaic.Lib.IdealHost

@[expose] public section

noncomputable section
namespace Cert.MixSpec
open Idealize.ShloMosaic

variable (P : ℕ → ℕ → EReal) (L : ℕ → ℕ → EReal)

/-- A count as a real. -/
def num (n : ℕ) : EReal := ((n : ℝ) : EReal)

/-- The decay over `n` positions, `x` its logarithm over one. -/
def ex (x : EReal) (n : ℕ) : EReal := Ideal.exp (x * num n)

abbrev Q (t c : ℕ) : EReal := P t c
abbrev K (t c : ℕ) : EReal := P t (512 + c) * Ideal.ofBits .f32 1040187392#32
abbrev V (t c : ℕ) : EReal := P t (1024 + c)
abbrev G (t c : ℕ) : EReal := P t (1536 + c) * Ideal.div 1 (1 + Ideal.exp (-P t (1536 + c)))

/-- What chunk `n` adds to the forward state, and to the backward one. -/
def UF (n c e : ℕ) : EReal := ∑ j : Fin 128, K P (128 * n + j.val) c * ex (L 0 (c / 64)) (127 - j.val) * V P (128 * n + j.val) e
def UB (n c e : ℕ) : EReal := ∑ j : Fin 128, K P (128 * n + j.val) c * ex (L 1 (c / 64)) j.val * V P (128 * n + j.val) e

/-- The states entering chunk `n`. -/
def SF (n c e : ℕ) : EReal := if n = 0 then 0 else UF P L 0 c e
def SB (n c e : ℕ) : EReal := if n = 0 then UB P L 1 c e else 0

/-- The states behind the last chunk of each direction. -/
def FF (c e : ℕ) : EReal := ex (L 0 (e / 64)) 128 * UF P L 0 c e + UF P L 1 c e
def FB (c e : ℕ) : EReal := ex (L 1 (e / 64)) 128 * UB P L 1 c e + UB P L 0 c e

/-- The decay between two positions of a chunk: forward below the diagonal, backward above, both on it. -/
def M (h i j : ℕ) : EReal := if j < i then ex (L 0 h) (i - j) else if i < j then ex (L 1 h) (j - i) else 2

/-- The scores of a chunk. -/
def S (n h i j : ℕ) : EReal := ∑ d : Fin 64, Q P (128 * n + i) (64 * h + d.val) * K P (128 * n + j) (64 * h + d.val)

/-- Retention, both directions together. -/
def O (n i c : ℕ) : EReal :=
  ∑ j : Fin 128, S P n (c / 64) i j.val * M L (c / 64) i j.val * V P (128 * n + j.val) c
  + (∑ d : Fin 64, Q P (128 * n + i) (64 * (c / 64) + d.val) * SF P L n (64 * (c / 64) + d.val) c) * ex (L 0 (c / 64)) (i + 1)
  + (∑ d : Fin 64, Q P (128 * n + i) (64 * (c / 64) + d.val) * SB P L n (64 * (c / 64) + d.val) c) * ex (L 1 (c / 64)) (128 - i)

/-- Head normalisation and the gate. -/
def R (n i c : ℕ) : EReal :=
  O P L n i c * Ideal.rsqrt (Ideal.div (∑ d : Fin 64, O P L n i (64 * (c / 64) + d.val) * O P L n i (64 * (c / 64) + d.val))
    (Ideal.ofBits .f32 1115684864#32) + Ideal.ofBits .f32 897988541#32) * G P (128 * n + i) c

/-- The gated convolution. -/
def gp (t c : ℕ) : EReal := P t (2560 + c) * P t (2816 + c)
def C (w : ℕ → ℕ → EReal) (t c : ℕ) : EReal :=
  P t (2304 + c) * ((if t = 0 then 0 else gp P (t - 1) c) * w 0 c + gp P t c * w 1 c + (if t = 255 then 0 else gp P (t + 1) c) * w 2 c)

/-- Arrays of one batch as such functions. -/
def ofA (a : FVec Ideal (⟨3, ![32, 256, 3072]⟩ : Shape) .f32) (b : Fin 32) : ℕ → ℕ → EReal := fun t c =>
  if h : t < 256 ∧ c < 3072 then a (ix3 b ⟨t, h.1⟩ ⟨c, h.2⟩) else 0
def ofL (a : FVec Ideal (⟨2, ![2, 8]⟩ : Shape) .f32) : ℕ → ℕ → EReal := fun d h =>
  if e : d < 2 ∧ h < 8 then a (ix2 ⟨d, e.1⟩ ⟨h, e.2⟩) else 0
def ofW (a : FVec Ideal (⟨2, ![3, 256]⟩ : Shape) .f32) : ℕ → ℕ → EReal := fun d h =>
  if e : d < 3 ∧ h < 256 then a (ix2 ⟨d, e.1⟩ ⟨h, e.2⟩) else 0

theorem ofA_pos (a : FVec Ideal (⟨3, ![32, 256, 3072]⟩ : Shape) .f32) (b : Fin 32) (t c : ℕ) (h : t < 256 ∧ c < 3072) :
    ofA a b t c = a (ix3 b ⟨t, h.1⟩ ⟨c, h.2⟩) := dif_pos h
theorem ofL_pos (a : FVec Ideal (⟨2, ![2, 8]⟩ : Shape) .f32) (d h : ℕ) (e : d < 2 ∧ h < 8) :
    ofL a d h = a (ix2 ⟨d, e.1⟩ ⟨h, e.2⟩) := dif_pos e
theorem ofW_pos (a : FVec Ideal (⟨2, ![3, 256]⟩ : Shape) .f32) (d h : ℕ) (e : d < 3 ∧ h < 256) :
    ofW a d h = a (ix2 ⟨d, e.1⟩ ⟨h, e.2⟩) := dif_pos e

section Numbers

theorem of128 : Ideal.ofBits .f32 1124073472#32 = num 128 := by simp [Ideal.ofBits, Ideal.ieee, num, -EReal.coe_mul]; norm_num
theorem of127 : Ideal.ofBits .f32 1123942400#32 = num 127 := by simp [Ideal.ofBits, Ideal.ieee, num, -EReal.coe_mul]; norm_num
theorem of2 : Ideal.ofBits .f32 1073741824#32 = 2 := by
  rw [show (2 : EReal) = ((2 : ℝ) : EReal) by norm_cast]
  simp [Ideal.ofBits, Ideal.ieee, -EReal.coe_mul]; norm_num
theorem of64 : Ideal.ofBits .f32 1115684864#32 = ((64 : ℝ) : EReal) := by simp [Ideal.ofBits, Ideal.ieee, -EReal.coe_mul]; norm_num
theorem of64' : Ideal.ofBits .f32 1015021568#32 = (((64 : ℝ)⁻¹ : ℝ) : EReal) := by simp [Ideal.ofBits, Ideal.ieee, -EReal.coe_mul]; norm_num

theorem sitofp_num (n : ℕ) (h : n < 128) : (FloatOps.sitofp FTy.f32 (BitVec.ofNat 32 n) : Ideal .f32) = num n := by
  show ((((BitVec.ofNat 32 n).toInt : ℝ)) : EReal) = num n
  have : (BitVec.ofNat 32 n).toInt = (n : ℤ) := by
    rw [BitVec.toInt_eq_toNat_cond, BitVec.toNat_ofNat]
    have : n % 2 ^ 32 = n := Nat.mod_eq_of_lt (by omega)
    rw [this, if_pos (by omega)]
  rw [this]; simp [num]

theorem num_sub (a b : ℕ) (h : b ≤ a) : num a - num b = num (a - b) := by
  unfold num; rw [← EReal.coe_sub, Nat.cast_sub h]

theorem num_sub_neg (a b : ℕ) (h : a ≤ b) : -(num a - num b) = num (b - a) := by
  unfold num; rw [← EReal.coe_sub, ← EReal.coe_neg, Nat.cast_sub h]; congr 1; ring

theorem num_add_one (a : ℕ) : num a + 1 = num (a + 1) := by
  unfold num; rw [Nat.cast_add, Nat.cast_one, EReal.coe_add, EReal.coe_one]

theorem num_nonneg (a : ℕ) : 0 ≤ num a := by
  unfold num; exact_mod_cast Nat.cast_nonneg (α := ℝ) a

theorem sub_pos (a b : ℕ) : 0 < num a - num b ↔ b < a := by
  unfold num; rw [← EReal.coe_sub, ← EReal.coe_zero, EReal.coe_lt_coe_iff]; simp

theorem sub_neg' (a b : ℕ) : num a - num b < 0 ↔ a < b := by
  unfold num; rw [← EReal.coe_sub, ← EReal.coe_zero, EReal.coe_lt_coe_iff]; simp

theorem sub_nonneg' (a b : ℕ) : 0 ≤ num a - num b ↔ b ≤ a := by
  unfold num; rw [← EReal.coe_sub, ← EReal.coe_zero, EReal.coe_le_coe_iff]; simp

theorem ex_nonneg (x : EReal) (n : ℕ) : 0 ≤ ex x n := by
  unfold ex
  generalize x * num n = y
  induction y using EReal.rec with
  | bot => exact le_refl _
  | top => exact le_top
  | coe r => show (0 : EReal) ≤ ((Real.exp r : ℝ) : EReal); exact_mod_cast (Real.exp_pos r).le

end Numbers

/-- A sum over a pair of heads' channels, zero off the head of channel `e`, is the sum over that head. -/
theorem sum_half (f : ℕ → EReal) (e : ℕ) (he : e < 128) :
    (∑ l : Fin 128, if (l.val < 64 ↔ e < 64) then f l.val else 0) = ∑ d : Fin 64, f (64 * (e / 64) + d.val) := by
  rw [show (∑ l : Fin 128, if (l.val < 64 ↔ e < 64) then f l.val else 0)
    = ∑ l : Fin (64 + 64), if (l.val < 64 ↔ e < 64) then f l.val else 0 from rfl, Fin.sum_univ_add]
  by_cases h : e < 64
  · have h0 : e / 64 = 0 := by omega
    rw [h0]
    rw [Finset.sum_eq_zero (s := Finset.univ) (f := fun i : Fin 64 => if ((Fin.natAdd 64 i).val < 64 ↔ e < 64) then f (Fin.natAdd 64 i).val else 0), add_zero]
    · refine Finset.sum_congr rfl fun d _ => ?_
      have := d.isLt
      rw [if_pos (by simp [h])]; simp
    · intro d _; rw [if_neg (by simp [h])]
  · have h0 : e / 64 = 1 := by omega
    rw [h0]
    rw [Finset.sum_eq_zero (s := Finset.univ) (f := fun i : Fin 64 => if ((Fin.castAdd 64 i).val < 64 ↔ e < 64) then f (Fin.castAdd 64 i).val else 0), zero_add]
    · refine Finset.sum_congr rfl fun d _ => ?_
      rw [if_pos (by simp [h])]; simp [Nat.add_comm]
    · intro d _; have := d.isLt; rw [if_neg (by simp [h])]

theorem sum_mul_nonneg {ι : Type} (s : Finset ι) (f : ι → EReal) (hf : ∀ i, 0 ≤ f i) (c : EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg (hf a) (Finset.sum_nonneg fun i _ => hf i)]

theorem mul_self_nonneg' (x : EReal) : 0 ≤ x * x := by
  rcases le_total 0 x with h | h
  · exact mul_nonneg h h
  · have h' : 0 ≤ -x := EReal.neg_nonneg.mpr h
    have e : x * x = -x * -x := by rw [neg_mul_neg]
    rw [e]; exact mul_nonneg h' h'

/-- The mean of the squares, the small constant added under the sum or behind it. -/
theorem mean_eps (f : Fin 64 → EReal) (hf : ∀ i, 0 ≤ f i) :
    ∑ d : Fin 64, (f d + Ideal.ofBits .f32 897988541#32) * Ideal.ofBits .f32 1015021568#32
      = Ideal.div (∑ d : Fin 64, f d) (Ideal.ofBits .f32 1115684864#32) + Ideal.ofBits .f32 897988541#32 := by
  obtain ⟨e, he, h0⟩ : ∃ e : ℝ, Ideal.ofBits .f32 897988541#32 = (e : EReal) ∧ 0 ≤ e := by
    refine ⟨8796093 * (1 / 8796093022208), ?_, by norm_num⟩
    simp [Ideal.ofBits, Ideal.ieee, -EReal.coe_mul]
    norm_num
  rw [he, of64, of64']
  have h1 : ∀ d, (f d + (e : EReal)) * (((64 : ℝ)⁻¹ : ℝ) : EReal) = f d * (((64 : ℝ)⁻¹ : ℝ) : EReal) + ((e * (64 : ℝ)⁻¹ : ℝ) : EReal) := fun d => by
    rw [EReal.right_distrib_of_nonneg (hf d) (by exact_mod_cast h0), EReal.coe_mul]
  simp only [h1]
  rw [Finset.sum_add_distrib, sum_mul_nonneg _ _ hf]
  congr 1
  · unfold Ideal.div
    rw [if_neg (by norm_cast), EReal.coe_inv]
  · rw [Finset.sum_const, Finset.card_univ, Fintype.card_fin]
    rw [← EReal.coe_nsmul]
    congr 1
    simp; ring

end Cert.MixSpec

end
-- ==== Proof.MixHost.lean ====
/-
  What the kernel's windows hold: the projection's parts, laid out by heads, and the decay tables.
-/
module

public import proofs.«01_k».proof.Proof.Gen.MixersIdeal.Value
public import proofs.«01_k».proof.Proof.MixSpec
public import Idealize.ShloMosaic.Lib.Pointwise
public import Idealize.ShloMosaic.Lib.Pipeline.ValueKit

@[expose] public section

set_option maxRecDepth 16384
noncomputable section
namespace Cert.MixersIdeal.Mix
open Cert.MixersIdeal Cert.MixersIdeal.Gen Idealize.ShloMosaic Idealize.ShloMosaic.TcCoe Idealize.SL.Sem
open Idealize.ShloMosaic.Pipeline (Dat)
open Idealize.ShloMosaic.StableHlo Cert.MixSpec

/-- The host's lines behind the decay logarithms. -/
abbrev rest : List (HloOp τ sig (Elt Ideal)) := [hostOps0_1, hostOps0_2, hostOps0_3, hostOps0_4].flatten

section Lines

variable (σ : Valuation τ sig (Elt Ideal))

theorem at_v110 (b : Fin 32) (p : Fin 4) (r : Fin 256) (l : Fin 128) : after rest σ (Proc.tc.devRef main_v110) (ix4 b p r l) =
    (Q (ofA (σ (Proc.tc.devRef main_arg0)) b) r.val (p.val * 128 + l.val) : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  exact (ofA_pos _ b r.val (p.val * 128 + l.val) ⟨r.isLt, by omega⟩).symm

theorem at_v111 (b : Fin 32) (p : Fin 4) (r : Fin 256) (l : Fin 128) : after rest σ (Proc.tc.devRef main_v111) (ix4 b p r l) =
    (K (ofA (σ (Proc.tc.devRef main_arg0)) b) r.val (p.val * 128 + l.val) : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  unfold K
  rw [ofA_pos _ b r.val (512 + (p.val * 128 + l.val)) ⟨r.isLt, by omega⟩]

theorem at_v115 (b : Fin 32) (p : Fin 4) (r : Fin 256) (l : Fin 128) : after rest σ (Proc.tc.devRef main_v115) (ix4 b p r l) =
    (MixSpec.V (ofA (σ (Proc.tc.devRef main_arg0)) b) r.val (p.val * 128 + l.val) : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  exact (ofA_pos _ b r.val (1024 + (p.val * 128 + l.val)) ⟨r.isLt, by omega⟩).symm

theorem at_v125 (b : Fin 32) (p : Fin 4) (r : Fin 256) (l : Fin 128) : after rest σ (Proc.tc.devRef main_v125) (ix4 b p r l) =
    (G (ofA (σ (Proc.tc.devRef main_arg0)) b) r.val (p.val * 128 + l.val) : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  unfold G
  rw [ofA_pos _ b r.val (1536 + (p.val * 128 + l.val)) ⟨r.isLt, by omega⟩]

theorem at_v126 (b : Fin 32) (p : Fin 8) (r : Fin 256) (l : Fin 128) : after rest σ (Proc.tc.devRef main_v126) (ix4 b p r l) =
    (if p.val < 4 then K (ofA (σ (Proc.tc.devRef main_arg0)) b) r.val (p.val * 128 + l.val) * ex ((ofL (σ (Proc.tc.devRef main_v0))) 0 ((p.val * 128 + l.val) / 64)) (127 - r.val % 128) else K (ofA (σ (Proc.tc.devRef main_arg0)) b) r.val ((p.val - 4) * 128 + l.val) * ex ((ofL (σ (Proc.tc.devRef main_v0))) 1 (((p.val - 4) * 128 + l.val) / 64)) (r.val % 128) : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  have hm : r.val % 128 < 128 := Nat.mod_lt _ (by omega)
  by_cases h : p.val < 4
  · refine (dif_pos h).trans (Eq.trans ?_ (if_pos h).symm)
    exact congrArg₂ (· * ·) (congrArg (· * _) (ofA_pos _ b r.val (512 + (p.val * 128 + l.val)) ⟨r.isLt, by omega⟩).symm)
      (congrArg Ideal.exp (congrArg₂ (· * ·) (ofL_pos _ 0 ((p.val * 128 + l.val) / 64) ⟨by omega, by omega⟩).symm
        ((congrArg₂ (· - ·) of127 (sitofp_num _ hm)).trans (num_sub _ _ (by omega)))))
  · refine (dif_neg h).trans (Eq.trans ?_ (if_neg h).symm)
    exact congrArg₂ (· * ·) (congrArg (· * _) (ofA_pos _ b r.val (512 + ((p.val - 4) * 128 + l.val)) ⟨r.isLt, by omega⟩).symm)
      (congrArg Ideal.exp (congrArg₂ (· * ·) (ofL_pos _ 1 (((p.val - 4) * 128 + l.val) / 64) ⟨by omega, by omega⟩).symm
        (sitofp_num _ hm)))

theorem at_v127 (b : Fin 32) (p : Fin 4) (r : Fin 256) (l : Fin 128) : after rest σ (Proc.tc.devRef main_v127) (ix4 b p r l) =
    (if p.val < 2 then (ofA (σ (Proc.tc.devRef main_arg0)) b) r.val (2304 + (p.val * 128 + l.val)) else gp (ofA (σ (Proc.tc.devRef main_arg0)) b) r.val ((p.val - 2) * 128 + l.val) : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  by_cases h : p.val < 2
  · exact (dif_pos h).trans (Eq.trans (ofA_pos _ b r.val (2304 + (p.val * 128 + l.val)) ⟨r.isLt, by omega⟩).symm (if_pos h).symm)
  · exact (dif_neg h).trans (Eq.trans (congrArg₂ (· * ·) (ofA_pos _ b r.val (2560 + ((p.val - 2) * 128 + l.val)) ⟨r.isLt, by omega⟩).symm
      (ofA_pos _ b r.val (2816 + ((p.val - 2) * 128 + l.val)) ⟨r.isLt, by omega⟩).symm) (if_neg h).symm)

theorem at_v40 (i : Fin 4) (s : Fin 2) (r j : Fin 128) : after rest σ (Proc.tc.devRef main_v40) (ix4 i s r j) =
    (MixSpec.M (ofL (σ (Proc.tc.devRef main_v0))) (i.val * 2 + s.val) r.val j.val : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  have hr := r.isLt
  have hj := j.isLt
  have e : HSub.hSub (α := EReal) (β := EReal) (γ := EReal) (FloatOps.sitofp (F := Ideal) FTy.f32 (BitVec.ofNat 32 r.val))
      (FloatOps.sitofp (F := Ideal) FTy.f32 (BitVec.ofNat 32 j.val)) = num r.val - num j.val := congrArg₂ (· - ·) (sitofp_num _ hr) (sitofp_num _ hj)
  rcases lt_trichotomy j.val r.val with h | h | h
  · refine (if_pos (by rw [e]; exact (sub_pos _ _).mpr h)).trans (Eq.trans ?_ (if_pos h).symm)
    exact congrArg Ideal.exp (congrArg₂ (· * ·) (ofL_pos _ 0 (i.val * 2 + s.val) ⟨by omega, by omega⟩).symm
      (by rw [e, num_sub _ _ h.le, max_eq_left (num_nonneg _)]))
  · refine (if_neg (by rw [e, sub_pos]; omega)).trans ((if_neg (by rw [e, sub_neg']; omega)).trans (of2.trans ?_))
    exact ((if_neg (by omega)).trans (if_neg (by omega))).symm
  · refine (if_neg (by rw [e, sub_pos]; omega)).trans ((if_pos (by rw [e]; exact (sub_neg' _ _).mpr h)).trans
      (Eq.trans ?_ ((if_neg (by omega)).trans (if_pos h)).symm))
    exact congrArg Ideal.exp (congrArg₂ (· * ·) (ofL_pos _ 1 (i.val * 2 + s.val) ⟨by omega, by omega⟩).symm
      (by rw [e, num_sub_neg _ _ h.le, max_eq_left (num_nonneg _)]))

theorem at_v74 (i : Fin 4) (r j : Fin 128) : after rest σ (Proc.tc.devRef main_v74) (ix3 i r j) =
    (ex ((ofL (σ (Proc.tc.devRef main_v0))) 0 ((i.val * 128 + j.val) / 64)) (r.val + 1) : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  exact congrArg Ideal.exp (congrArg₂ (· * ·) (ofL_pos _ 0 ((i.val * 128 + j.val) / 64) ⟨by omega, by omega⟩).symm
    ((congrArg (· + 1) (sitofp_num _ r.isLt)).trans (num_add_one _)))

theorem at_v76 (i : Fin 4) (r j : Fin 128) : after rest σ (Proc.tc.devRef main_v76) (ix3 i r j) =
    (ex ((ofL (σ (Proc.tc.devRef main_v0))) 1 ((i.val * 128 + j.val) / 64)) (128 - r.val) : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  exact congrArg Ideal.exp (congrArg₂ (· * ·) (ofL_pos _ 1 ((i.val * 128 + j.val) / 64) ⟨by omega, by omega⟩).symm
    ((congrArg₂ (· - ·) of128 (sitofp_num _ r.isLt)).trans (num_sub _ _ r.isLt.le)))

theorem at_v69 (j : Fin 512) : after rest σ (Proc.tc.devRef main_v69) (ix2 0 j) =
    (ex ((ofL (σ (Proc.tc.devRef main_v0))) 0 (j.val / 64)) 128 : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  exact congrArg Ideal.exp (congrArg₂ (· * ·) (ofL_pos _ 0 (j.val / 64) ⟨by omega, by omega⟩).symm of128)

theorem at_v72 (j : Fin 512) : after rest σ (Proc.tc.devRef main_v72) (ix2 0 j) =
    (ex ((ofL (σ (Proc.tc.devRef main_v0))) 1 (j.val / 64)) 128 : EReal) := by
  simp only [rest, hostOps0_1, hostOps0_2, hostOps0_3, hostOps0_4, List.flatten_cons, List.flatten_nil, List.append_nil, List.cons_append,
    List.nil_append]
  simp only [TRef.binary, TRef.nullary, TRef.unary, TRef.ternary, TRef.toBuf, TRef.ofBuf, cast_eq]
  entry_read
  pointwise
  exact congrArg Ideal.exp (congrArg₂ (· * ·) (ofL_pos _ 1 (j.val / 64) ⟨by omega, by omega⟩).symm of128)

end Lines

end Cert.MixersIdeal.Mix

end
-- ==== Proof.MixBlk.lean ====
/-
  What the kernel's windows hold at a grid point.
-/
module

public import proofs.«01_k».proof.Proof.MixHost
public import Idealize.ShloMosaic.Lib.Pointwise
public import Idealize.ShloMosaic.Lib.Pipeline.ValueKit

@[expose] public section

set_option maxRecDepth 16384
noncomputable section
namespace Cert.MixersIdeal.Mix
open Cert.MixersIdeal Cert.MixersIdeal.Gen Idealize.ShloMosaic Idealize.ShloMosaic.TcCoe Idealize.SL.Sem
open Idealize.ShloMosaic.Pipeline (Dat)
open Idealize.ShloMosaic.StableHlo Cert.MixSpec

/-- Where each window's block lies. -/
theorem idx : ∀ t : Fin cfg0.N, win0_0.index t = ![(grid0.coords t 0).val, 0, 0, 0]
    ∧ win0_1.index t = ![(grid0.coords t 0).val, 0, 0, 0]
    ∧ win0_2.index t = ![(grid0.coords t 0).val, 0, 0, 0]
    ∧ win0_3.index t = ![(grid0.coords t 0).val, 0, 0, 0]
    ∧ win0_4.index t = ![(grid0.coords t 0).val, 0, 0, 0]
    ∧ win0_5.index t = ![(grid0.coords t 0).val, 0, 0, 0]
    ∧ win0_12.index t = ![(grid0.coords t 0).val, 0, 0, 0]
    ∧ win0_13.index t = ![(grid0.coords t 0).val, 0, 0, 0]
    ∧ win0_14.index t = ![(grid0.coords t 0).val, 0, 0, 0]
    ∧ win0_15.index t = ![(grid0.coords t 0).val, 0, 0, 0]
    ∧ win0_6.index t = ![0, 0, 0, 0] ∧ win0_7.index t = ![0, 0, 0] ∧ win0_8.index t = ![0, 0, 0]
    ∧ win0_9.index t = ![0, 0] ∧ win0_10.index t = ![0, 0] ∧ win0_11.index t = ![0, 0] :=
  (by decide +kernel : ∀ t : Fin grid0.N, _)

section Blocks

variable (m : (ℓ : Loc nD τ sig) → Buf (Elt Ideal) ℓ) (c : Dev nD) (t : Fin cfg0.N)

/-- The memory behind the first host line, which takes the logarithms. -/
abbrev σ0 : Valuation τ sig (Elt Ideal) := after hostOps0 (fun b => m (c, b))
abbrev aP : FVec Ideal S32x256x3072 .f32 := m ((c.tc : Thread nD τ).loc main_arg0)
abbrev aL : FVec Ideal S2x8 .f32 := σ0 m c (Proc.tc.devRef main_v0)
abbrev row : Fin 32 := ⟨(grid0.coords t 0).val, (grid0.coords t 0).isLt⟩
abbrev PP : ℕ → ℕ → EReal := ofA (aP m c) (row t)
abbrev LL : ℕ → ℕ → EReal := ofL (aL m c)

theorem σ0_arg0 : after hostOps0 (fun b => m (c, b)) (Proc.devRef .tc main_arg0) = m (c, Proc.devRef .tc main_arg0) :=
  StableHlo.after_of_forall_not_mem (b := Proc.devRef .tc main_arg0) _ _ (List.forall_iff_forall_mem.mp (by
    simp only [hostOps0,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem σ0_arg2 : after hostOps0 (fun b => m (c, b)) (Proc.devRef .tc main_arg2) = m (c, Proc.devRef .tc main_arg2) :=
  StableHlo.after_of_forall_not_mem (b := Proc.devRef .tc main_arg2) _ _ (List.forall_iff_forall_mem.mp (by
    simp only [hostOps0,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_after (b : Ref sig .tc) : Gen.V m c b = after rest (σ0 m c) (Proc.devRef .tc b) := by
  show after (hostOps0 ++ rest) (fun b => m (c, b)) (Proc.devRef .tc b) = _
  rw [after_append]

theorem b0 (p : Fin 4) (r : Fin 256) (l : Fin 128) : iblk m c 0 t (ix4 0 p r l) = Q (PP m c t) r.val (p.val * 128 + l.val) := by
  blk_simp [iblk]
  refine Eq.trans ?_ ((congrFun (V_after m c main_v110) (ix4 (row t) p r l)).trans ((at_v110 (σ0 m c) (row t) p r l).trans ?_))
  · blk_ext [idx t]
  · first | rfl | (rw [show σ0 m c (Proc.tc.devRef main_arg0) = aP m c from σ0_arg0 m c])

theorem b1 (p : Fin 4) (r : Fin 256) (l : Fin 128) : iblk m c 1 t (ix4 0 p r l) = K (PP m c t) r.val (p.val * 128 + l.val) := by
  blk_simp [iblk]
  refine Eq.trans ?_ ((congrFun (V_after m c main_v111) (ix4 (row t) p r l)).trans ((at_v111 (σ0 m c) (row t) p r l).trans ?_))
  · blk_ext [idx t]
  · first | rfl | (rw [show σ0 m c (Proc.tc.devRef main_arg0) = aP m c from σ0_arg0 m c])

theorem b2 (p : Fin 4) (r : Fin 256) (l : Fin 128) : iblk m c 2 t (ix4 0 p r l) = MixSpec.V (PP m c t) r.val (p.val * 128 + l.val) := by
  blk_simp [iblk]
  refine Eq.trans ?_ ((congrFun (V_after m c main_v115) (ix4 (row t) p r l)).trans ((at_v115 (σ0 m c) (row t) p r l).trans ?_))
  · blk_ext [idx t]
  · first | rfl | (rw [show σ0 m c (Proc.tc.devRef main_arg0) = aP m c from σ0_arg0 m c])

theorem b3 (p : Fin 4) (r : Fin 256) (l : Fin 128) : iblk m c 3 t (ix4 0 p r l) = G (PP m c t) r.val (p.val * 128 + l.val) := by
  blk_simp [iblk]
  refine Eq.trans ?_ ((congrFun (V_after m c main_v125) (ix4 (row t) p r l)).trans ((at_v125 (σ0 m c) (row t) p r l).trans ?_))
  · blk_ext [idx t]
  · first | rfl | (rw [show σ0 m c (Proc.tc.devRef main_arg0) = aP m c from σ0_arg0 m c])

theorem b4 (p : Fin 8) (r : Fin 256) (l : Fin 128) : iblk m c 4 t (ix4 0 p r l) = (if p.val < 4 then K (PP m c t) r.val (p.val * 128 + l.val) * ex ((LL m c) 0 ((p.val * 128 + l.val) / 64)) (127 - r.val % 128) else K (PP m c t) r.val ((p.val - 4) * 128 + l.val) * ex ((LL m c) 1 (((p.val - 4) * 128 + l.val) / 64)) (r.val % 128)) := by
  blk_simp [iblk]
  refine Eq.trans ?_ ((congrFun (V_after m c main_v126) (ix4 (row t) p r l)).trans ((at_v126 (σ0 m c) (row t) p r l).trans ?_))
  · blk_ext [idx t]
  · first | rfl | (rw [show σ0 m c (Proc.tc.devRef main_arg0) = aP m c from σ0_arg0 m c])

theorem b5 (p : Fin 4) (r : Fin 256) (l : Fin 128) : iblk m c 5 t (ix4 0 p r l) = (if p.val < 2 then (PP m c t) r.val (2304 + (p.val * 128 + l.val)) else gp (PP m c t) r.val ((p.val - 2) * 128 + l.val)) := by
  blk_simp [iblk]
  refine Eq.trans ?_ ((congrFun (V_after m c main_v127) (ix4 (row t) p r l)).trans ((at_v127 (σ0 m c) (row t) p r l).trans ?_))
  · blk_ext [idx t]
  · first | rfl | (rw [show σ0 m c (Proc.tc.devRef main_arg0) = aP m c from σ0_arg0 m c])

theorem b6 (i : Fin 4) (s : Fin 2) (r j : Fin 128) : iblk m c 6 t (ix4 i s r j) = MixSpec.M (LL m c) (i.val * 2 + s.val) r.val j.val := by
  blk_simp [iblk]
  refine Eq.trans ?_ ((congrFun (V_after m c main_v40) (ix4 i s r j)).trans ((at_v40 (σ0 m c) i s r j).trans ?_))
  · blk_ext [idx t]
  · first | rfl | (rw [show σ0 m c (Proc.tc.devRef main_arg0) = aP m c from σ0_arg0 m c])

theorem b7 (i : Fin 4) (r j : Fin 128) : iblk m c 7 t (ix3 i r j) = ex ((LL m c) 0 ((i.val * 128 + j.val) / 64)) (r.val + 1) := by
  blk_simp [iblk]
  refine Eq.trans ?_ ((congrFun (V_after m c main_v74) (ix3 i r j)).trans ((at_v74 (σ0 m c) i r j).trans ?_))
  · blk_ext [idx t]
  · first | rfl | (rw [show σ0 m c (Proc.tc.devRef main_arg0) = aP m c from σ0_arg0 m c])

theorem b8 (i : Fin 4) (r j : Fin 128) : iblk m c 8 t (ix3 i r j) = ex ((LL m c) 1 ((i.val * 128 + j.val) / 64)) (128 - r.val) := by
  blk_simp [iblk]
  refine Eq.trans ?_ ((congrFun (V_after m c main_v76) (ix3 i r j)).trans ((at_v76 (σ0 m c) i r j).trans ?_))
  · blk_ext [idx t]
  · first | rfl | (rw [show σ0 m c (Proc.tc.devRef main_arg0) = aP m c from σ0_arg0 m c])

theorem b9 (j : Fin 512) : iblk m c 9 t (ix2 0 j) = ex ((LL m c) 0 (j.val / 64)) 128 := by
  blk_simp [iblk]
  refine Eq.trans ?_ ((congrFun (V_after m c main_v69) (ix2 0 j)).trans ((at_v69 (σ0 m c) j).trans ?_))
  · blk_ext [idx t]
  · first | rfl | (rw [show σ0 m c (Proc.tc.devRef main_arg0) = aP m c from σ0_arg0 m c])

theorem b10 (j : Fin 512) : iblk m c 10 t (ix2 0 j) = ex ((LL m c) 1 (j.val / 64)) 128 := by
  blk_simp [iblk]
  refine Eq.trans ?_ ((congrFun (V_after m c main_v72) (ix2 0 j)).trans ((at_v72 (σ0 m c) j).trans ?_))
  · blk_ext [idx t]
  · first | rfl | (rw [show σ0 m c (Proc.tc.devRef main_arg0) = aP m c from σ0_arg0 m c])

theorem b11 (i : Fin 3) (j : Fin 256) : iblk m c 11 t (ix2 i j) = ofW (m ((c.tc : Thread nD τ).loc main_arg2)) i.val j.val := by
  refine Eq.trans ?_ (ofW_pos _ i.val j.val ⟨i.isLt, j.isLt⟩).symm
  blk_ext [iblk, Gen.V, idx t]

end Blocks

end Cert.MixersIdeal.Mix

end
-- ==== Proof.MixUnit.lean ====
/-
  The kernel's two repeated pieces: what one chunk does to the state of a pair of heads, and one pair of heads over one chunk.
-/
module

public import proofs.«01_k».proof.Proof.MixHost

@[expose] public section

set_option maxRecDepth 16384
noncomputable section
namespace Cert.MixersIdeal.Mix
open Cert.MixersIdeal Cert.MixersIdeal.Gen Idealize.ShloMosaic Idealize.ShloMosaic.TcCoe Idealize.SL.Sem
open Cert.MixSpec

section Units
variable {F : FTy → Type} [FloatOps F]

/-- One chunk's step of a state. -/
def upd (kz v : Vec F S1x1x128x128 .bf16) (d : Vec F S1x128 .f32) (s : Vec F S1x128x128 .f32) : FVec F S1x128x128 .f32 :=
  k0_pay9 k0_pay5 kz v d s

/-- A state as the heads read it. -/
def snap (s : Vec F S1x128x128 .f32) : FVec F S1x1x1x128x128 .bf16 := k0_pay6 s

theorem u12 (kz v d) (s : Vec F S1x128x128 .f32) : k0_pay12 k0_pay5 (k0_pay10 kz) (k0_pay11 v) d s = upd kz v d s := rfl
theorem u16 (kz v d) (s : Vec F S1x128x128 .f32) : k0_pay16 k0_pay5 (k0_pay15 kz) v d s = upd kz v d s := rfl
theorem u18 (kz v d) (s : Vec F S1x128x128 .f32) : k0_pay18 (k0_pay17 k0_pay5 kz v d s) = upd kz v d s := rfl
theorem u24 (kz v d) (s : Vec F S1x128x128 .f32) : k0_pay24 k0_pay5 (k0_pay21 kz v) (k0_pay22 d s) k0_pay23 = upd kz v d s := rfl
theorem u25 (kz v d) (s : Vec F S1x128x128 .f32) : k0_pay25 k0_pay5 kz v d s = upd kz v d s := rfl
theorem u28 (kz v d) (s : Vec F S1x128x128 .f32) : k0_pay28 k0_pay5 kz v d s = upd kz v d s := rfl
theorem u30 (kz v d) (s : Vec F S1x128x128 .f32) : k0_pay30 k0_pay5 (k0_pay29 kz) v d s = upd kz v d s := rfl
theorem u34 (kz v d) (s : Vec F S1x128x128 .f32) : k0_pay34 k0_pay5 kz v d s = upd kz v d s := rfl
theorem u37 (kz v d) (s : Vec F S1x128x128 .f32) : k0_pay37 k0_pay5 (k0_pay35 d) (k0_pay36 kz v) s = upd kz v d s := rfl
theorem u42 (kz v d) (s : Vec F S1x128x128 .f32) : k0_pay42 k0_pay5 (k0_pay40 kz) (k0_pay41 v) d s = upd kz v d s := rfl
theorem u43 (kz v d) (s : Vec F S1x128x128 .f32) : k0_pay43 k0_pay5 kz v d s = upd kz v d s := rfl
theorem u47 (kz v d) (s : Vec F S1x128x128 .f32) : k0_pay47 (k0_pay46 k0_pay5 kz v d s) = upd kz v d s := rfl
theorem u48 (kz v d) (s : Vec F S1x128x128 .f32) : k0_pay48 k0_pay5 kz v d s = upd kz v d s := rfl
theorem u51 (kz v d) (s : Vec F S1x128x128 .f32) : k0_pay51 k0_pay5 kz v d s = upd kz v d s := rfl
theorem u54 (kz v d) (s : Vec F S1x128x128 .f32) : k0_pay54 k0_pay5 (k0_pay52 kz) (k0_pay53 v) d s = upd kz v d s := rfl
theorem u9 (kz v d) (s : Vec F S1x128x128 .f32) : k0_pay9 k0_pay5 kz v d s = upd kz v d s := rfl

/-- One pair of heads over one chunk: masked scores against the values, the two states, the norm and the gate. -/
def head (q k v g : Vec F S1x1x128x128 .bf16) (d0 d1 : Vec F S1x1x128x128 .f32) (sa sb : Vec F S1x1x1x128x128 .bf16)
    (xa xb : Vec F S1x128x128 .f32) : FVec F S1x1x128x128 .bf16 :=
  k0_pay71 (k0_pay66 (k0_pay62 q) (k0_pay63 k0_pay57 k0_pay58 (Scalar.ofBits .f32 0x00000000#32) v)
      (k0_pay64 k0_pay57 k0_pay58 (Scalar.ofBits .f32 0x00000000#32) q k) (k0_pay65 d0) d1 sa sb xa xb)
    (k0_pay68 (k0_pay60 k0_pay57) (k0_pay62 q) (k0_pay63 k0_pay57 k0_pay58 (Scalar.ofBits .f32 0x00000000#32) v)
      (k0_pay64 k0_pay57 k0_pay58 (Scalar.ofBits .f32 0x00000000#32) q k) (k0_pay65 d0) d1 sa sb xa xb)
    (k0_pay69 (k0_pay61 k0_pay57) (k0_pay62 q) (k0_pay63 k0_pay57 k0_pay58 (Scalar.ofBits .f32 0x00000000#32) v)
      (k0_pay64 k0_pay57 k0_pay58 (Scalar.ofBits .f32 0x00000000#32) q k) (k0_pay65 d0) d1 sa sb xa xb)
    (k0_pay70 k0_pay57) g

end Units

theorem lane (l : Fin 128) : IntOp.cmpi .slt (BitVec.ofNat 32 l.val) 64#32 = if l.val < 64 then 1#1 else 0#1 := by
  revert l; decide

theorem sel (l : Fin 128) (a b : EReal) :
    Scalar.select (α := EReal) (IntOp.cmpi .slt (BitVec.ofNat 32 l.val) 64#32) a b = if l.val < 64 then a else b := by
  rw [lane]; split <;> rfl

theorem selx (i j : Fin 128) (a : EReal) :
    Scalar.select (α := EReal) (IntOp.xori (IntOp.xori (IntOp.cmpi .slt (BitVec.ofNat 32 i.val) 64#32)
      (IntOp.cmpi .slt (BitVec.ofNat 32 j.val) 64#32)) 1#1) a 0 = if (i.val < 64 ↔ j.val < 64) then a else 0 := by
  rw [lane, lane]
  by_cases h : i.val < 64 <;> by_cases h' : j.val < 64 <;> simp only [h, h', if_true, if_false] <;> rfl

theorem upd_at (kz v : Vec Ideal S1x1x128x128 .bf16) (d : Vec Ideal S1x128 .f32) (s : Vec Ideal S1x128x128 .f32) (i j : Fin 128) :
    upd kz v d s (ix3 0 i j) = (d (ix2 0 j) * s (ix3 0 i j) +
      Scalar.select (α := EReal) (IntOp.xori (IntOp.xori (IntOp.cmpi .slt (BitVec.ofNat 32 i.val) 64#32)
        (IntOp.cmpi .slt (BitVec.ofNat 32 j.val) 64#32)) 1#1) (∑ x, kz (ix4 0 0 x i) * v (ix4 0 0 x j)) 0 : EReal) := by
  pointwise [upd, k0_pay9, k0_pay5]

theorem snap_at (s : Vec Ideal S1x128x128 .f32) (i j : Fin 128) : snap s (ix5 0 0 0 i j) = s (ix3 0 i j) := by
  pointwise [snap, k0_pay6]

theorem upd_val (kz v : Vec Ideal S1x1x128x128 .bf16) (d : Vec Ideal S1x128 .f32) (s : Vec Ideal S1x128x128 .f32)
    (A B : ℕ → ℕ → EReal) (D : ℕ → EReal) (T : ℕ → ℕ → EReal)
    (hk : ∀ x i : Fin 128, kz (ix4 0 0 x i) = A x i) (hv : ∀ x i : Fin 128, v (ix4 0 0 x i) = B x i)
    (hd : ∀ j : Fin 128, d (ix2 0 j) = D j)
    (hs : ∀ i j : Fin 128, s (ix3 0 i j) = if (i.val < 64 ↔ j.val < 64) then T i j else 0) (i j : Fin 128) :
    upd kz v d s (ix3 0 i j) = if (i.val < 64 ↔ j.val < 64) then D j * T i j + ∑ x : Fin 128, A x i * B x j else 0 := by
  rw [upd_at, selx, hd, hs]
  simp only [hk, hv]
  by_cases h : (i.val < 64 ↔ j.val < 64)
  · simp only [if_pos h]
  · simp only [if_neg h, mul_zero, add_zero]

theorem o_at (q k v : Vec Ideal S1x1x128x128 .bf16) (d0 d1 : Vec Ideal S1x1x128x128 .f32) (sa sb : Vec Ideal S1x1x1x128x128 .bf16)
    (xa xb : Vec Ideal S1x128x128 .f32) (i l : Fin 128) :
   (k0_pay66 (k0_pay62 q) (k0_pay63 k0_pay57 k0_pay58 (Scalar.ofBits .f32 0x00000000#32) v)
      (k0_pay64 k0_pay57 k0_pay58 (Scalar.ofBits .f32 0x00000000#32) q k) (k0_pay65 d0) d1 sa sb xa xb) (ix2 i l) =
      ((∑ x : Fin 128, if l.val < 64 then (∑ y : Fin 128, if y.val < 64 then q (ix4 0 0 i y) * k (ix4 0 0 x y) else 0) * d0 (ix4 0 0 i x) * v (ix4 0 0 x l) else 0)
      + (∑ x : Fin 128, if l.val < 64 then 0 else (∑ y : Fin 128, if y.val < 64 then 0 else q (ix4 0 0 i y) * k (ix4 0 0 x y)) * d1 (ix4 0 0 i x) * v (ix4 0 0 x l))
      + (∑ x, q (ix4 0 0 i x) * sa (ix5 0 0 0 x l)) * xa (ix3 0 i l)
      + (∑ x, q (ix4 0 0 i x) * sb (ix5 0 0 0 x l)) * xb (ix3 0 i l) : EReal) := by
  simp only [← sel]
  pointwise [k0_pay66, k0_pay62, k0_pay63, k0_pay64, k0_pay65, k0_pay57, k0_pay58, k0_pay59]

theorem head_at (q k v g : Vec Ideal S1x1x128x128 .bf16) (d0 d1 : Vec Ideal S1x1x128x128 .f32) (sa sb : Vec Ideal S1x1x1x128x128 .bf16)
    (xa xb : Vec Ideal S1x128x128 .f32) (o : ℕ → EReal) (i l : Fin 128)
    (ho : ∀ l : Fin 128, (k0_pay66 (k0_pay62 q) (k0_pay63 k0_pay57 k0_pay58 (Scalar.ofBits .f32 0x00000000#32) v)
      (k0_pay64 k0_pay57 k0_pay58 (Scalar.ofBits .f32 0x00000000#32) q k) (k0_pay65 d0) d1 sa sb xa xb) (ix2 i l) = o l) :
    head q k v g d0 d1 sa sb xa xb (ix4 0 0 i l) = (o l *
        (if l.val < 64 then Ideal.rsqrt (∑ x : Fin 128, if x.val < 64 then (o x * o x + Ideal.ofBits .f32 897988541#32) * Ideal.ofBits .f32 1015021568#32 else 0)
          else Ideal.rsqrt (∑ x : Fin 128, if x.val < 64 then 0 else (o x * o x + Ideal.ofBits .f32 897988541#32) * Ideal.ofBits .f32 1015021568#32))
      * g (ix4 0 0 i l) : EReal) := by
  revert ho
  unfold head k0_pay68 k0_pay69 k0_pay67
  generalize (k0_pay66 (k0_pay62 q) (k0_pay63 k0_pay57 k0_pay58 (Scalar.ofBits .f32 0x00000000#32) v)
      (k0_pay64 k0_pay57 k0_pay58 (Scalar.ofBits .f32 0x00000000#32) q k) (k0_pay65 d0) d1 sa sb xa xb) = w
  intro ho
  simp only [← sel, ← ho]
  pointwise [k0_pay71, k0_pay60, k0_pay61, k0_pay70, k0_pay57]

/-- A sum over the pair's channels kept on the head of channel `l`. -/
theorem half_sum (f : ℕ → EReal) (l : ℕ) (hl : l < 128) (h : l < 64) :
    (∑ y : Fin 128, if y.val < 64 then f y.val else 0) = ∑ d : Fin 64, f (64 * (l / 64) + d.val) := by
  rw [← sum_half f l hl]; simp only [h, iff_true]

theorem half_sum' (f : ℕ → EReal) (l : ℕ) (hl : l < 128) (h : ¬ l < 64) :
    (∑ y : Fin 128, if y.val < 64 then 0 else f y.val) = ∑ d : Fin 64, f (64 * (l / 64) + d.val) := by
  rw [← sum_half f l hl]; simp only [h, iff_false]
  exact Finset.sum_congr rfl fun y _ => by by_cases e : y.val < 64 <;> simp [e]

theorem o_val (q' k' v' A B E F : ℕ → ℕ → EReal) (N : ℕ → ℕ → ℕ → EReal)
    (q k v : Vec Ideal S1x1x128x128 .bf16) (d0 d1 : Vec Ideal S1x1x128x128 .f32) (sa sb : Vec Ideal S1x1x1x128x128 .bf16)
    (xa xb : Vec Ideal S1x128x128 .f32)
    (hq : ∀ i x : Fin 128, q (ix4 0 0 i x) = q' i x) (hk : ∀ i x : Fin 128, k (ix4 0 0 i x) = k' i x)
    (hv : ∀ i x : Fin 128, v (ix4 0 0 i x) = v' i x)
    (h0 : ∀ i x : Fin 128, d0 (ix4 0 0 i x) = N 0 i x) (h1 : ∀ i x : Fin 128, d1 (ix4 0 0 i x) = N 1 i x)
    (hsa : ∀ i j : Fin 128, sa (ix5 0 0 0 i j) = if (i.val < 64 ↔ j.val < 64) then A i j else 0)
    (hsb : ∀ i j : Fin 128, sb (ix5 0 0 0 i j) = if (i.val < 64 ↔ j.val < 64) then B i j else 0)
    (hxa : ∀ i j : Fin 128, xa (ix3 0 i j) = E i j) (hxb : ∀ i j : Fin 128, xb (ix3 0 i j) = F i j) (i l : Fin 128) :
   (k0_pay66 (k0_pay62 q) (k0_pay63 k0_pay57 k0_pay58 (Scalar.ofBits .f32 0x00000000#32) v)
      (k0_pay64 k0_pay57 k0_pay58 (Scalar.ofBits .f32 0x00000000#32) q k) (k0_pay65 d0) d1 sa sb xa xb) (ix2 i l) =
      ((∑ x : Fin 128, (∑ d : Fin 64, q' i (64 * (l / 64) + d) * k' x (64 * (l / 64) + d)) * N (l / 64) i x * v' x l)
      + (∑ d : Fin 64, q' i (64 * (l / 64) + d) * A (64 * (l / 64) + d) l) * E i l
      + (∑ d : Fin 64, q' i (64 * (l / 64) + d) * B (64 * (l / 64) + d) l) * F i l : EReal) := by
  have hl := l.isLt
  rw [o_at]
  simp only [hq, hk, hv, h0, h1, hsa, hsb, hxa, hxb, mul_ite, mul_zero]
  rw [sum_half (fun x => q' i x * A x l) l hl, sum_half (fun x => q' i x * B x l) l hl]
  congr 2
  by_cases h : l.val < 64
  · have e : l.val / 64 = 0 := by omega
    simp only [if_pos h, Finset.sum_const_zero, add_zero]
    refine Finset.sum_congr rfl fun x _ => ?_
    rw [half_sum (fun y => q' i y * k' x y) l hl h, e]
  · have e : l.val / 64 = 1 := by omega
    simp only [if_neg h, Finset.sum_const_zero, zero_add]
    refine Finset.sum_congr rfl fun x _ => ?_
    rw [half_sum' (fun y => q' i y * k' x y) l hl h, e]

theorem head_val (o : ℕ → EReal) (g' : ℕ → EReal) (q k v g : Vec Ideal S1x1x128x128 .bf16) (d0 d1 : Vec Ideal S1x1x128x128 .f32) (sa sb : Vec Ideal S1x1x1x128x128 .bf16)
    (xa xb : Vec Ideal S1x128x128 .f32) (i l : Fin 128)
    (ho : ∀ l : Fin 128, (k0_pay66 (k0_pay62 q) (k0_pay63 k0_pay57 k0_pay58 (Scalar.ofBits .f32 0x00000000#32) v)
      (k0_pay64 k0_pay57 k0_pay58 (Scalar.ofBits .f32 0x00000000#32) q k) (k0_pay65 d0) d1 sa sb xa xb) (ix2 i l) = o l)
    (hg : g (ix4 0 0 i l) = g' l) :
    head q k v g d0 d1 sa sb xa xb (ix4 0 0 i l) = (o l *
        Ideal.rsqrt (Ideal.div (∑ d : Fin 64, o (64 * (l / 64) + d) * o (64 * (l / 64) + d)) (Ideal.ofBits .f32 1115684864#32) + Ideal.ofBits .f32 897988541#32)
      * g' l : EReal) := by
  have hl := l.isLt
  rw [head_at (o := o) (ho := ho), hg, ← mean_eps (fun d => o (64 * (l / 64) + d) * o (64 * (l / 64) + d)) (fun _ => mul_self_nonneg' _)]
  congr 2
  by_cases h : l.val < 64
  · rw [if_pos h, half_sum (fun x => (o x * o x + Ideal.ofBits .f32 897988541#32) * Ideal.ofBits .f32 1015021568#32) l hl h]
  · rw [if_neg h, half_sum' (fun x => (o x * o x + Ideal.ofBits .f32 897988541#32) * Ideal.ofBits .f32 1015021568#32) l hl h]

theorem head_spec (P : ℕ → ℕ → EReal) (L : ℕ → ℕ → EReal) (n p : ℕ)
    (q k v g : Vec Ideal S1x1x128x128 .bf16) (d0 d1 : Vec Ideal S1x1x128x128 .f32) (sa sb : Vec Ideal S1x1x1x128x128 .bf16)
    (xa xb : Vec Ideal S1x128x128 .f32)
    (hq : ∀ i x : Fin 128, q (ix4 0 0 i x) = Q P (128 * n + i) (p * 128 + x))
    (hk : ∀ i x : Fin 128, k (ix4 0 0 i x) = K P (128 * n + i) (p * 128 + x))
    (hv : ∀ i x : Fin 128, v (ix4 0 0 i x) = MixSpec.V P (128 * n + i) (p * 128 + x))
    (hg : ∀ i x : Fin 128, g (ix4 0 0 i x) = G P (128 * n + i) (p * 128 + x))
    (h0 : ∀ i x : Fin 128, d0 (ix4 0 0 i x) = MixSpec.M L (p * 2 + 0) i x)
    (h1 : ∀ i x : Fin 128, d1 (ix4 0 0 i x) = MixSpec.M L (p * 2 + 1) i x)
    (hsa : ∀ i j : Fin 128, sa (ix5 0 0 0 i j) = if (i.val < 64 ↔ j.val < 64) then SF P L n (p * 128 + i) (p * 128 + j) else 0)
    (hsb : ∀ i j : Fin 128, sb (ix5 0 0 0 i j) = if (i.val < 64 ↔ j.val < 64) then SB P L n (p * 128 + i) (p * 128 + j) else 0)
    (hxa : ∀ i j : Fin 128, xa (ix3 0 i j) = ex (L 0 ((p * 128 + j) / 64)) (i + 1))
    (hxb : ∀ i j : Fin 128, xb (ix3 0 i j) = ex (L 1 ((p * 128 + j) / 64)) (128 - i)) (i l : Fin 128) :
    head q k v g d0 d1 sa sb xa xb (ix4 0 0 i l) = R P L n i (p * 128 + l) := by
  have hl := l.isLt
  have ho : ∀ l : Fin 128, (k0_pay66 (k0_pay62 q) (k0_pay63 k0_pay57 k0_pay58 (Scalar.ofBits .f32 0x00000000#32) v)
      (k0_pay64 k0_pay57 k0_pay58 (Scalar.ofBits .f32 0x00000000#32) q k) (k0_pay65 d0) d1 sa sb xa xb) (ix2 i l) = MixSpec.O P L n i (p * 128 + l) := by
    intro l
    have hl := l.isLt
    rw [o_val (fun i x => Q P (128 * n + i) (p * 128 + x)) (fun i x => K P (128 * n + i) (p * 128 + x)) (fun i x => MixSpec.V P (128 * n + i) (p * 128 + x))
      (fun i j => SF P L n (p * 128 + i) (p * 128 + j)) (fun i j => SB P L n (p * 128 + i) (p * 128 + j))
      (fun i j => ex (L 0 ((p * 128 + j) / 64)) (i + 1)) (fun i j => ex (L 1 ((p * 128 + j) / 64)) (128 - i))
      (fun s i x => MixSpec.M L (p * 2 + s) i x) q k v d0 d1 sa sb xa xb hq hk hv h0 h1 hsa hsb hxa hxb]
    have e1 : (p * 128 + l.val) / 64 = p * 2 + l.val / 64 := by omega
    have e2 : ∀ d : ℕ, 64 * (p * 2 + l.val / 64) + d = p * 128 + (64 * (l.val / 64) + d) := fun d => by omega
    unfold MixSpec.O S
    simp only [e1, e2]
  rw [head_val (fun l => MixSpec.O P L n i (p * 128 + l)) (fun l => G P (128 * n + i) (p * 128 + l)) q k v g d0 d1 sa sb xa xb i l ho (hg i l)]
  have e1 : (p * 128 + l.val) / 64 = p * 2 + l.val / 64 := by omega
  have e2 : ∀ d : ℕ, 64 * (p * 2 + l.val / 64) + d = p * 128 + (64 * (l.val / 64) + d) := fun d => by omega
  unfold R
  simp only [e1, e2]

end Cert.MixersIdeal.Mix

end
-- ==== Proof.MixState.lean ====
/-
  The kernel's states at a grid point, and the two blocks that hold them at the end.
-/
module

public import proofs.«01_k».proof.Proof.MixBlk
public import proofs.«01_k».proof.Proof.MixUnit
public import Idealize.ShloMosaic.Lib.Pipeline.ReadBack

@[expose] public section

set_option maxRecDepth 65536
noncomputable section
namespace Cert.MixersIdeal.Mix
open Cert.MixersIdeal Cert.MixersIdeal.Gen Idealize.ShloMosaic Idealize.ShloMosaic.TcCoe Idealize.SL.Sem
open Cert.MixSpec

section Loads
variable {e : EltTy}

/-- A tile of one page of a block, read at its own index. -/
theorem ld4 {q : ℕ} (a : Vec Ideal (⟨4, ![1, q, 256, 128]⟩ : Shape) e) (p o : ℕ) (inb) (x i : Fin 128) (p' : Fin q) (r' : Fin 256)
    (hp : p'.val = p) (hr : r'.val = o + x.val) :
    View.ld a (Rect.unit (s := ⟨4, ![1, q, 256, 128]⟩) ![0, p, o, 0] ![1, 1, 128, 128] inb) (ix4 0 0 x i) = a (ix4 0 p' r' i) := by
  refine congrArg a (funext fun d => ?_)
  match d with
  | 0 => rfl
  | 1 => exact Fin.ext (by show p + 1 * 0 = p'.val; omega)
  | 2 => exact Fin.ext (by show o + 1 * x.val = r'.val; omega)
  | 3 => exact Fin.ext (by show 0 + 1 * i.val = i.val; omega)

theorem ld6 (a : Vec Ideal (⟨4, ![4, 2, 128, 128]⟩ : Shape) e) (p o : ℕ) (inb) (x i : Fin 128) (p' : Fin 4) (r' : Fin 2)
    (hp : p'.val = p) (hr : r'.val = o) :
    View.ld a (Rect.unit (s := ⟨4, ![4, 2, 128, 128]⟩) ![p, o, 0, 0] ![1, 1, 128, 128] inb) (ix4 0 0 x i) = a (ix4 p' r' x i) := by
  refine congrArg a (funext fun d => ?_)
  match d with
  | 0 => exact Fin.ext (by show p + 1 * 0 = p'.val; omega)
  | 1 => exact Fin.ext (by show o + 1 * 0 = r'.val; omega)
  | 2 => exact Fin.ext (by show 0 + 1 * x.val = x.val; omega)
  | 3 => exact Fin.ext (by show 0 + 1 * i.val = i.val; omega)

theorem ld3 (a : Vec Ideal (⟨3, ![4, 128, 128]⟩ : Shape) e) (p : ℕ) (inb) (x i : Fin 128) (p' : Fin 4) (hp : p'.val = p) :
    View.ld a (Rect.unit (s := ⟨3, ![4, 128, 128]⟩) ![p, 0, 0] ![1, 128, 128] inb) (ix3 0 x i) = a (ix3 p' x i) := by
  refine congrArg a (funext fun d => ?_)
  match d with
  | 0 => exact Fin.ext (by show p + 1 * 0 = p'.val; omega)
  | 1 => exact Fin.ext (by show 0 + 1 * x.val = x.val; omega)
  | 2 => exact Fin.ext (by show 0 + 1 * i.val = i.val; omega)

theorem ld2 (a : Vec Ideal (⟨2, ![1, 512]⟩ : Shape) e) (o : ℕ) (inb) (i : Fin 128) (j' : Fin 512) (hj : j'.val = o + i.val) :
    View.ld a (Rect.unit (s := ⟨2, ![1, 512]⟩) ![0, o] ![1, 128] inb) (ix2 0 i) = a (ix2 0 j') := by
  refine congrArg a (funext fun d => ?_)
  match d with
  | 0 => rfl
  | 1 => exact Fin.ext (by show o + 1 * i.val = j'.val; omega)

end Loads

section States
variable (m : (ℓ : Loc nD τ sig) → Buf (Elt Ideal) ℓ) (c : Dev nD) (t : Fin cfg0.N)

theorem zero3 (p : ℕ) (inb) (hp : p < 4) (i j : Fin 128) :
    (View.ld (Val := Elt Ideal) (e' := .f32) (k0_pay3 (F := Ideal)) (Rect.unit (s := S4x128x128) ![p, 0, 0] ![1, 128, 128] inb) (ix3 0 i j) : EReal)
      = if (i.val < 64 ↔ j.val < 64) then (0 : EReal) else 0 := by
  rw [ld3 _ p inb i j ⟨p, hp⟩ rfl, ite_self]
  pointwise [k0_pay3]

theorem zero4 (p : ℕ) (inb) (hp : p < 4) (i j : Fin 128) :
    (View.ld (Val := Elt Ideal) (e' := .f32) (k0_pay4 (F := Ideal)) (Rect.unit (s := S4x128x128) ![p, 0, 0] ![1, 128, 128] inb) (ix3 0 i j) : EReal)
      = if (i.val < 64 ↔ j.val < 64) then (0 : EReal) else 0 := by
  rw [ld3 _ p inb i j ⟨p, hp⟩ rfl, ite_self]
  pointwise [k0_pay4]

/-- One step of a forward state. -/
theorem step_f (n p o o4 o9 : ℕ) (hn : n < 2) (hp : p < 4) (ho : o = 128 * n) (h4 : o4 = p) (h9 : o9 = p * 128) (i4 i2 i9)
    (s : Vec Ideal S1x128x128 .f32) (T : ℕ → ℕ → EReal)
    (hs : ∀ i j : Fin 128, s (ix3 0 i j) = if (i.val < 64 ↔ j.val < 64) then T i j else 0) (i j : Fin 128) :
    upd (View.ld (iblk m c 4 t) (Rect.unit (s := S1x8x256x128) ![0, o4, o, 0] ![1, 1, 128, 128] i4))
      (View.ld (iblk m c 2 t) (Rect.unit (s := S1x4x256x128) ![0, p, o, 0] ![1, 1, 128, 128] i2))
      (View.ld (iblk m c 9 t) (Rect.unit (s := S1x512) ![0, o9] ![1, 128] i9)) s (ix3 0 i j)
    = if (i.val < 64 ↔ j.val < 64) then ex (LL m c 0 ((p * 128 + j) / 64)) 128 * T i j + UF (PP m c t) (LL m c) n (p * 128 + i) (p * 128 + j) else 0 := by
  subst ho h4 h9
  refine upd_val _ _ _ s (fun x i => K (PP m c t) (128 * n + x) (o4 * 128 + i) * ex (LL m c 0 ((o4 * 128 + i) / 64)) (127 - x))
    (fun x i => MixSpec.V (PP m c t) (128 * n + x) (o4 * 128 + i)) (fun j => ex (LL m c 0 ((o4 * 128 + j) / 64)) 128) T ?_ ?_ ?_ hs i j
  · intro x i
    have hx := x.isLt
    refine (ld4 _ o4 (128 * n) i4 x i ⟨o4, by omega⟩ ⟨128 * n + x, by omega⟩ rfl rfl).trans ((b4 m c t _ _ _).trans ((if_pos hp).trans ?_))
    show _ * ex _ (127 - (128 * n + x.val) % 128) = _
    rw [show (128 * n + x.val) % 128 = x.val by omega]
  · intro x i
    have hx := x.isLt
    exact (ld4 _ o4 (128 * n) i2 x i ⟨o4, by omega⟩ ⟨128 * n + x, by omega⟩ rfl rfl).trans (b2 m c t _ _ _)
  · intro j
    have hj := j.isLt
    exact (ld2 _ (o4 * 128) i9 j ⟨o4 * 128 + j, by omega⟩ rfl).trans (b9 m c t _)

/-- One step of a backward state. -/
theorem step_b (n p o o4 o9 : ℕ) (hn : n < 2) (hp : p < 4) (ho : o = 128 * n) (h4 : o4 = 4 + p) (h9 : o9 = p * 128) (i4 i2 i9)
    (s : Vec Ideal S1x128x128 .f32) (T : ℕ → ℕ → EReal)
    (hs : ∀ i j : Fin 128, s (ix3 0 i j) = if (i.val < 64 ↔ j.val < 64) then T i j else 0) (i j : Fin 128) :
    upd (View.ld (iblk m c 4 t) (Rect.unit (s := S1x8x256x128) ![0, o4, o, 0] ![1, 1, 128, 128] i4))
      (View.ld (iblk m c 2 t) (Rect.unit (s := S1x4x256x128) ![0, p, o, 0] ![1, 1, 128, 128] i2))
      (View.ld (iblk m c 10 t) (Rect.unit (s := S1x512) ![0, o9] ![1, 128] i9)) s (ix3 0 i j)
    = if (i.val < 64 ↔ j.val < 64) then ex (LL m c 1 ((p * 128 + j) / 64)) 128 * T i j + UB (PP m c t) (LL m c) n (p * 128 + i) (p * 128 + j) else 0 := by
  subst ho h4 h9
  refine upd_val _ _ _ s (fun x i => K (PP m c t) (128 * n + x) (p * 128 + i) * ex (LL m c 1 ((p * 128 + i) / 64)) x)
    (fun x i => MixSpec.V (PP m c t) (128 * n + x) (p * 128 + i)) (fun j => ex (LL m c 1 ((p * 128 + j) / 64)) 128) T ?_ ?_ ?_ hs i j
  · intro x i
    have hx := x.isLt
    refine (ld4 _ (4 + p) (128 * n) i4 x i ⟨4 + p, by omega⟩ ⟨128 * n + x, by omega⟩ rfl rfl).trans ((b4 m c t _ _ _).trans
      ((if_neg (show ¬ 4 + p < 4 by omega)).trans ?_))
    show K _ (128 * n + x.val) ((4 + p - 4) * 128 + i.val) * ex (LL m c 1 (((4 + p - 4) * 128 + i.val) / 64)) ((128 * n + x.val) % 128) = _
    rw [show (128 * n + x.val) % 128 = x.val by omega, show 4 + p - 4 = p by omega]
  · intro x i
    have hx := x.isLt
    exact (ld4 _ p (128 * n) i2 x i ⟨p, by omega⟩ ⟨128 * n + x, by omega⟩ rfl rfl).trans (b2 m c t _ _ _)
  · intro j
    have hj := j.isLt
    exact (ld2 _ (p * 128) i9 j ⟨p * 128 + j, by omega⟩ rfl).trans (b10 m c t _)

/-- The first forward state of a pair, and the second. -/
theorem st_f1 (p o4 o9 : ℕ) (hp : p < 4) (h4 : o4 = p) (h9 : o9 = p * 128) (i4 i2 i9 i0) (i j : Fin 128) :
    upd (View.ld (iblk m c 4 t) (Rect.unit (s := S1x8x256x128) ![0, o4, 0, 0] ![1, 1, 128, 128] i4))
      (View.ld (iblk m c 2 t) (Rect.unit (s := S1x4x256x128) ![0, p, 0, 0] ![1, 1, 128, 128] i2))
      (View.ld (iblk m c 9 t) (Rect.unit (s := S1x512) ![0, o9] ![1, 128] i9))
      (View.ld (k0_pay3 (F := Ideal)) (Rect.unit (s := S4x128x128) ![p, 0, 0] ![1, 128, 128] i0)) (ix3 0 i j)
    = if (i.val < 64 ↔ j.val < 64) then UF (PP m c t) (LL m c) 0 (p * 128 + i) (p * 128 + j) else 0 := by
  rw [step_f m c t 0 p 0 o4 o9 (by omega) hp rfl h4 h9 i4 i2 i9 _ (fun _ _ => 0) (zero3 p i0 hp) i j, mul_zero, zero_add]

theorem st_f2 (p o4 o9 : ℕ) (hp : p < 4) (h4 : o4 = p) (h9 : o9 = p * 128) (i4 i2 i9 i4' i2' i0) (i j : Fin 128) :
    upd (View.ld (iblk m c 4 t) (Rect.unit (s := S1x8x256x128) ![0, o4, 128, 0] ![1, 1, 128, 128] i4))
      (View.ld (iblk m c 2 t) (Rect.unit (s := S1x4x256x128) ![0, p, 128, 0] ![1, 1, 128, 128] i2))
      (View.ld (iblk m c 9 t) (Rect.unit (s := S1x512) ![0, o9] ![1, 128] i9))
      (upd (View.ld (iblk m c 4 t) (Rect.unit (s := S1x8x256x128) ![0, o4, 0, 0] ![1, 1, 128, 128] i4'))
        (View.ld (iblk m c 2 t) (Rect.unit (s := S1x4x256x128) ![0, p, 0, 0] ![1, 1, 128, 128] i2'))
        (View.ld (iblk m c 9 t) (Rect.unit (s := S1x512) ![0, o9] ![1, 128] i9))
        (View.ld (k0_pay3 (F := Ideal)) (Rect.unit (s := S4x128x128) ![p, 0, 0] ![1, 128, 128] i0))) (ix3 0 i j)
    = if (i.val < 64 ↔ j.val < 64) then FF (PP m c t) (LL m c) (p * 128 + i) (p * 128 + j) else 0 :=
  step_f m c t 1 p 128 o4 o9 (by omega) hp rfl h4 h9 i4 i2 i9 _ (fun i j => UF (PP m c t) (LL m c) 0 (p * 128 + i) (p * 128 + j))
    (st_f1 m c t p o4 o9 hp h4 h9 i4' i2' i9 i0) i j

theorem st_b1 (p o4 o9 : ℕ) (hp : p < 4) (h4 : o4 = 4 + p) (h9 : o9 = p * 128) (i4 i2 i9 i0) (i j : Fin 128) :
    upd (View.ld (iblk m c 4 t) (Rect.unit (s := S1x8x256x128) ![0, o4, 128, 0] ![1, 1, 128, 128] i4))
      (View.ld (iblk m c 2 t) (Rect.unit (s := S1x4x256x128) ![0, p, 128, 0] ![1, 1, 128, 128] i2))
      (View.ld (iblk m c 10 t) (Rect.unit (s := S1x512) ![0, o9] ![1, 128] i9))
      (View.ld (k0_pay4 (F := Ideal)) (Rect.unit (s := S4x128x128) ![p, 0, 0] ![1, 128, 128] i0)) (ix3 0 i j)
    = if (i.val < 64 ↔ j.val < 64) then UB (PP m c t) (LL m c) 1 (p * 128 + i) (p * 128 + j) else 0 := by
  rw [step_b m c t 1 p 128 o4 o9 (by omega) hp rfl h4 h9 i4 i2 i9 _ (fun _ _ => 0) (zero4 p i0 hp) i j, mul_zero, zero_add]

theorem st_b2 (p o4 o9 : ℕ) (hp : p < 4) (h4 : o4 = 4 + p) (h9 : o9 = p * 128) (i4 i2 i9 i4' i2' i0) (i j : Fin 128) :
    upd (View.ld (iblk m c 4 t) (Rect.unit (s := S1x8x256x128) ![0, o4, 0, 0] ![1, 1, 128, 128] i4))
      (View.ld (iblk m c 2 t) (Rect.unit (s := S1x4x256x128) ![0, p, 0, 0] ![1, 1, 128, 128] i2))
      (View.ld (iblk m c 10 t) (Rect.unit (s := S1x512) ![0, o9] ![1, 128] i9))
      (upd (View.ld (iblk m c 4 t) (Rect.unit (s := S1x8x256x128) ![0, o4, 128, 0] ![1, 1, 128, 128] i4'))
        (View.ld (iblk m c 2 t) (Rect.unit (s := S1x4x256x128) ![0, p, 128, 0] ![1, 1, 128, 128] i2'))
        (View.ld (iblk m c 10 t) (Rect.unit (s := S1x512) ![0, o9] ![1, 128] i9))
        (View.ld (k0_pay4 (F := Ideal)) (Rect.unit (s := S4x128x128) ![p, 0, 0] ![1, 128, 128] i0))) (ix3 0 i j)
    = if (i.val < 64 ↔ j.val < 64) then FB (PP m c t) (LL m c) (p * 128 + i) (p * 128 + j) else 0 :=
  step_b m c t 0 p 0 o4 o9 (by omega) hp rfl h4 h9 i4 i2 i9 _ (fun i j => UB (PP m c t) (LL m c) 1 (p * 128 + i) (p * 128 + j))
    (st_b1 m c t p o4 o9 hp h4 h9 i4' i2' i9 i0) i j

end States

end Cert.MixersIdeal.Mix

end
-- ==== Proof.MixRet.lean ====
/-
  What the kernel's body leaves in its retention block.
-/
module

public import proofs.«01_k».proof.Proof.MixState

@[expose] public section

set_option maxRecDepth 65536
noncomputable section
namespace Cert.MixersIdeal.Mix
open Cert.MixersIdeal Cert.MixersIdeal.Gen Idealize.ShloMosaic Idealize.ShloMosaic.TcCoe Idealize.SL.Sem
open Cert.MixSpec

section Tiles

/-- A tile of a block of pages, as a block of the function the pages hold. -/
theorem tile_key {q : ℕ} (g : ℕ → ℕ → ℕ → EReal) (k o : ℕ) (x : Vec Ideal S1x1x128x128 .bf16)
    (inb : ∀ a, (![0, k, o, 0] : Fin 4 → ℕ) a + (![1, 1, 128, 128] : Fin 4 → ℕ) a ≤ (⟨4, ![1, q, 256, 128]⟩ : Shape).size a)
    (hx : ∀ i j : Fin 128, x (ix4 0 0 i j) = g k (o + i) j) (y : (Rect.unit (s := ⟨4, ![1, q, 256, 128]⟩) ![0, k, o, 0] ![1, 1, 128, 128] inb).shape.Idx) :
    x y = (fun z : (⟨4, ![1, q, 256, 128]⟩ : Shape).Idx => g (z 1).val (z 2).val (z 3).val)
      ((Rect.unit (s := ⟨4, ![1, q, 256, 128]⟩) ![0, k, o, 0] ![1, 1, 128, 128] inb).emb y) := by
  have e : y = ix4 (0 : Fin 1) (0 : Fin 1) (y 2) (y 3) := by
    funext a
    match a with
    | 0 => exact Fin.ext (by have h : (y 0).val < 1 := (y 0).isLt; show (y 0).val = 0; omega)
    | 1 => exact Fin.ext (by have h : (y 1).val < 1 := (y 1).isLt; show (y 1).val = 0; omega)
    | 2 => rfl
    | 3 => rfl
  refine (congrArg x e).trans ((hx (y 2) (y 3)).trans ?_)
  show g k _ _ = g (k + 1 * (y 1).val) (o + 1 * (y 2).val) (0 + 1 * (y 3).val)
  rw [show (y 1).val = 0 by have : (y 1).val < 1 := (y 1).isLt; omega, Nat.mul_zero, Nat.add_zero, Nat.zero_add, Nat.one_mul, Nat.one_mul]

theorem tile_mem {q : ℕ} (k o : ℕ) (inb : ∀ a, (![0, k, o, 0] : Fin 4 → ℕ) a + (![1, 1, 128, 128] : Fin 4 → ℕ) a ≤ (⟨4, ![1, q, 256, 128]⟩ : Shape).size a)
    (p : Fin q) (r : Fin 256) (l : Fin 128) (hk : p.val = k) (hr : o ≤ r.val ∧ r.val < o + 128) :
    (ix4 0 p r l : (⟨4, ![1, q, 256, 128]⟩ : Shape).Idx) ∈ (Rect.unit (s := ⟨4, ![1, q, 256, 128]⟩) ![0, k, o, 0] ![1, 1, 128, 128] inb).set := by
  have hl := l.isLt
  refine Rect.mem_set_unit.mpr fun a => ?_
  match a with
  | 0 => show 0 ≤ 0 ∧ 0 < 0 + 1; omega
  | 1 => show k ≤ p.val ∧ p.val < k + 1; omega
  | 2 => show o ≤ r.val ∧ r.val < o + 128; omega
  | 3 => show 0 ≤ l.val ∧ l.val < 0 + 128; omega

/-- 8 tiles that fill a block hold what is stored. -/
theorem tiles8 (g : ℕ → ℕ → ℕ → EReal) (x13 x12 x11 x10 x03 x02 x01 x00 : Vec Ideal S1x1x128x128 .bf16)
    (i13 : ∀ a, (![0, 3, 128, 0] : Fin 4 → ℕ) a + (![1, 1, 128, 128] : Fin 4 → ℕ) a ≤ (⟨4, ![1, 4, 256, 128]⟩ : Shape).size a)
    (i12 : ∀ a, (![0, 2, 128, 0] : Fin 4 → ℕ) a + (![1, 1, 128, 128] : Fin 4 → ℕ) a ≤ (⟨4, ![1, 4, 256, 128]⟩ : Shape).size a)
    (i11 : ∀ a, (![0, 1, 128, 0] : Fin 4 → ℕ) a + (![1, 1, 128, 128] : Fin 4 → ℕ) a ≤ (⟨4, ![1, 4, 256, 128]⟩ : Shape).size a)
    (i10 : ∀ a, (![0, 0, 128, 0] : Fin 4 → ℕ) a + (![1, 1, 128, 128] : Fin 4 → ℕ) a ≤ (⟨4, ![1, 4, 256, 128]⟩ : Shape).size a)
    (i03 : ∀ a, (![0, 3, 0, 0] : Fin 4 → ℕ) a + (![1, 1, 128, 128] : Fin 4 → ℕ) a ≤ (⟨4, ![1, 4, 256, 128]⟩ : Shape).size a)
    (i02 : ∀ a, (![0, 2, 0, 0] : Fin 4 → ℕ) a + (![1, 1, 128, 128] : Fin 4 → ℕ) a ≤ (⟨4, ![1, 4, 256, 128]⟩ : Shape).size a)
    (i01 : ∀ a, (![0, 1, 0, 0] : Fin 4 → ℕ) a + (![1, 1, 128, 128] : Fin 4 → ℕ) a ≤ (⟨4, ![1, 4, 256, 128]⟩ : Shape).size a)
    (i00 : ∀ a, (![0, 0, 0, 0] : Fin 4 → ℕ) a + (![1, 1, 128, 128] : Fin 4 → ℕ) a ≤ (⟨4, ![1, 4, 256, 128]⟩ : Shape).size a)
    (h13 : ∀ i j : Fin 128, x13 (ix4 0 0 i j) = g 3 (128 + i) j)
    (h12 : ∀ i j : Fin 128, x12 (ix4 0 0 i j) = g 2 (128 + i) j)
    (h11 : ∀ i j : Fin 128, x11 (ix4 0 0 i j) = g 1 (128 + i) j)
    (h10 : ∀ i j : Fin 128, x10 (ix4 0 0 i j) = g 0 (128 + i) j)
    (h03 : ∀ i j : Fin 128, x03 (ix4 0 0 i j) = g 3 (0 + i) j)
    (h02 : ∀ i j : Fin 128, x02 (ix4 0 0 i j) = g 2 (0 + i) j)
    (h01 : ∀ i j : Fin 128, x01 (ix4 0 0 i j) = g 1 (0 + i) j)
    (h00 : ∀ i j : Fin 128, x00 (ix4 0 0 i j) = g 0 (0 + i) j)
    (p : Fin 4) (r : Fin 256) (l : Fin 128) :
    View.canon (Val := Elt Ideal) (s := ⟨4, ![1, 4, 256, 128]⟩) (e := .bf16)
      [⟨Rect.unit (s := ⟨4, ![1, 4, 256, 128]⟩) ![0, 3, 128, 0] ![1, 1, 128, 128] i13, x13⟩,
        ⟨Rect.unit (s := ⟨4, ![1, 4, 256, 128]⟩) ![0, 2, 128, 0] ![1, 1, 128, 128] i12, x12⟩,
        ⟨Rect.unit (s := ⟨4, ![1, 4, 256, 128]⟩) ![0, 1, 128, 0] ![1, 1, 128, 128] i11, x11⟩,
        ⟨Rect.unit (s := ⟨4, ![1, 4, 256, 128]⟩) ![0, 0, 128, 0] ![1, 1, 128, 128] i10, x10⟩,
        ⟨Rect.unit (s := ⟨4, ![1, 4, 256, 128]⟩) ![0, 3, 0, 0] ![1, 1, 128, 128] i03, x03⟩,
        ⟨Rect.unit (s := ⟨4, ![1, 4, 256, 128]⟩) ![0, 2, 0, 0] ![1, 1, 128, 128] i02, x02⟩,
        ⟨Rect.unit (s := ⟨4, ![1, 4, 256, 128]⟩) ![0, 1, 0, 0] ![1, 1, 128, 128] i01, x01⟩,
        ⟨Rect.unit (s := ⟨4, ![1, 4, 256, 128]⟩) ![0, 0, 0, 0] ![1, 1, 128, 128] i00, x00⟩] (ix4 0 p r l) = g p r l := by
  have hp := p.isLt
  have hr := r.isLt
  have H := View.canon_append_of_piecesOf (Val := Elt Ideal) (fun z : (⟨4, ![1, 4, 256, 128]⟩ : Shape).Idx => g (z 1).val (z 2).val (z 3).val) []
    [⟨Rect.unit (s := ⟨4, ![1, 4, 256, 128]⟩) ![0, 3, 128, 0] ![1, 1, 128, 128] i13, x13⟩,
      ⟨Rect.unit (s := ⟨4, ![1, 4, 256, 128]⟩) ![0, 2, 128, 0] ![1, 1, 128, 128] i12, x12⟩,
      ⟨Rect.unit (s := ⟨4, ![1, 4, 256, 128]⟩) ![0, 1, 128, 0] ![1, 1, 128, 128] i11, x11⟩,
      ⟨Rect.unit (s := ⟨4, ![1, 4, 256, 128]⟩) ![0, 0, 128, 0] ![1, 1, 128, 128] i10, x10⟩,
      ⟨Rect.unit (s := ⟨4, ![1, 4, 256, 128]⟩) ![0, 3, 0, 0] ![1, 1, 128, 128] i03, x03⟩,
      ⟨Rect.unit (s := ⟨4, ![1, 4, 256, 128]⟩) ![0, 2, 0, 0] ![1, 1, 128, 128] i02, x02⟩,
      ⟨Rect.unit (s := ⟨4, ![1, 4, 256, 128]⟩) ![0, 1, 0, 0] ![1, 1, 128, 128] i01, x01⟩,
      ⟨Rect.unit (s := ⟨4, ![1, 4, 256, 128]⟩) ![0, 0, 0, 0] ![1, 1, 128, 128] i00, x00⟩]
    ⟨tile_key g 3 128 x13 i13 h13, tile_key g 2 128 x12 i12 h12, tile_key g 1 128 x11 i11 h11, tile_key g 0 128 x10 i10 h10, tile_key g 3 0 x03 i03 h03, tile_key g 2 0 x02 i02 h02, tile_key g 1 0 x01 i01 h01, tile_key g 0 0 x00 i00 h00, trivial⟩ (ix4 0 p r l) ?_
  · rw [List.append_nil] at H; exact H
  rcases (by omega : (p.val = 3 ∧ 128 ≤ r.val ∧ r.val < 128 + 128) ∨ (p.val = 2 ∧ 128 ≤ r.val ∧ r.val < 128 + 128) ∨ (p.val = 1 ∧ 128 ≤ r.val ∧ r.val < 128 + 128) ∨ (p.val = 0 ∧ 128 ≤ r.val ∧ r.val < 128 + 128) ∨ (p.val = 3 ∧ 0 ≤ r.val ∧ r.val < 0 + 128) ∨ (p.val = 2 ∧ 0 ≤ r.val ∧ r.val < 0 + 128) ∨ (p.val = 1 ∧ 0 ≤ r.val ∧ r.val < 0 + 128) ∨ (p.val = 0 ∧ 0 ≤ r.val ∧ r.val < 0 + 128)) with h | h | h | h | h | h | h | h
  · exact ⟨_, List.mem_cons_self, tile_mem 3 128 i13 p r l h.1 h.2⟩
  · exact ⟨_, List.mem_cons_of_mem _ (List.mem_cons_self), tile_mem 2 128 i12 p r l h.1 h.2⟩
  · exact ⟨_, List.mem_cons_of_mem _ (List.mem_cons_of_mem _ (List.mem_cons_self)), tile_mem 1 128 i11 p r l h.1 h.2⟩
  · exact ⟨_, List.mem_cons_of_mem _ (List.mem_cons_of_mem _ (List.mem_cons_of_mem _ (List.mem_cons_self))), tile_mem 0 128 i10 p r l h.1 h.2⟩
  · exact ⟨_, List.mem_cons_of_mem _ (List.mem_cons_of_mem _ (List.mem_cons_of_mem _ (List.mem_cons_of_mem _ (List.mem_cons_self)))), tile_mem 3 0 i03 p r l h.1 h.2⟩
  · exact ⟨_, List.mem_cons_of_mem _ (List.mem_cons_of_mem _ (List.mem_cons_of_mem _ (List.mem_cons_of_mem _ (List.mem_cons_of_mem _ (List.mem_cons_self))))), tile_mem 2 0 i02 p r l h.1 h.2⟩
  · exact ⟨_, List.mem_cons_of_mem _ (List.mem_cons_of_mem _ (List.mem_cons_of_mem _ (List.mem_cons_of_mem _ (List.mem_cons_of_mem _ (List.mem_cons_of_mem _ (List.mem_cons_self)))))), tile_mem 1 0 i01 p r l h.1 h.2⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), tile_mem 0 0 i00 p r l h.1 h.2⟩

/-- 4 tiles that fill a block hold what is stored. -/
theorem tiles4 (g : ℕ → ℕ → ℕ → EReal) (x11 x10 x01 x00 : Vec Ideal S1x1x128x128 .bf16)
    (i11 : ∀ a, (![0, 1, 128, 0] : Fin 4 → ℕ) a + (![1, 1, 128, 128] : Fin 4 → ℕ) a ≤ (⟨4, ![1, 2, 256, 128]⟩ : Shape).size a)
    (i10 : ∀ a, (![0, 0, 128, 0] : Fin 4 → ℕ) a + (![1, 1, 128, 128] : Fin 4 → ℕ) a ≤ (⟨4, ![1, 2, 256, 128]⟩ : Shape).size a)
    (i01 : ∀ a, (![0, 1, 0, 0] : Fin 4 → ℕ) a + (![1, 1, 128, 128] : Fin 4 → ℕ) a ≤ (⟨4, ![1, 2, 256, 128]⟩ : Shape).size a)
    (i00 : ∀ a, (![0, 0, 0, 0] : Fin 4 → ℕ) a + (![1, 1, 128, 128] : Fin 4 → ℕ) a ≤ (⟨4, ![1, 2, 256, 128]⟩ : Shape).size a)
    (h11 : ∀ i j : Fin 128, x11 (ix4 0 0 i j) = g 1 (128 + i) j)
    (h10 : ∀ i j : Fin 128, x10 (ix4 0 0 i j) = g 0 (128 + i) j)
    (h01 : ∀ i j : Fin 128, x01 (ix4 0 0 i j) = g 1 (0 + i) j)
    (h00 : ∀ i j : Fin 128, x00 (ix4 0 0 i j) = g 0 (0 + i) j)
    (p : Fin 2) (r : Fin 256) (l : Fin 128) :
    View.canon (Val := Elt Ideal) (s := ⟨4, ![1, 2, 256, 128]⟩) (e := .bf16)
      [⟨Rect.unit (s := ⟨4, ![1, 2, 256, 128]⟩) ![0, 1, 128, 0] ![1, 1, 128, 128] i11, x11⟩,
        ⟨Rect.unit (s := ⟨4, ![1, 2, 256, 128]⟩) ![0, 0, 128, 0] ![1, 1, 128, 128] i10, x10⟩,
        ⟨Rect.unit (s := ⟨4, ![1, 2, 256, 128]⟩) ![0, 1, 0, 0] ![1, 1, 128, 128] i01, x01⟩,
        ⟨Rect.unit (s := ⟨4, ![1, 2, 256, 128]⟩) ![0, 0, 0, 0] ![1, 1, 128, 128] i00, x00⟩] (ix4 0 p r l) = g p r l := by
  have hp := p.isLt
  have hr := r.isLt
  have H := View.canon_append_of_piecesOf (Val := Elt Ideal) (fun z : (⟨4, ![1, 2, 256, 128]⟩ : Shape).Idx => g (z 1).val (z 2).val (z 3).val) []
    [⟨Rect.unit (s := ⟨4, ![1, 2, 256, 128]⟩) ![0, 1, 128, 0] ![1, 1, 128, 128] i11, x11⟩,
      ⟨Rect.unit (s := ⟨4, ![1, 2, 256, 128]⟩) ![0, 0, 128, 0] ![1, 1, 128, 128] i10, x10⟩,
      ⟨Rect.unit (s := ⟨4, ![1, 2, 256, 128]⟩) ![0, 1, 0, 0] ![1, 1, 128, 128] i01, x01⟩,
      ⟨Rect.unit (s := ⟨4, ![1, 2, 256, 128]⟩) ![0, 0, 0, 0] ![1, 1, 128, 128] i00, x00⟩]
    ⟨tile_key g 1 128 x11 i11 h11, tile_key g 0 128 x10 i10 h10, tile_key g 1 0 x01 i01 h01, tile_key g 0 0 x00 i00 h00, trivial⟩ (ix4 0 p r l) ?_
  · rw [List.append_nil] at H; exact H
  rcases (by omega : (p.val = 1 ∧ 128 ≤ r.val ∧ r.val < 128 + 128) ∨ (p.val = 0 ∧ 128 ≤ r.val ∧ r.val < 128 + 128) ∨ (p.val = 1 ∧ 0 ≤ r.val ∧ r.val < 0 + 128) ∨ (p.val = 0 ∧ 0 ≤ r.val ∧ r.val < 0 + 128)) with h | h | h | h
  · exact ⟨_, List.mem_cons_self, tile_mem 1 128 i11 p r l h.1 h.2⟩
  · exact ⟨_, List.mem_cons_of_mem _ (List.mem_cons_self), tile_mem 0 128 i10 p r l h.1 h.2⟩
  · exact ⟨_, List.mem_cons_of_mem _ (List.mem_cons_of_mem _ (List.mem_cons_self)), tile_mem 1 0 i01 p r l h.1 h.2⟩
  · exact ⟨_, List.mem_cons_of_mem _ (List.mem_cons_of_mem _ (List.mem_cons_of_mem _ (List.mem_cons_self))), tile_mem 0 0 i00 p r l h.1 h.2⟩

end Tiles

section Heads
variable (m : (ℓ : Loc nD τ sig) → Buf (Elt Ideal) ℓ) (c : Dev nD) (t : Fin cfg0.N)

/-- One pair of heads over one chunk, on the loads the body makes and the states it has kept. -/
theorem head_n (n p o : ℕ) (hn : n < 2) (hp : p < 4) (ho : o = 128 * n) (i0 i1 i2 i3 i6 i6' i7 i8) (sa sb : Vec Ideal S1x128x128 .f32)
    (hsa : ∀ i j : Fin 128, sa (ix3 0 i j) = if (i.val < 64 ↔ j.val < 64) then SF (PP m c t) (LL m c) n (p * 128 + i) (p * 128 + j) else 0)
    (hsb : ∀ i j : Fin 128, sb (ix3 0 i j) = if (i.val < 64 ↔ j.val < 64) then SB (PP m c t) (LL m c) n (p * 128 + i) (p * 128 + j) else 0) (i j : Fin 128) :
    head (View.ld (iblk m c 0 t) (Rect.unit (s := S1x4x256x128) ![0, p, o, 0] ![1, 1, 128, 128] i0))
      (View.ld (iblk m c 1 t) (Rect.unit (s := S1x4x256x128) ![0, p, o, 0] ![1, 1, 128, 128] i1))
      (View.ld (iblk m c 2 t) (Rect.unit (s := S1x4x256x128) ![0, p, o, 0] ![1, 1, 128, 128] i2))
      (View.ld (iblk m c 3 t) (Rect.unit (s := S1x4x256x128) ![0, p, o, 0] ![1, 1, 128, 128] i3))
      (View.ld (iblk m c 6 t) (Rect.unit (s := S4x2x128x128) ![p, 0, 0, 0] ![1, 1, 128, 128] i6))
      (View.ld (iblk m c 6 t) (Rect.unit (s := S4x2x128x128) ![p, 1, 0, 0] ![1, 1, 128, 128] i6'))
      (snap sa) (snap sb)
      (View.ld (iblk m c 7 t) (Rect.unit (s := S4x128x128) ![p, 0, 0] ![1, 128, 128] i7))
      (View.ld (iblk m c 8 t) (Rect.unit (s := S4x128x128) ![p, 0, 0] ![1, 128, 128] i8)) (ix4 0 0 i j)
    = R (PP m c t) (LL m c) n i (p * 128 + j) := by
  subst ho
  refine head_spec (PP m c t) (LL m c) n p _ _ _ _ _ _ _ _ _ _ ?_ ?_ ?_ ?_ ?_ ?_ ?_ ?_ ?_ ?_ i j
  · exact fun x i => have hx := x.isLt; (ld4 _ p (128 * n) i0 x i ⟨p, hp⟩ ⟨128 * n + x, by omega⟩ rfl rfl).trans (b0 m c t _ _ _)
  · exact fun x i => have hx := x.isLt; (ld4 _ p (128 * n) i1 x i ⟨p, hp⟩ ⟨128 * n + x, by omega⟩ rfl rfl).trans (b1 m c t _ _ _)
  · exact fun x i => have hx := x.isLt; (ld4 _ p (128 * n) i2 x i ⟨p, hp⟩ ⟨128 * n + x, by omega⟩ rfl rfl).trans (b2 m c t _ _ _)
  · exact fun x i => have hx := x.isLt; (ld4 _ p (128 * n) i3 x i ⟨p, hp⟩ ⟨128 * n + x, by omega⟩ rfl rfl).trans (b3 m c t _ _ _)
  · exact fun x i => (ld6 _ p 0 i6 x i ⟨p, hp⟩ 0 rfl rfl).trans (b6 m c t _ _ _ _)
  · exact fun x i => (ld6 _ p 1 i6' x i ⟨p, hp⟩ 1 rfl rfl).trans (b6 m c t _ _ _ _)
  · exact fun i j => (snap_at sa i j).trans (hsa i j)
  · exact fun i j => (snap_at sb i j).trans (hsb i j)
  · exact fun x i => (ld3 _ p i7 x i ⟨p, hp⟩ rfl).trans (b7 m c t _ _ _)
  · exact fun x i => (ld3 _ p i8 x i ⟨p, hp⟩ rfl).trans (b8 m c t _ _ _)

theorem head_0 (p o4 o9 : ℕ) (hp : p < 4) (h4 : o4 = 4 + p) (h9 : o9 = p * 128) (i0 i1 i2 i3 i6 i6' i7 i8 j3 j4 j2 j9 j5) (i j : Fin 128) :
    head (View.ld (iblk m c 0 t) (Rect.unit (s := S1x4x256x128) ![0, p, 0, 0] ![1, 1, 128, 128] i0))
      (View.ld (iblk m c 1 t) (Rect.unit (s := S1x4x256x128) ![0, p, 0, 0] ![1, 1, 128, 128] i1))
      (View.ld (iblk m c 2 t) (Rect.unit (s := S1x4x256x128) ![0, p, 0, 0] ![1, 1, 128, 128] i2))
      (View.ld (iblk m c 3 t) (Rect.unit (s := S1x4x256x128) ![0, p, 0, 0] ![1, 1, 128, 128] i3))
      (View.ld (iblk m c 6 t) (Rect.unit (s := S4x2x128x128) ![p, 0, 0, 0] ![1, 1, 128, 128] i6))
      (View.ld (iblk m c 6 t) (Rect.unit (s := S4x2x128x128) ![p, 1, 0, 0] ![1, 1, 128, 128] i6'))
      (snap (F := Ideal) (View.ld (Val := Elt Ideal) (e' := .f32) (k0_pay3 (F := Ideal)) (Rect.unit (s := S4x128x128) ![p, 0, 0] ![1, 128, 128] j3)))
      (snap (upd (View.ld (iblk m c 4 t) (Rect.unit (s := S1x8x256x128) ![0, o4, 128, 0] ![1, 1, 128, 128] j4))
        (View.ld (iblk m c 2 t) (Rect.unit (s := S1x4x256x128) ![0, p, 128, 0] ![1, 1, 128, 128] j2))
        (View.ld (iblk m c 10 t) (Rect.unit (s := S1x512) ![0, o9] ![1, 128] j9))
        (View.ld (k0_pay4 (F := Ideal)) (Rect.unit (s := S4x128x128) ![p, 0, 0] ![1, 128, 128] j5))))
      (View.ld (iblk m c 7 t) (Rect.unit (s := S4x128x128) ![p, 0, 0] ![1, 128, 128] i7))
      (View.ld (iblk m c 8 t) (Rect.unit (s := S4x128x128) ![p, 0, 0] ![1, 128, 128] i8)) (ix4 0 0 i j)
    = R (PP m c t) (LL m c) 0 i (p * 128 + j) :=
  head_n m c t 0 p 0 (by omega) hp rfl i0 i1 i2 i3 i6 i6' i7 i8 _ _ (zero3 p j3 hp) (st_b1 m c t p o4 o9 hp h4 h9 j4 j2 j9 j5) i j

theorem head_1 (p o4 o9 : ℕ) (hp : p < 4) (h4 : o4 = p) (h9 : o9 = p * 128) (i0 i1 i2 i3 i6 i6' i7 i8 j3 j4 j2 j9 j5) (i j : Fin 128) :
    head (View.ld (iblk m c 0 t) (Rect.unit (s := S1x4x256x128) ![0, p, 128, 0] ![1, 1, 128, 128] i0))
      (View.ld (iblk m c 1 t) (Rect.unit (s := S1x4x256x128) ![0, p, 128, 0] ![1, 1, 128, 128] i1))
      (View.ld (iblk m c 2 t) (Rect.unit (s := S1x4x256x128) ![0, p, 128, 0] ![1, 1, 128, 128] i2))
      (View.ld (iblk m c 3 t) (Rect.unit (s := S1x4x256x128) ![0, p, 128, 0] ![1, 1, 128, 128] i3))
      (View.ld (iblk m c 6 t) (Rect.unit (s := S4x2x128x128) ![p, 0, 0, 0] ![1, 1, 128, 128] i6))
      (View.ld (iblk m c 6 t) (Rect.unit (s := S4x2x128x128) ![p, 1, 0, 0] ![1, 1, 128, 128] i6'))
      (snap (upd (View.ld (iblk m c 4 t) (Rect.unit (s := S1x8x256x128) ![0, o4, 0, 0] ![1, 1, 128, 128] j4))
        (View.ld (iblk m c 2 t) (Rect.unit (s := S1x4x256x128) ![0, p, 0, 0] ![1, 1, 128, 128] j2))
        (View.ld (iblk m c 9 t) (Rect.unit (s := S1x512) ![0, o9] ![1, 128] j9))
        (View.ld (k0_pay3 (F := Ideal)) (Rect.unit (s := S4x128x128) ![p, 0, 0] ![1, 128, 128] j5))))
      (snap (F := Ideal) (View.ld (Val := Elt Ideal) (e' := .f32) (k0_pay4 (F := Ideal)) (Rect.unit (s := S4x128x128) ![p, 0, 0] ![1, 128, 128] j3)))
      (View.ld (iblk m c 7 t) (Rect.unit (s := S4x128x128) ![p, 0, 0] ![1, 128, 128] i7))
      (View.ld (iblk m c 8 t) (Rect.unit (s := S4x128x128) ![p, 0, 0] ![1, 128, 128] i8)) (ix4 0 0 i j)
    = R (PP m c t) (LL m c) 1 i (p * 128 + j) :=
  head_n m c t 1 p 128 (by omega) hp rfl i0 i1 i2 i3 i6 i6' i7 i8 _ _ (st_f1 m c t p o4 o9 hp h4 h9 j4 j2 j9 j5) (zero4 p j3 hp) i j

/-- The retention block, page by page. -/
abbrev rg (p r l : ℕ) : EReal := R (PP m c t) (LL m c) (r / 128) (r % 128) (p * 128 + l)

theorem rg_of (n p o : ℕ) (ho : o = 128 * n) (i j : Fin 128) (e : EReal) (h : e = R (PP m c t) (LL m c) n i (p * 128 + j)) :
    e = rg m c t p (o + i) j := by
  subst ho
  have hi := i.isLt
  rw [h]
  show _ = R _ _ ((128 * n + i.val) / 128) ((128 * n + i.val) % 128) _
  rw [show (128 * n + i.val) / 128 = n by omega, show (128 * n + i.val) % 128 = i.val by omega]

set_option maxHeartbeats 8000000 in
theorem out12 (p : Fin 4) (r : Fin 256) (l : Fin 128) : (outsAt0 m c t).1 (ix4 0 p r l) = rg m c t p r l := by
  unfold outsAt0
  dsimp only
  frame_out
  simp (disch := decide) only [↓ View.readCov_skip, ↓ View.readCov_cons_toLoadRect, ↓ View.readCov_fill, u9,u12,u16,u18,u24,u25,u28,u30,u34,u37,u42,u43,u47,u48,u51,u54]
  exact tiles8 (rg m c t) _ _ _ _ _ _ _ _ _ _ _ _ _ _ _ _
    (fun i j => rg_of m c t 1 3 128 rfl i j _ (head_1 m c t 3 3 384 (by decide) rfl rfl (by decide) (by decide) (by decide) (by decide) (by decide) (by decide) (by decide) (by decide) (by decide) (by decide) (by decide) (by decide) (by decide) i j))
    (fun i j => rg_of m c t 1 2 128 rfl i j _ (head_1 m c t 2 2 256 (by decide) rfl rfl (by decide) (by decide) (by decide) (by decide) (by decide) (by decide) (by decide) (by decide) (by decide) (by decide) (by decide) (by decide) (by decide) i j))
    (fun i j => rg_of m c t 1 1 128 rfl i j _ (head_1 m c t 1 1 128 (by decide) rfl rfl (by decide) (by decide) (by decide) (by decide) (by decide) (by decide) (by decide) (by decide) (by decide) (by decide) (by decide) (by decide) (by decide) i j))
    (fun i j => rg_of m c t 1 0 128 rfl i j _ (head_1 m c t 0 0 0 (by decide) rfl rfl (by decide) (by decide) (by decide) (by decide) (by decide) (by decide) (by decide) (by decide) (by decide) (by decide) (by decide) (by decide) (by decide) i j))
    (fun i j => rg_of m c t 0 3 0 rfl i j _ (head_0 m c t 3 7 384 (by decide) rfl rfl (by decide) (by decide) (by decide) (by decide) (by decide) (by decide) (by decide) (by decide) (by decide) (by decide) (by decide) (by decide) (by decide) i j))
    (fun i j => rg_of m c t 0 2 0 rfl i j _ (head_0 m c t 2 6 256 (by decide) rfl rfl (by decide) (by decide) (by decide) (by decide) (by decide) (by decide) (by decide) (by decide) (by decide) (by decide) (by decide) (by decide) (by decide) i j))
    (fun i j => rg_of m c t 0 1 0 rfl i j _ (head_0 m c t 1 5 128 (by decide) rfl rfl (by decide) (by decide) (by decide) (by decide) (by decide) (by decide) (by decide) (by decide) (by decide) (by decide) (by decide) (by decide) (by decide) i j))
    (fun i j => rg_of m c t 0 0 0 rfl i j _ (head_0 m c t 0 4 0 (by decide) rfl rfl (by decide) (by decide) (by decide) (by decide) (by decide) (by decide) (by decide) (by decide) (by decide) (by decide) (by decide) (by decide) (by decide) i j))
    p r l

end Heads

end Cert.MixersIdeal.Mix

end
-- ==== Proof.MixConv.lean ====
/-
  What the kernel's body leaves in its gated-convolution block.
-/
module

public import proofs.«01_k».proof.Proof.MixRet

@[expose] public section

set_option maxRecDepth 65536
noncomputable section
namespace Cert.MixersIdeal.Mix
open Cert.MixersIdeal Cert.MixersIdeal.Gen Idealize.ShloMosaic Idealize.ShloMosaic.TcCoe Idealize.SL.Sem
open Cert.MixSpec

/-- A row of a chunk with sixteen rows before it and sixteen behind, read at one row's distance. -/
theorem pick (A : Fin 16 → EReal) (X : Fin 128 → EReal) (E : Fin 16 → EReal) (T : ℕ → EReal)
    (hA : A 15 = T 0) (hX : ∀ i : Fin 128, X i = T (i + 1)) (hE : E 0 = T 129) (k : ℕ) (hk : 15 ≤ k ∧ k ≤ 144) (pf : k - 16 - 128 < 16) :
    (if h : k < 16 then A ⟨k, h⟩ else if h' : k - 16 < 128 then X ⟨k - 16, h'⟩ else E ⟨k - 16 - 128, pf⟩) = T (k - 15) := by
  split
  · have : k = 15 := by omega
    subst this; exact hA
  · split
    · rw [hX]; congr 1; show k - 16 + 1 = k - 15; omega
    · have : k = 144 := by omega
      subst this; exact hE

theorem lo_at (T : ℕ → EReal) (W : ℕ → EReal) (y : EReal) (w : Vec Ideal S3x256 .f32) (z : BitVec 32) (b : BitVec 1)
    (a0 a1 e0 e1 : Vec Ideal S1x1x16x128 .bf16) (x0 x1 g0 g1 : Vec Ideal S1x1x128x128 .bf16) (i l : Fin 128)
    (hA : Scalar.select (α := EReal) (Scalar.cmpi .eq z 0#32) 0 (a0 (ix4 0 0 15 l)) = T 0)
    (hX : ∀ i : Fin 128, x0 (ix4 0 0 i l) = T (i + 1))
    (hE : Scalar.select (α := EReal) b 0 (e0 (ix4 0 0 0 l)) = T 129)
    (hw : ∀ s : Fin 3, w (ix2 s ⟨l.val, by omega⟩) = W s) (hg : g0 (ix4 0 0 i l) = y) :
    k0_pay102 (k0_pay101 w (k0_pay99 z a0 a1) b e0 e1 x0 x1 g0 g1) (ix4 0 0 i l)
      = (y * (T i * W 0 + T (i + 1) * W 1 + T (i + 2) * W 2) : EReal) := by
  have hi := i.isLt
  pointwise [k0_pay102, k0_pay101, k0_pay100, k0_pay99]
  refine congrArg₂ (· * ·) hg (congrArg₂ (· + ·) (congrArg₂ (· + ·) (congrArg₂ (· * ·) ?_ (hw 0)) (congrArg₂ (· * ·) (hX i) (hw 1))) (congrArg₂ (· * ·) ?_ (hw 2)))
  · refine (pick (fun r => Scalar.select (α := EReal) (Scalar.cmpi .eq z 0#32) 0 (a0 (ix4 0 0 r l))) (fun r => x0 (ix4 0 0 r l))
      (fun r => Scalar.select (α := EReal) b 0 (e0 (ix4 0 0 r l))) T hA hX hE (15 + i) (by omega) (by omega)).trans ?_
    rw [show 15 + i.val - 15 = i.val by omega]
  · refine (pick (fun r => Scalar.select (α := EReal) (Scalar.cmpi .eq z 0#32) 0 (a0 (ix4 0 0 r l))) (fun r => x0 (ix4 0 0 r l))
      (fun r => Scalar.select (α := EReal) b 0 (e0 (ix4 0 0 r l))) T hA hX hE (17 + i) (by omega) (by omega)).trans ?_
    rw [show 17 + i.val - 15 = i.val + 2 by omega]

theorem hi_at (T : ℕ → EReal) (W : ℕ → EReal) (y : EReal) (w : Vec Ideal S3x256 .f32) (z : BitVec 32) (b : BitVec 1)
    (a0 a1 e0 e1 : Vec Ideal S1x1x16x128 .bf16) (x0 x1 g0 g1 : Vec Ideal S1x1x128x128 .bf16) (i l : Fin 128)
    (hA : Scalar.select (α := EReal) (Scalar.cmpi .eq z 0#32) 0 (a1 (ix4 0 0 15 l)) = T 0)
    (hX : ∀ i : Fin 128, x1 (ix4 0 0 i l) = T (i + 1))
    (hE : Scalar.select (α := EReal) b 0 (e1 (ix4 0 0 0 l)) = T 129)
    (hw : ∀ s : Fin 3, w (ix2 s ⟨128 + l.val, by omega⟩) = W s) (hg : g1 (ix4 0 0 i l) = y) :
    k0_pay103 (k0_pay100 w (k0_pay99 z a0 a1) b e0 e1 x0 x1 g0 g1) (ix4 0 0 i l)
      = (y * (T i * W 0 + T (i + 1) * W 1 + T (i + 2) * W 2) : EReal) := by
  have hi := i.isLt
  pointwise [k0_pay103, k0_pay100, k0_pay99]
  refine congrArg₂ (· * ·) hg (congrArg₂ (· + ·) (congrArg₂ (· + ·) (congrArg₂ (· * ·) ?_ (hw 0)) (congrArg₂ (· * ·) (hX i) (hw 1))) (congrArg₂ (· * ·) ?_ (hw 2)))
  · refine (pick (fun r => Scalar.select (α := EReal) (Scalar.cmpi .eq z 0#32) 0 (a1 (ix4 0 0 r l))) (fun r => x1 (ix4 0 0 r l))
      (fun r => Scalar.select (α := EReal) b 0 (e1 (ix4 0 0 r l))) T hA hX hE (15 + i) (by omega) (by omega)).trans ?_
    rw [show 15 + i.val - 15 = i.val by omega]
  · refine (pick (fun r => Scalar.select (α := EReal) (Scalar.cmpi .eq z 0#32) 0 (a1 (ix4 0 0 r l))) (fun r => x1 (ix4 0 0 r l))
      (fun r => Scalar.select (α := EReal) b 0 (e1 (ix4 0 0 r l))) T hA hX hE (17 + i) (by omega) (by omega)).trans ?_
    rw [show 17 + i.val - 15 = i.val + 2 by omega]

theorem ld16 {e : EltTy} {q : ℕ} (a : Vec Ideal (⟨4, ![1, q, 256, 128]⟩ : Shape) e) (p o : ℕ) (inb) (x : Fin 16) (i : Fin 128) (p' : Fin q) (r' : Fin 256)
    (hp : p'.val = p) (hr : r'.val = o + x.val) :
    View.ld a (Rect.unit (s := ⟨4, ![1, q, 256, 128]⟩) ![0, p, o, 0] ![1, 1, 16, 128] inb) (ix4 0 0 x i) = a (ix4 0 p' r' i) := by
  refine congrArg a (funext fun d => ?_)
  match d with
  | 0 => rfl
  | 1 => exact Fin.ext (by show p + 1 * 0 = p'.val; omega)
  | 2 => exact Fin.ext (by show o + 1 * x.val = r'.val; omega)
  | 3 => exact Fin.ext (by show 0 + 1 * i.val = i.val; omega)

section Conv
variable (m : (ℓ : Loc nD τ sig) → Buf (Elt Ideal) ℓ) (c : Dev nD) (t : Fin cfg0.N)

abbrev WW : ℕ → ℕ → EReal := ofW (m ((c.tc : Thread nD τ).loc main_arg2))

/-- The rows of a chunk's gated input with one row before and one behind, zero past either end. -/
def T (P : ℕ → ℕ → EReal) (n x r : ℕ) : EReal := if 128 * n + r = 0 then 0 else if 128 * n + r = 257 then 0 else gp P (128 * n + r - 1) x

theorem T_row (P : ℕ → ℕ → EReal) (n x i : ℕ) (hn : n < 2) (hi : i < 128) : T P n x (i + 1) = gp P (128 * n + i) x := by
  unfold T; rw [if_neg (by omega), if_neg (by omega)]; rfl

theorem C_of (P w : ℕ → ℕ → EReal) (n x i : ℕ) (hn : n < 2) (hi : i < 128) :
    P (128 * n + i) (2304 + x) * (T P n x i * w 0 x + T P n x (i + 1) * w 1 x + T P n x (i + 2) * w 2 x) = C P w (128 * n + i) x := by
  unfold C
  rw [T_row P n x i hn hi]
  have h0 : T P n x i = if 128 * n + i = 0 then 0 else gp P (128 * n + i - 1) x := by
    unfold T; split
    · rfl
    · rw [if_neg (by omega)]
  have h2 : T P n x (i + 2) = if 128 * n + i = 255 then 0 else gp P (128 * n + i + 1) x := by
    unfold T; rw [if_neg (by omega)]
    by_cases h : 128 * n + i = 255
    · rw [if_pos h, if_pos (by omega)]
    · rw [if_neg h, if_neg (by omega)]; rfl
  rw [h0, h2]

/-- The input's tile and the gate's tile of one page. -/
theorem xrow (n p p2 o : ℕ) (hn : n < 2) (hp : p < 2) (h2 : p2 = 2 + p) (ho : o = 128 * n) (inb) (i l : Fin 128) :
    View.ld (iblk m c 5 t) (Rect.unit (s := S1x4x256x128) ![0, p2, o, 0] ![1, 1, 128, 128] inb) (ix4 0 0 i l) = T (PP m c t) n (p * 128 + l) (i + 1) := by
  subst h2 ho
  have hi := i.isLt
  refine (ld4 _ (2 + p) (128 * n) inb i l ⟨2 + p, by omega⟩ ⟨128 * n + i, by omega⟩ rfl rfl).trans ((b5 m c t _ _ _).trans ((if_neg (show ¬ 2 + p < 2 by omega)).trans ?_))
  rw [T_row _ n _ i hn hi]
  show gp _ _ ((2 + p - 2) * 128 + l.val) = _
  rw [show 2 + p - 2 = p by omega]

theorem xhal (n p p2 o : ℕ) (hp : p < 2) (h2 : p2 = 2 + p) (x : Fin 16) (r : ℕ) (hr : 128 * n + r - 1 = o + x) (ho : o + 16 ≤ 256)
    (hz : 128 * n + r ≠ 0) (hz' : 128 * n + r ≠ 257) (inb) (l : Fin 128) :
    View.ld (iblk m c 5 t) (Rect.unit (s := S1x4x256x128) ![0, p2, o, 0] ![1, 1, 16, 128] inb) (ix4 0 0 x l) = T (PP m c t) n (p * 128 + l) r := by
  subst h2
  have hx := x.isLt
  refine (ld16 _ (2 + p) o inb x l ⟨2 + p, by omega⟩ ⟨o + x, by omega⟩ rfl rfl).trans ((b5 m c t _ _ _).trans ((if_neg (show ¬ 2 + p < 2 by omega)).trans ?_))
  unfold T
  rw [if_neg hz, if_neg hz', hr]
  show gp _ _ ((2 + p - 2) * 128 + l.val) = _
  rw [show 2 + p - 2 = p by omega]

theorem grow (n p o : ℕ) (hn : n < 2) (hp : p < 2) (ho : o = 128 * n) (inb) (i l : Fin 128) :
    View.ld (iblk m c 5 t) (Rect.unit (s := S1x4x256x128) ![0, p, o, 0] ![1, 1, 128, 128] inb) (ix4 0 0 i l) = PP m c t (128 * n + i) (2304 + (p * 128 + l)) := by
  subst ho
  have hi := i.isLt
  exact (ld4 _ p (128 * n) inb i l ⟨p, by omega⟩ ⟨128 * n + i, by omega⟩ rfl rfl).trans ((b5 m c t _ _ _).trans (if_pos hp))

theorem lo_val (n o oa oe : ℕ) (hn : n < 2) (ho : o = 128 * n) (z : BitVec 32) (b : BitVec 1) (i2 i3 i0 i1 a0 a1 e0 e1) (i l : Fin 128)
    (hA : Scalar.select (α := EReal) (Scalar.cmpi .eq z 0#32) 0 (View.ld (iblk m c 5 t) (Rect.unit (s := S1x4x256x128) ![0, 2, oa, 0] ![1, 1, 16, 128] a0) (ix4 0 0 15 l)) = T (PP m c t) n (0 * 128 + l) 0)
    (hE : Scalar.select (α := EReal) b 0 (View.ld (iblk m c 5 t) (Rect.unit (s := S1x4x256x128) ![0, 2, oe, 0] ![1, 1, 16, 128] e0) (ix4 0 0 0 l)) = T (PP m c t) n (0 * 128 + l) 129) :
    k0_pay102 (k0_pay101 (iblk m c 11 t)
      (k0_pay99 z (View.ld (iblk m c 5 t) (Rect.unit (s := S1x4x256x128) ![0, 2, oa, 0] ![1, 1, 16, 128] a0))
        (View.ld (iblk m c 5 t) (Rect.unit (s := S1x4x256x128) ![0, 3, oa, 0] ![1, 1, 16, 128] a1))) b
      (View.ld (iblk m c 5 t) (Rect.unit (s := S1x4x256x128) ![0, 2, oe, 0] ![1, 1, 16, 128] e0))
      (View.ld (iblk m c 5 t) (Rect.unit (s := S1x4x256x128) ![0, 3, oe, 0] ![1, 1, 16, 128] e1))
      (View.ld (iblk m c 5 t) (Rect.unit (s := S1x4x256x128) ![0, 2, o, 0] ![1, 1, 128, 128] i2))
      (View.ld (iblk m c 5 t) (Rect.unit (s := S1x4x256x128) ![0, 3, o, 0] ![1, 1, 128, 128] i3))
      (View.ld (iblk m c 5 t) (Rect.unit (s := S1x4x256x128) ![0, 0, o, 0] ![1, 1, 128, 128] i0))
      (View.ld (iblk m c 5 t) (Rect.unit (s := S1x4x256x128) ![0, 1, o, 0] ![1, 1, 128, 128] i1))) (ix4 0 0 i l)
      = C (PP m c t) (WW m c) (o + i) (0 * 128 + l) := by
  have e : o + i.val = 128 * n + i.val := by omega
  rw [e, ← C_of _ _ n _ i hn i.isLt]
  refine lo_at (T (PP m c t) n (0 * 128 + l)) (fun s => WW m c s (0 * 128 + l)) _ _ z b _ _ _ _ _ _ _ _ i l hA ?_ hE ?_ ?_
  · exact fun i => xrow m c t n 0 2 o hn (by omega) rfl ho i2 i l
  · intro s
    have hl := l.isLt
    refine (b11 m c t s ⟨l.val, by omega⟩).trans ?_
    show WW m c s.val l.val = WW m c s.val (0 * 128 + l.val)
    rw [Nat.zero_mul, Nat.zero_add]
  · exact grow m c t n 0 o hn (by omega) ho i0 i l

theorem hi_val (n o oa oe : ℕ) (hn : n < 2) (ho : o = 128 * n) (z : BitVec 32) (b : BitVec 1) (i2 i3 i0 i1 a0 a1 e0 e1) (i l : Fin 128)
    (hA : Scalar.select (α := EReal) (Scalar.cmpi .eq z 0#32) 0 (View.ld (iblk m c 5 t) (Rect.unit (s := S1x4x256x128) ![0, 3, oa, 0] ![1, 1, 16, 128] a1) (ix4 0 0 15 l)) = T (PP m c t) n (1 * 128 + l) 0)
    (hE : Scalar.select (α := EReal) b 0 (View.ld (iblk m c 5 t) (Rect.unit (s := S1x4x256x128) ![0, 3, oe, 0] ![1, 1, 16, 128] e1) (ix4 0 0 0 l)) = T (PP m c t) n (1 * 128 + l) 129) :
    k0_pay103 (k0_pay100 (iblk m c 11 t)
      (k0_pay99 z (View.ld (iblk m c 5 t) (Rect.unit (s := S1x4x256x128) ![0, 2, oa, 0] ![1, 1, 16, 128] a0))
        (View.ld (iblk m c 5 t) (Rect.unit (s := S1x4x256x128) ![0, 3, oa, 0] ![1, 1, 16, 128] a1))) b
      (View.ld (iblk m c 5 t) (Rect.unit (s := S1x4x256x128) ![0, 2, oe, 0] ![1, 1, 16, 128] e0))
      (View.ld (iblk m c 5 t) (Rect.unit (s := S1x4x256x128) ![0, 3, oe, 0] ![1, 1, 16, 128] e1))
      (View.ld (iblk m c 5 t) (Rect.unit (s := S1x4x256x128) ![0, 2, o, 0] ![1, 1, 128, 128] i2))
      (View.ld (iblk m c 5 t) (Rect.unit (s := S1x4x256x128) ![0, 3, o, 0] ![1, 1, 128, 128] i3))
      (View.ld (iblk m c 5 t) (Rect.unit (s := S1x4x256x128) ![0, 0, o, 0] ![1, 1, 128, 128] i0))
      (View.ld (iblk m c 5 t) (Rect.unit (s := S1x4x256x128) ![0, 1, o, 0] ![1, 1, 128, 128] i1))) (ix4 0 0 i l)
      = C (PP m c t) (WW m c) (o + i) (1 * 128 + l) := by
  have e : o + i.val = 128 * n + i.val := by omega
  rw [e, ← C_of _ _ n _ i hn i.isLt]
  refine hi_at (T (PP m c t) n (1 * 128 + l)) (fun s => WW m c s (1 * 128 + l)) _ _ z b _ _ _ _ _ _ _ _ i l hA ?_ hE ?_ ?_
  · exact fun i => xrow m c t n 1 3 o hn (by omega) rfl ho i3 i l
  · intro s
    have hl := l.isLt
    refine (b11 m c t s ⟨128 + l.val, by omega⟩).trans ?_
    show WW m c s.val (128 + l.val) = WW m c s.val (1 * 128 + l.val)
    rw [Nat.one_mul]
  · exact grow m c t n 1 o hn (by omega) ho i1 i l

theorem T_first (P : ℕ → ℕ → EReal) (x : ℕ) : T P 0 x 0 = 0 := if_pos rfl
theorem T_last (P : ℕ → ℕ → EReal) (x : ℕ) : T P 1 x 129 = 0 := by unfold T; rw [if_neg (by omega), if_pos (by omega)]

/-- The convolution block, page by page. -/
abbrev cg (p r l : ℕ) : EReal := C (PP m c t) (WW m c) r (p * 128 + l)

set_option maxHeartbeats 8000000 in
theorem out13 (p : Fin 2) (r : Fin 256) (l : Fin 128) : (outsAt0 m c t).2.1 (ix4 0 p r l) = cg m c t p r l := by
  unfold outsAt0
  dsimp only
  frame_out
  exact tiles4 (cg m c t) _ _ _ _ _ _ _ _
    (fun i l => hi_val m c t 1 128 112 240 (by decide) rfl 1#32 1#1 (by decide) (by decide) (by decide) (by decide) (by decide) (by decide) (by decide) (by decide) i l
      (xhal m c t 1 1 3 112 (by decide) rfl 15 0 rfl (by decide) (by decide) (by decide) _ l) (T_last _ _).symm)
    (fun i l => lo_val m c t 1 128 112 240 (by decide) rfl 1#32 1#1 (by decide) (by decide) (by decide) (by decide) (by decide) (by decide) (by decide) (by decide) i l
      (xhal m c t 1 0 2 112 (by decide) rfl 15 0 rfl (by decide) (by decide) (by decide) _ l) (T_last _ _).symm)
    (fun i l => hi_val m c t 0 0 0 128 (by decide) rfl 0#32 0#1 (by decide) (by decide) (by decide) (by decide) (by decide) (by decide) (by decide) (by decide) i l
      (T_first _ _).symm (xhal m c t 0 1 3 128 (by decide) rfl 0 129 rfl (by decide) (by decide) (by decide) _ l))
    (fun i l => lo_val m c t 0 0 0 128 (by decide) rfl 0#32 0#1 (by decide) (by decide) (by decide) (by decide) (by decide) (by decide) (by decide) (by decide) i l
      (T_first _ _).symm (xhal m c t 0 0 2 128 (by decide) rfl 0 129 rfl (by decide) (by decide) (by decide) _ l))
    p r l

end Conv

end Cert.MixersIdeal.Mix

end
-- ==== Proof.MixFin.lean ====
/-
  The two blocks that hold the kernel's states behind the last chunk.
-/
module

public import proofs.«01_k».proof.Proof.MixState

@[expose] public section

set_option maxRecDepth 65536
noncomputable section
namespace Cert.MixersIdeal.Mix
open Cert.MixersIdeal Cert.MixersIdeal.Gen Idealize.ShloMosaic Idealize.ShloMosaic.TcCoe Idealize.SL.Sem
open Cert.MixSpec

theorem pay55_at (x : Vec Ideal S4x128x128 .f32) (p : Fin 4) (r l : Fin 128) : k0_pay55 x (ix4 0 p r l) = x (ix3 p r l) := by
  pointwise [k0_pay55]
theorem pay56_at (x : Vec Ideal S4x128x128 .f32) (p : Fin 4) (r l : Fin 128) : k0_pay56 x (ix4 0 p r l) = x (ix3 p r l) := by
  pointwise [k0_pay56]

/-- Four pages, stored page by page over anything, hold what is stored. -/
theorem pages (g : ℕ → ℕ → ℕ → EReal) (x0 x1 x2 x3 : Vec Ideal S1x128x128 .f32) (i0 i1 i2 i3) (L : List (View.Piece (Elt Ideal) S4x128x128 .f32))
    (h0 : ∀ i j : Fin 128, x0 (ix3 0 i j) = g 0 i j) (h1 : ∀ i j : Fin 128, x1 (ix3 0 i j) = g 1 i j)
    (h2 : ∀ i j : Fin 128, x2 (ix3 0 i j) = g 2 i j) (h3 : ∀ i j : Fin 128, x3 (ix3 0 i j) = g 3 i j)
    (p : Fin 4) (r l : Fin 128) :
    View.canon (Val := Elt Ideal) (s := S4x128x128) (e := .f32)
      (⟨Rect.unit (s := S4x128x128) ![3, 0, 0] ![1, 128, 128] i3, x3⟩ :: ⟨Rect.unit (s := S4x128x128) ![2, 0, 0] ![1, 128, 128] i2, x2⟩
        :: ⟨Rect.unit (s := S4x128x128) ![1, 0, 0] ![1, 128, 128] i1, x1⟩ :: ⟨Rect.unit (s := S4x128x128) ![0, 0, 0] ![1, 128, 128] i0, x0⟩ :: L) (ix3 p r l)
      = g p r l := by
  have hp := p.isLt
  have hr := r.isLt
  have hl := l.isLt
  have key : ∀ (k : ℕ) (x : Vec Ideal S1x128x128 .f32) (inb : ∀ a, (![k, 0, 0] : Fin 3 → ℕ) a + (![1, 128, 128] : Fin 3 → ℕ) a ≤ S4x128x128.size a)
      (hx : ∀ i j : Fin 128, x (ix3 0 i j) = g k i j) (y : (Rect.unit (s := S4x128x128) ![k, 0, 0] ![1, 128, 128] inb).shape.Idx),
      x y = (fun z : S4x128x128.Idx => g (z 0).val (z 1).val (z 2).val) ((Rect.unit (s := S4x128x128) ![k, 0, 0] ![1, 128, 128] inb).emb y) := by
    intro k x inb hx y
    have e : y = ix3 (0 : Fin 1) (y 1) (y 2) := by
      funext a
      match a with
      | 0 => exact Fin.ext (by have h : (y 0).val < 1 := (y 0).isLt; show (y 0).val = 0; omega)
      | 1 => rfl
      | 2 => rfl
    refine (congrArg x e).trans ((hx (y 1) (y 2)).trans ?_)
    show g k _ _ = g (k + 1 * (y 0).val) (0 + 1 * (y 1).val) (0 + 1 * (y 2).val)
    rw [show (y 0).val = 0 by have : (y 0).val < 1 := (y 0).isLt; omega, Nat.mul_zero, Nat.add_zero, Nat.zero_add, Nat.zero_add, Nat.one_mul, Nat.one_mul]
  refine View.canon_append_of_piecesOf (fun z : S4x128x128.Idx => g (z 0).val (z 1).val (z 2).val) L
    [⟨Rect.unit (s := S4x128x128) ![3, 0, 0] ![1, 128, 128] i3, x3⟩, ⟨Rect.unit (s := S4x128x128) ![2, 0, 0] ![1, 128, 128] i2, x2⟩,
      ⟨Rect.unit (s := S4x128x128) ![1, 0, 0] ![1, 128, 128] i1, x1⟩, ⟨Rect.unit (s := S4x128x128) ![0, 0, 0] ![1, 128, 128] i0, x0⟩]
    ⟨key 3 x3 i3 h3, key 2 x2 i2 h2, key 1 x1 i1 h1, key 0 x0 i0 h0, trivial⟩ (ix3 p r l) ?_
  have mem : ∀ (k : ℕ) (inb : ∀ a, (![k, 0, 0] : Fin 3 → ℕ) a + (![1, 128, 128] : Fin 3 → ℕ) a ≤ S4x128x128.size a), p.val = k →
      (ix3 p r l : S4x128x128.Idx) ∈ (Rect.unit (s := S4x128x128) ![k, 0, 0] ![1, 128, 128] inb).set := by
    intro k inb hk
    refine Rect.mem_set_unit.mpr fun a => ?_
    match a with
    | 0 => show k ≤ p.val ∧ p.val < k + 1; omega
    | 1 => show 0 ≤ r.val ∧ r.val < 0 + 128; omega
    | 2 => show 0 ≤ l.val ∧ l.val < 0 + 128; omega
  rcases (by omega : p.val = 3 ∨ p.val = 2 ∨ p.val = 1 ∨ p.val = 0) with h | h | h | h
  · exact ⟨_, List.mem_cons_self, mem 3 i3 h⟩
  · exact ⟨_, List.mem_cons_of_mem _ List.mem_cons_self, mem 2 i2 h⟩
  · exact ⟨_, List.mem_cons_of_mem _ (List.mem_cons_of_mem _ List.mem_cons_self), mem 1 i1 h⟩
  · exact ⟨_, List.mem_cons_of_mem _ (List.mem_cons_of_mem _ (List.mem_cons_of_mem _ List.mem_cons_self)), mem 0 i0 h⟩

theorem whole3 (p : Fin 4) (r l : Fin 128) (inb) :
    (Rect.unit (s := S4x128x128) ![0, 0, 0] ![4, 128, 128] inb).toLoadRect.idx (ix3 p r l) = (ix3 p r l : S4x128x128.Idx) := by
  funext a
  match a with
  | 0 => exact Fin.ext (by show 0 + 1 * p.val = p.val; omega)
  | 1 => exact Fin.ext (by show 0 + 1 * r.val = r.val; omega)
  | 2 => exact Fin.ext (by show 0 + 1 * l.val = l.val; omega)

section Outs
variable (m : (ℓ : Loc nD τ sig) → Buf (Elt Ideal) ℓ) (c : Dev nD) (t : Fin cfg0.N)

set_option maxHeartbeats 4000000 in
theorem out14 (p : Fin 4) (r l : Fin 128) : (outsAt0 m c t).2.2.1 (ix4 0 p r l)
    = if (r.val < 64 ↔ l.val < 64) then FF (PP m c t) (LL m c) (p.val * 128 + r.val) (p.val * 128 + l.val) else 0 := by
  unfold outsAt0
  dsimp only
  frame_out
  simp (disch := decide) only [↓ View.readCov_skip, ↓ View.readCov_cons_toLoadRect, ↓ View.readCov_fill, u9,u12,u16,u18,u24,u25,u28,u30,u34,u37,u42,u43,u47,u48,u51,u54]
  refine (pay55_at _ p r l).trans ?_
  rw [View.readCov_eq_canon']
  refine (congrArg (View.canon _) (whole3 p r l _)).trans ?_
  exact pages (fun p r l => if (r < 64 ↔ l < 64) then FF (PP m c t) (LL m c) (p * 128 + r) (p * 128 + l) else 0) _ _ _ _ _ _ _ _ _
    (st_f2 m c t 0 0 0 (by decide) rfl rfl _ _ _ _ _ _) (st_f2 m c t 1 1 128 (by decide) rfl rfl _ _ _ _ _ _)
    (st_f2 m c t 2 2 256 (by decide) rfl rfl _ _ _ _ _ _) (st_f2 m c t 3 3 384 (by decide) rfl rfl _ _ _ _ _ _) p r l

set_option maxHeartbeats 4000000 in
theorem out15 (p : Fin 4) (r l : Fin 128) : (outsAt0 m c t).2.2.2 (ix4 0 p r l)
    = if (r.val < 64 ↔ l.val < 64) then FB (PP m c t) (LL m c) (p.val * 128 + r.val) (p.val * 128 + l.val) else 0 := by
  unfold outsAt0
  dsimp only
  frame_out
  simp (disch := decide) only [↓ View.readCov_skip, ↓ View.readCov_cons_toLoadRect, ↓ View.readCov_fill, u9,u12,u16,u18,u24,u25,u28,u30,u34,u37,u42,u43,u47,u48,u51,u54]
  refine (pay56_at _ p r l).trans ?_
  rw [View.readCov_eq_canon']
  refine (congrArg (View.canon _) (whole3 p r l _)).trans ?_
  exact pages (fun p r l => if (r < 64 ↔ l < 64) then FB (PP m c t) (LL m c) (p * 128 + r) (p * 128 + l) else 0) _ _ _ _ _ _ _ _ _
    (st_b2 m c t 0 4 0 (by decide) rfl rfl _ _ _ _ _ _) (st_b2 m c t 1 5 128 (by decide) rfl rfl _ _ _ _ _ _)
    (st_b2 m c t 2 6 256 (by decide) rfl rfl _ _ _ _ _ _) (st_b2 m c t 3 7 384 (by decide) rfl rfl _ _ _ _ _ _) p r l

end Outs

end Cert.MixersIdeal.Mix

end
-- ==== Proof.MixEnd.lean ====
/-
  The kernel's four result arrays after its run.
-/
module

public import proofs.«01_k».proof.Proof.MixConv
public import proofs.«01_k».proof.Proof.MixFin
public import proofs.«01_k».proof.Proof.Gen.MixersIdeal.Value

@[expose] public section

set_option maxRecDepth 65536
noncomputable section
namespace Cert.MixersIdeal.Mix
open Cert.MixersIdeal Cert.MixersIdeal.Gen Idealize.ShloMosaic Idealize.ShloMosaic.TcCoe Idealize.SL.Sem
open Idealize.ShloMosaic.Pipeline (Dat)
open Cert.MixSpec

theorem final12 (m : (ℓ : Loc nD τ sig) → Buf (Elt Ideal) ℓ) (c : Dev nD) (A : FVec Ideal S32x4x256x128 .bf16)
    (hA : ∀ (b : Fin 32) (p : Fin 4) (r : Fin 256) (l : Fin 128), A (ix4 b p r l) = R (ofA (aP m c) b) (LL m c) (r.val / 128) (r.val % 128) (p.val * 128 + l.val)) :
    (dats m 0 c).arrAt 12 cfg0.N = A := by
  refine (dats m 0 c).arrAt_eq_of_covers 12 _ (by decide +kernel) fun t _ y => ?_
  blk_simp
  rw [after0_12]
  have e : y = (ix4 0 (⟨(y 1).val, (y 1).isLt⟩ : Fin 4) (⟨(y 2).val, (y 2).isLt⟩ : Fin 256) (⟨(y 3).val, (y 3).isLt⟩ : Fin 128) : S1x4x256x128.Idx) := by
    funext a
    match a with
    | 0 => exact Fin.ext (by have h : (y 0).val < 1 := (y 0).isLt; show (y 0).val = 0; omega)
    | 1 => rfl
    | 2 => rfl
    | 3 => rfl
  refine (congrArg (outsAt0 m c t).1 e).trans ((out12 m c t _ _ _).trans ((hA (row t) _ _ _).symm.trans (congrArg A ?_)))
  blk_ext [idx t]

theorem final13 (m : (ℓ : Loc nD τ sig) → Buf (Elt Ideal) ℓ) (c : Dev nD) (A : FVec Ideal S32x2x256x128 .bf16)
    (hA : ∀ (b : Fin 32) (p : Fin 2) (r : Fin 256) (l : Fin 128), A (ix4 b p r l) = C (ofA (aP m c) b) (WW m c) r.val (p.val * 128 + l.val)) :
    (dats m 0 c).arrAt 13 cfg0.N = A := by
  refine (dats m 0 c).arrAt_eq_of_covers 13 _ (by decide +kernel) fun t _ y => ?_
  blk_simp
  rw [after0_13]
  have e : y = (ix4 0 (⟨(y 1).val, (y 1).isLt⟩ : Fin 2) (⟨(y 2).val, (y 2).isLt⟩ : Fin 256) (⟨(y 3).val, (y 3).isLt⟩ : Fin 128) : S1x2x256x128.Idx) := by
    funext a
    match a with
    | 0 => exact Fin.ext (by have h : (y 0).val < 1 := (y 0).isLt; show (y 0).val = 0; omega)
    | 1 => rfl
    | 2 => rfl
    | 3 => rfl
  refine (congrArg (outsAt0 m c t).2.1 e).trans ((out13 m c t _ _ _).trans ((hA (row t) _ _ _).symm.trans (congrArg A ?_)))
  blk_ext [idx t]

theorem final14 (m : (ℓ : Loc nD τ sig) → Buf (Elt Ideal) ℓ) (c : Dev nD) (A : FVec Ideal S32x4x128x128 .f32)
    (hA : ∀ (b : Fin 32) (p : Fin 4) (r : Fin 128) (l : Fin 128), A (ix4 b p r l) = (if (r.val < 64 ↔ l.val < 64) then FF (ofA (aP m c) b) (LL m c) (p.val * 128 + r.val) (p.val * 128 + l.val) else 0)) :
    (dats m 0 c).arrAt 14 cfg0.N = A := by
  refine (dats m 0 c).arrAt_eq_of_covers 14 _ (by decide +kernel) fun t _ y => ?_
  blk_simp
  rw [after0_14]
  have e : y = (ix4 0 (⟨(y 1).val, (y 1).isLt⟩ : Fin 4) (⟨(y 2).val, (y 2).isLt⟩ : Fin 128) (⟨(y 3).val, (y 3).isLt⟩ : Fin 128) : S1x4x128x128.Idx) := by
    funext a
    match a with
    | 0 => exact Fin.ext (by have h : (y 0).val < 1 := (y 0).isLt; show (y 0).val = 0; omega)
    | 1 => rfl
    | 2 => rfl
    | 3 => rfl
  refine (congrArg (outsAt0 m c t).2.2.1 e).trans ((out14 m c t _ _ _).trans ((hA (row t) _ _ _).symm.trans (congrArg A ?_)))
  blk_ext [idx t]

theorem final15 (m : (ℓ : Loc nD τ sig) → Buf (Elt Ideal) ℓ) (c : Dev nD) (A : FVec Ideal S32x4x128x128 .f32)
    (hA : ∀ (b : Fin 32) (p : Fin 4) (r : Fin 128) (l : Fin 128), A (ix4 b p r l) = (if (r.val < 64 ↔ l.val < 64) then FB (ofA (aP m c) b) (LL m c) (p.val * 128 + r.val) (p.val * 128 + l.val) else 0)) :
    (dats m 0 c).arrAt 15 cfg0.N = A := by
  refine (dats m 0 c).arrAt_eq_of_covers 15 _ (by decide +kernel) fun t _ y => ?_
  blk_simp
  rw [after0_15]
  have e : y = (ix4 0 (⟨(y 1).val, (y 1).isLt⟩ : Fin 4) (⟨(y 2).val, (y 2).isLt⟩ : Fin 128) (⟨(y 3).val, (y 3).isLt⟩ : Fin 128) : S1x4x128x128.Idx) := by
    funext a
    match a with
    | 0 => exact Fin.ext (by have h : (y 0).val < 1 := (y 0).isLt; show (y 0).val = 0; omega)
    | 1 => rfl
    | 2 => rfl
    | 3 => rfl
  refine (congrArg (outsAt0 m c t).2.2.2 e).trans ((out15 m c t _ _ _).trans ((hA (row t) _ _ _).symm.trans (congrArg A ?_)))
  blk_ext [idx t]

end Cert.MixersIdeal.Mix

end
-- ==== Proof.MixRef.lean ====
/-
  The reference's stages, entry by entry.
-/
module

public import proofs.«01_k».proof.Proof.Gen.MixersReferenceIdeal.Run
public import proofs.«01_k».proof.Proof.MixSpec
public import Idealize.ShloMosaic.Lib.Pointwise

@[expose] public section

set_option maxRecDepth 65536
noncomputable section
namespace Cert.MixersReferenceIdeal.Mix
open Cert.MixersReferenceIdeal Cert.MixersReferenceIdeal.Gen Cert.MixersReferenceIdeal.Value Idealize.ShloMosaic Idealize.ShloMosaic.TcCoe Idealize.SL.Sem
open Cert.MixSpec

section Algebra

theorem num_zero : num 0 = 0 := by simp [num]

theorem ex_zero (x : EReal) : ex x 0 = 1 := by
  unfold ex
  rw [num_zero, mul_zero, show (0 : EReal) = ((0 : ℝ) : EReal) from rfl]
  show ((Real.exp 0 : ℝ) : EReal) = 1
  rw [Real.exp_zero]; rfl

theorem two_mul' (x : EReal) : x + x = 2 * x := by
  rw [show (2 : EReal) = 1 + 1 by rw [one_add_one_eq_two], EReal.right_distrib_of_nonneg zero_le_one zero_le_one, one_mul]

theorem zadd (x y : EReal) : x * 0 + y = y := by rw [mul_zero, zero_add]

/-- The decay of one direction, with no mask on the exponent. -/
theorem masked (x : EReal) (i j : ℕ) : (if (0 : EReal) ≤ num i - num j then Ideal.exp (x * max (num i - num j) 0) else 0) = if j ≤ i then ex x (i - j) else 0 := by
  by_cases h : j ≤ i
  · rw [if_pos ((sub_nonneg' i j).mpr h), if_pos h, num_sub i j h, max_eq_left (num_nonneg _)]; rfl
  · rw [if_neg (fun e => h ((sub_nonneg' i j).mp e)), if_neg h]

theorem masked_of {a x x' z : EReal} (i j : ℕ) (ha : a = num i - num j) (hx : x' = x) (hz : z = 0) :
    (if (0 : EReal) ≤ a then Ideal.exp (x' * max a 0) else z) = if j ≤ i then ex x (i - j) else 0 := by
  subst ha hx hz
  exact masked _ i j

variable (P L : ℕ → ℕ → EReal)

/-- Both directions of one chunk, the backward one over its own reversed positions. -/
theorem core (n i h d : ℕ) (hi : i < 128) (hd : d < 64) :
    ((∑ x : Fin 128, MixSpec.V P (128 * n + x) (64 * h + d) * ((∑ y : Fin 64, Q P (128 * n + i) (64 * h + y) * K P (128 * n + x) (64 * h + y))
        * (if x.val ≤ i then ex (L 0 h) (i - x) else 0)))
      + (∑ y : Fin 64, SF P L n (64 * h + y) (64 * h + d) * Q P (128 * n + i) (64 * h + y)) * ex (L 0 h) (i + 1))
    + ((∑ x : Fin 128, MixSpec.V P (128 * n + (127 - x)) (64 * h + d) * ((∑ y : Fin 64, Q P (128 * n + i) (64 * h + y) * K P (128 * n + (127 - x)) (64 * h + y))
        * (if x.val ≤ 127 - i then ex (L 1 h) (127 - i - x) else 0)))
      + (∑ y : Fin 64, SB P L n (64 * h + y) (64 * h + d) * Q P (128 * n + i) (64 * h + y)) * ex (L 1 h) (127 - i + 1))
    = MixSpec.O P L n i (64 * h + d) := by
  have e1 : (64 * h + d) / 64 = h := by omega
  rw [add_add_add_comm, ← add_assoc]
  unfold MixSpec.O
  rw [e1, show 127 - i + 1 = 128 - i by omega]
  refine congrArg₂ (· + ·) (congrArg₂ (· + ·) ?_ ?_) ?_
  · rw [← Equiv.sum_comp Fin.revPerm (fun x : Fin 128 => MixSpec.V P (128 * n + (127 - x)) (64 * h + d) * ((∑ y : Fin 64, Q P (128 * n + i) (64 * h + y) * K P (128 * n + (127 - x)) (64 * h + y))
        * (if x.val ≤ 127 - i then ex (L 1 h) (127 - i - x) else 0))), ← Finset.sum_add_distrib]
    refine Finset.sum_congr rfl fun x _ => ?_
    have hx := x.isLt
    have er : (Fin.revPerm x).val = 127 - x.val := by rw [Fin.revPerm_apply, Fin.val_rev]; omega
    rw [er, show 127 - (127 - x.val) = x.val by omega]
    change _ = S P n h i x * MixSpec.M L h i x * MixSpec.V P (128 * n + x) (64 * h + d)
    unfold S MixSpec.M
    generalize (∑ y : Fin 64, Q P (128 * n + i) (64 * h + y) * K P (128 * n + x) (64 * h + y)) = s
    generalize MixSpec.V P (128 * n + x) (64 * h + d) = v
    rcases Nat.lt_trichotomy x.val i with h' | h' | h'
    · rw [if_pos (by omega), if_neg (by omega), if_pos h', mul_zero, mul_zero, add_zero, mul_comm]
    · rw [if_pos (by omega), if_pos (by omega), if_neg (by omega), if_neg (by omega), show i - x.val = 0 by omega,
        show 127 - i - (127 - x.val) = 0 by omega, ex_zero, ex_zero, mul_one, two_mul', mul_comm v s, ← mul_assoc, mul_comm 2 s]
    · rw [if_neg (by omega), if_pos (by omega), if_neg (by omega), if_pos h', mul_zero, mul_zero, zero_add, mul_comm,
        show 127 - i - (127 - x.val) = x.val - i by omega]
  · exact congrArg (· * _) (Finset.sum_congr rfl fun y _ => mul_comm _ _)
  · exact congrArg (· * _) (Finset.sum_congr rfl fun y _ => mul_comm _ _)

end Algebra

section Stages
variable (V0 : Valuation τ sig (Elt Ideal))

abbrev rA : FVec Ideal S32x256x3072 .f32 := V0 (Proc.tc.devRef main_arg0)
abbrev rP (b : Fin 32) : ℕ → ℕ → EReal := ofA (rA V0) b
abbrev rL : ℕ → ℕ → EReal := ofL (res_main_v1 V0)

theorem v3_at (h : Fin 8) : res_main_v3 V0 (ix1 h) = rL V0 0 h := by
  refine Eq.trans ?_ (ofL_pos _ 0 h.val ⟨by omega, h.isLt⟩).symm
  pointwise [res_main_v3]
theorem v5_at (h : Fin 8) : res_main_v5 V0 (ix1 h) = rL V0 1 h := by
  refine Eq.trans ?_ (ofL_pos _ 1 h.val ⟨by omega, h.isLt⟩).symm
  pointwise [res_main_v5]

theorem v7_at (b : Fin 32) (t : Fin 256) (h : Fin 8) (d : Fin 64) : res_main_v7 V0 (ix4 b t h d) = Q (rP V0 b) t (64 * h + d) := by
  pointwise [res_main_v7]
  rw [Nat.mul_comm 64]
  exact (ofA_pos _ b t.val (h.val * 64 + d.val) ⟨t.isLt, by omega⟩).symm
theorem v11_at (b : Fin 32) (t : Fin 256) (h : Fin 8) (d : Fin 64) : res_main_v11 V0 (ix4 b t h d) = K (rP V0 b) t (64 * h + d) := by
  pointwise [res_main_v11]
  rw [Nat.mul_comm 64]
  exact congrArg (· * _) (ofA_pos _ b t.val (512 + (h.val * 64 + d.val)) ⟨t.isLt, by omega⟩).symm
theorem v13_at (b : Fin 32) (t : Fin 256) (h : Fin 8) (d : Fin 64) : res_main_v13 V0 (ix4 b t h d) = MixSpec.V (rP V0 b) t (64 * h + d) := by
  pointwise [res_main_v13]
  rw [Nat.mul_comm 64]
  exact (ofA_pos _ b t.val (1024 + (h.val * 64 + d.val)) ⟨t.isLt, by omega⟩).symm

theorem v39_at (b : Fin 32) (n : Fin 2) (t : Fin 128) (h : Fin 8) (d : Fin 64) (r : ℕ) (hr : r = 128 * n.val + t.val) :
    res_main_v39 V0 (ix5 b n t h d) = Q (rP V0 b) r (64 * h + d) := by
  pointwise [res_main_v39]
  rw [v7_at]
  subst hr
  rw [Nat.mul_comm 128]
theorem v40_at (b : Fin 32) (n : Fin 2) (t : Fin 128) (h : Fin 8) (d : Fin 64) (r : ℕ) (hr : r = 128 * n.val + t.val) :
    res_main_v40 V0 (ix5 b n t h d) = K (rP V0 b) r (64 * h + d) := by
  pointwise [res_main_v40]
  rw [v11_at]
  subst hr
  rw [Nat.mul_comm 128]
theorem v41_at (b : Fin 32) (n : Fin 2) (t : Fin 128) (h : Fin 8) (d : Fin 64) (r : ℕ) (hr : r = 128 * n.val + t.val) :
    res_main_v41 V0 (ix5 b n t h d) = MixSpec.V (rP V0 b) r (64 * h + d) := by
  pointwise [res_main_v41]
  rw [v13_at]
  subst hr
  rw [Nat.mul_comm 128]
theorem v118_at (b : Fin 32) (n : Fin 2) (t : Fin 128) (h : Fin 8) (d : Fin 64) (r : ℕ) (hr : r = 255 - (128 * n.val + t.val)) :
    res_main_v118 V0 (ix5 b n t h d) = Q (rP V0 b) r (64 * h + d) := by
  pointwise [res_main_v118]
  refine (v7_at V0 b (⟨n.val * 128 + t.val, by omega⟩ : Fin 256).rev h d).trans ?_
  rw [show (⟨n.val * 128 + t.val, by omega⟩ : Fin 256).rev.val = r by rw [Fin.val_rev]; show 256 - (n.val * 128 + t.val + 1) = r; omega]
theorem v119_at (b : Fin 32) (n : Fin 2) (t : Fin 128) (h : Fin 8) (d : Fin 64) (r : ℕ) (hr : r = 255 - (128 * n.val + t.val)) :
    res_main_v119 V0 (ix5 b n t h d) = K (rP V0 b) r (64 * h + d) := by
  pointwise [res_main_v119]
  refine (v11_at V0 b (⟨n.val * 128 + t.val, by omega⟩ : Fin 256).rev h d).trans ?_
  rw [show (⟨n.val * 128 + t.val, by omega⟩ : Fin 256).rev.val = r by rw [Fin.val_rev]; show 256 - (n.val * 128 + t.val + 1) = r; omega]
theorem v120_at (b : Fin 32) (n : Fin 2) (t : Fin 128) (h : Fin 8) (d : Fin 64) (r : ℕ) (hr : r = 255 - (128 * n.val + t.val)) :
    res_main_v120 V0 (ix5 b n t h d) = MixSpec.V (rP V0 b) r (64 * h + d) := by
  pointwise [res_main_v120]
  refine (v13_at V0 b (⟨n.val * 128 + t.val, by omega⟩ : Fin 256).rev h d).trans ?_
  rw [show (⟨n.val * 128 + t.val, by omega⟩ : Fin 256).rev.val = r by rw [Fin.val_rev]; show 256 - (n.val * 128 + t.val + 1) = r; omega]

theorem v14_at (i : Fin 128) : res_main_v14 V0 (ix1 i) = num i := by
  pointwise [res_main_v14]
  exact sitofp_num i i.isLt
theorem v93_at (i : Fin 128) : res_main_v93 V0 (ix1 i) = num i := by
  pointwise [res_main_v93]
  exact sitofp_num i i.isLt
theorem v19_at (i j : Fin 128) : res_main_v19 V0 (ix2 i j) = num i - num j := by
  pointwise [res_main_v19]
  exact congrArg₂ (· - ·) (v14_at V0 i) (v14_at V0 j)
theorem v98_at (i j : Fin 128) : res_main_v98 V0 (ix2 i j) = num i - num j := by
  pointwise [res_main_v98]
  exact congrArg₂ (· - ·) (v93_at V0 i) (v93_at V0 j)
theorem v59_at (h : Fin 8) : res_main_v59 V0 (ix1 h) = ex (rL V0 0 h) 128 := by
  pointwise [res_main_v59]
  exact congrArg Ideal.exp (congrArg₂ (· * ·) (v3_at V0 h) of128)
theorem v138_at (h : Fin 8) : res_main_v138 V0 (ix1 h) = ex (rL V0 1 h) 128 := by
  pointwise [res_main_v138]
  exact congrArg Ideal.exp (congrArg₂ (· * ·) (v5_at V0 h) of128)

theorem head_of (h d : ℕ) (hd : d < 64) : (64 * h + d) / 64 = h := by omega

theorem v65_at (n : Fin 2) (b : Fin 32) (h : Fin 8) (d e : Fin 64) :
    res_main_v65 V0 (ix5 n b h d e) = UF (rP V0 b) (rL V0) n (64 * h + d) (64 * h + e) := by
  pointwise [res_main_v65]
  change @Eq EReal _ _
  refine Finset.sum_congr rfl fun x _ => ?_
  have hx := x.isLt
  refine congrArg₂ (· * ·) (congrArg₂ (· * ·) (v40_at V0 b n x h d _ rfl) ?_) (v41_at V0 b n x h e _ rfl)
  rw [head_of h.val d.val d.isLt]
  exact congrArg Ideal.exp (congrArg₂ (· * ·) (v3_at V0 h) ((congrArg₂ (· - ·) of127 (v14_at V0 x)).trans (num_sub 127 x (by omega))))

theorem v144_at (n k : Fin 2) (hk : k.val = 1 - n.val) (b : Fin 32) (h : Fin 8) (d e : Fin 64) :
    res_main_v144 V0 (ix5 n b h d e) = UB (rP V0 b) (rL V0) k (64 * h + d) (64 * h + e) := by
  pointwise [res_main_v144]
  change @Eq EReal _ _
  unfold UB
  rw [← Equiv.sum_comp Fin.revPerm]
  refine Finset.sum_congr rfl fun x _ => ?_
  have hx := x.isLt
  have hn := n.isLt
  have er : (Fin.revPerm x).val = 127 - x.val := by rw [Fin.revPerm_apply, Fin.val_rev]; omega
  refine congrArg₂ (· * ·) (congrArg₂ (· * ·) (v119_at V0 b n _ h d _ (by rw [er]; omega)) ?_) (v120_at V0 b n _ h e _ (by rw [er]; omega))
  rw [head_of h.val d.val d.isLt]
  exact congrArg Ideal.exp (congrArg₂ (· * ·) (v5_at V0 h) ((congrArg₂ (· - ·) of127 (v93_at V0 _)).trans
    ((congrArg (fun z => num 127 - num z) er).trans ((num_sub 127 _ (by omega)).trans (congrArg num (by omega))))))

theorem v0_at (b : Fin 32) (h : Fin 8) (d e : Fin 64) : res_main_v0 V0 (ix4 b h d e) = (0 : EReal) := by
  pointwise [res_main_v0]

theorem v71_at (b : Fin 32) (h : Fin 8) (d e : Fin 64) : res_main_v71 V0 (ix4 b h d e) = UF (rP V0 b) (rL V0) 0 (64 * h + d) (64 * h + e) := by
  pointwise [res_main_v71, res_main_v0]
  exact (zadd _ _).trans (v65_at V0 0 b h d e)
theorem v150_at (b : Fin 32) (h : Fin 8) (d e : Fin 64) : res_main_v150 V0 (ix4 b h d e) = UB (rP V0 b) (rL V0) 1 (64 * h + d) (64 * h + e) := by
  pointwise [res_main_v150, res_main_v0]
  exact (zadd _ _).trans (v144_at V0 0 1 rfl b h d e)

theorem v217_at (b : Fin 32) (p : Fin 4) (s : Fin 2) (d e : Fin 64) (h : ℕ) (hh : h = p.val * 2 + s.val) :
    res_main_v217 V0 (ix5 b p s d e) = FF (rP V0 b) (rL V0) (64 * h + d) (64 * h + e) := by
  subst hh
  pointwise [res_main_v217]
  unfold FF
  rw [head_of _ e.val e.isLt]
  exact congrArg₂ (· + ·) (congrArg₂ (· * ·) (v59_at V0 _) (v71_at V0 b _ d e)) (v65_at V0 1 b _ d e)
theorem v225_at (b : Fin 32) (p : Fin 4) (s : Fin 2) (d e : Fin 64) (h : ℕ) (hh : h = p.val * 2 + s.val) :
    res_main_v225 V0 (ix5 b p s d e) = FB (rP V0 b) (rL V0) (64 * h + d) (64 * h + e) := by
  subst hh
  pointwise [res_main_v225]
  unfold FB
  rw [head_of _ e.val e.isLt]
  exact congrArg₂ (· + ·) (congrArg₂ (· * ·) (v138_at V0 _) (v150_at V0 b _ d e)) (v144_at V0 1 0 rfl b _ d e)

theorem zid : (id (constant (F := Ideal) S_ .f32 0#32) ix0 : EReal) = 0 := by
  show constant (F := Ideal) S_ .f32 0#32 ix0 = (0 : EReal)
  pointwise

theorem rev_div (t : Fin 256) : t.rev.val / 128 = 1 - t.val / 128 := by rw [Fin.val_rev]; omega
theorem rev_mod (t : Fin 256) : t.rev.val % 128 = 127 - t.val % 128 := by rw [Fin.val_rev]; omega

set_option maxHeartbeats 2000000 in
theorem v170_at (b : Fin 32) (t : Fin 256) (h : Fin 8) (d : Fin 64) :
    res_main_v170 V0 (ix4 b t h d) = MixSpec.O (rP V0 b) (rL V0) (t.val / 128) (t.val % 128) (64 * h + d) := by
  have ht := t.isLt
  pointwise [res_main_v170]
  refine Eq.trans ?_ (core (rP V0 b) (rL V0) (t.val / 128) (t.val % 128) h d (by omega) d.isLt)
  refine congrArg₂ (· + ·) (congrArg₂ (· + ·) (Finset.sum_congr rfl fun x _ => congrArg₂ (· * ·) ?_ (congrArg₂ (· * ·) (Finset.sum_congr rfl fun y _ => congrArg₂ (· * ·) ?_ ?_) ?_))
      (congrArg₂ (· * ·) (Finset.sum_congr rfl fun y _ => congrArg₂ (· * ·) ?_ ?_) ?_))
    (congrArg₂ (· + ·) (Finset.sum_congr rfl fun x _ => congrArg₂ (· * ·) ?_ (congrArg₂ (· * ·) (Finset.sum_congr rfl fun y _ => congrArg₂ (· * ·) ?_ ?_) ?_))
      (congrArg₂ (· * ·) (Finset.sum_congr rfl fun y _ => congrArg₂ (· * ·) ?_ ?_) ?_))
  · exact v41_at V0 b ⟨t.val / 128, by omega⟩ x h d _ rfl
  · exact v39_at V0 b ⟨t.val / 128, by omega⟩ ⟨t.val % 128, by omega⟩ h y _ rfl
  · exact v40_at V0 b ⟨t.val / 128, by omega⟩ x h y _ rfl
  · exact masked_of (t.val % 128) x.val (v19_at V0 ⟨t.val % 128, by omega⟩ x) (v3_at V0 h) zid
  · unfold SF
    by_cases hn : t.val / 128 < 1
    · rw [dif_pos hn, if_pos (by omega)]; exact v0_at V0 b h y d
    · rw [dif_neg hn, if_neg (by omega)]; exact v71_at V0 b h y d
  · exact v39_at V0 b ⟨t.val / 128, by omega⟩ ⟨t.val % 128, by omega⟩ h y _ rfl
  · exact congrArg Ideal.exp (congrArg₂ (· * ·) (v3_at V0 h) ((congrArg (fun z : EReal => z + 1) (v14_at V0 ⟨t.val % 128, by omega⟩)).trans (num_add_one _)))
  · exact v120_at V0 b ⟨t.rev.val / 128, by have := rev_div t; omega⟩ x h d _ (by have := rev_div t; have := x.isLt; show _ = 255 - (128 * (t.rev.val / 128) + x.val); omega)
  · exact v118_at V0 b ⟨t.rev.val / 128, by have := rev_div t; omega⟩ ⟨t.rev.val % 128, by have := rev_mod t; omega⟩ h y _
      (by have := rev_div t; have := rev_mod t; show _ = 255 - (128 * (t.rev.val / 128) + t.rev.val % 128); omega)
  · exact v119_at V0 b ⟨t.rev.val / 128, by have := rev_div t; omega⟩ x h y _ (by have := rev_div t; have := x.isLt; show _ = 255 - (128 * (t.rev.val / 128) + x.val); omega)
  · refine (masked_of (t.rev.val % 128) x.val (v98_at V0 ⟨t.rev.val % 128, by have := rev_mod t; omega⟩ x) (v5_at V0 h) zid).trans ?_
    show (if x.val ≤ t.rev.val % 128 then ex _ (t.rev.val % 128 - x.val) else 0) = _
    rw [rev_mod]
  · unfold SB
    by_cases hn : t.val / 128 = 0
    · rw [if_pos hn]
      exact (dif_neg (show ¬ t.rev.val / 128 < 1 by have := rev_div t; omega)).trans (v150_at V0 b h y d)
    · rw [if_neg hn]
      exact (dif_pos (show t.rev.val / 128 < 1 by have := rev_div t; omega)).trans (v0_at V0 b h y d)
  · exact v118_at V0 b ⟨t.rev.val / 128, by have := rev_div t; omega⟩ ⟨t.rev.val % 128, by have := rev_mod t; omega⟩ h y _
      (by have := rev_div t; have := rev_mod t; show _ = 255 - (128 * (t.rev.val / 128) + t.rev.val % 128); omega)
  · exact congrArg Ideal.exp (congrArg₂ (· * ·) (v5_at V0 h) ((congrArg (fun z : EReal => z + 1) (v93_at V0 ⟨t.rev.val % 128, by have := rev_mod t; omega⟩)).trans
      ((num_add_one _).trans (congrArg (fun z => num (z + 1)) (rev_mod t)))))

end Stages

end Cert.MixersReferenceIdeal.Mix

end
-- ==== Proof.MixOut.lean ====
/-
  The reference's stages, entry by entry.
-/
module

public import proofs.«01_k».proof.Proof.Gen.MixersReferenceIdeal.Run
public import proofs.«01_k».proof.Proof.MixRef
public import Idealize.ShloMosaic.Lib.Pointwise

@[expose] public section

set_option maxRecDepth 65536
noncomputable section
namespace Cert.MixersReferenceIdeal.Mix
open Cert.MixersReferenceIdeal Cert.MixersReferenceIdeal.Gen Cert.MixersReferenceIdeal.Value Idealize.ShloMosaic Idealize.ShloMosaic.TcCoe Idealize.SL.Sem
open Cert.MixSpec

section Outputs
variable (V0 : Valuation τ sig (Elt Ideal))

/-- The array `main_v213` the reference leaves. -/
def out213 : FVec Ideal S32x4x256x128 .bf16 :=
  truncf .bf16 (transpose S32x4x256x128 [0, 2, 1, 3] (shapeCast _ (mulf (shapeCast _ (mulf (res_main_v170 V0) (broadcastInDim S32x256x8x64 ![0, 1, 2, 3] bcast_S32x256x8x1_S32x256x8x64_0_1_2_3 (Host.rsqrt (addf (Host.divf (broadcastInDim S32x256x8x1 ![0, 1, 2] bcast_S32x256x8_S32x256x8x1_0_1_2 (Host.reduceAdd (mulf (res_main_v170 V0) (res_main_v170 V0)) (constant S_ .f32 0x00000000#32) reducesTo_S32x256x8x64_S32x256x8_d3 h_S_)) (broadcastInDim S32x256x8x1 ![] bcast_S_S32x256x8x1 (constant S_ .f32 0x42800000#32))) (broadcastInDim S32x256x8x1 ![] bcast_S_S32x256x8x1 (constant S_ .f32 0x358637BD#32)))))) shapeCasts_S32x256x8x64_S32x256x512) (mulf (res_main_v182 V0) (Host.divf (broadcastInDim S32x256x512 ![] bcast_S_S32x256x512 (constant S_ .f32 0x3F800000#32)) (addf (broadcastInDim S32x256x512 ![] bcast_S_S32x256x512 (constant S_ .f32 0x3F800000#32)) (Host.exp (Host.negf (res_main_v182 V0))))))) shapeCasts_S32x256x512_S32x256x4x128) transposes_S32x256x4x128_S32x4x256x128_0_2_1_3) bitsLt_bf16_f32

/-- The array `main_v216` the reference leaves. -/
def out216 : FVec Ideal S32x2x256x128 .bf16 :=
  truncf .bf16 (transpose S32x2x256x128 [0, 2, 1, 3] (shapeCast _ (mulf (extractStridedSlice S32x256x256 ![0, 0, 2304] (V0 (Proc.devRef .tc main_arg0)) slices_S32x256x3072_S32x256x256_0_0_2304) (addf (addf (mulf (extractStridedSlice S32x256x256 ![0, 0, 0] (res_main_v189 V0) slices_S32x258x256_S32x256x256_0_0_0) (broadcastInDim S32x256x256 ![0, 1, 2] bcast_S1x1x256_S32x256x256_0_1_2 (broadcastInDim S1x1x256 ![2] bcast_S256_S1x1x256_2 (shapeCast _ (extractStridedSlice S1x256 ![0, 0] (V0 (Proc.devRef .tc main_arg2)) slices_S3x256_S1x256_0_0) shapeCasts_S1x256_S256)))) (mulf (extractStridedSlice S32x256x256 ![0, 1, 0] (res_main_v189 V0) slices_S32x258x256_S32x256x256_0_1_0) (broadcastInDim S32x256x256 ![0, 1, 2] bcast_S1x1x256_S32x256x256_0_1_2 (broadcastInDim S1x1x256 ![2] bcast_S256_S1x1x256_2 (shapeCast _ (extractStridedSlice S1x256 ![1, 0] (V0 (Proc.devRef .tc main_arg2)) slices_S3x256_S1x256_1_0) shapeCasts_S1x256_S256))))) (mulf (extractStridedSlice S32x256x256 ![0, 2, 0] (res_main_v189 V0) slices_S32x258x256_S32x256x256_0_2_0) (broadcastInDim S32x256x256 ![0, 1, 2] bcast_S1x1x256_S32x256x256_0_1_2 (broadcastInDim S1x1x256 ![2] bcast_S256_S1x1x256_2 (shapeCast _ (extractStridedSlice S1x256 ![2, 0] (V0 (Proc.devRef .tc main_arg2)) slices_S3x256_S1x256_2_0) shapeCasts_S1x256_S256)))))) shapeCasts_S32x256x256_S32x256x2x128) transposes_S32x256x2x128_S32x2x256x128_0_2_1_3) bitsLt_bf16_f32

/-- The array `main_v224` the reference leaves. -/
def out224 : FVec Ideal S32x4x128x128 .f32 :=
  addf (pad S32x4x128x128 ![0, 0, 0, 0] ![0, 0, 64, 64] ![0, 0, 0, 0] (shapeCast _ (extractStridedSlice S32x4x1x64x64 ![0, 0, 0, 0, 0] (res_main_v217 V0) slices_S32x4x2x64x64_S32x4x1x64x64_0_0_0_0_0) shapeCasts_S32x4x1x64x64_S32x4x64x64) (sitofp .f32 (constantI S_ 32 0#32)) pads_S32x4x64x64_S32x4x128x128_000_000_0640_0640 h_S_) (pad S32x4x128x128 ![0, 0, 64, 64] ![0, 0, 0, 0] ![0, 0, 0, 0] (shapeCast _ (extractStridedSlice S32x4x1x64x64 ![0, 0, 1, 0, 0] (res_main_v217 V0) slices_S32x4x2x64x64_S32x4x1x64x64_0_0_1_0_0) shapeCasts_S32x4x1x64x64_S32x4x64x64) (sitofp .f32 (constantI S_ 32 0#32)) pads_S32x4x64x64_S32x4x128x128_000_000_6400_6400 h_S_)

/-- The array `main_v232` the reference leaves. -/
def out232 : FVec Ideal S32x4x128x128 .f32 :=
  addf (pad S32x4x128x128 ![0, 0, 0, 0] ![0, 0, 64, 64] ![0, 0, 0, 0] (shapeCast _ (extractStridedSlice S32x4x1x64x64 ![0, 0, 0, 0, 0] (res_main_v225 V0) slices_S32x4x2x64x64_S32x4x1x64x64_0_0_0_0_0) shapeCasts_S32x4x1x64x64_S32x4x64x64) (sitofp .f32 (constantI S_ 32 0#32)) pads_S32x4x64x64_S32x4x128x128_000_000_0640_0640 h_S_) (pad S32x4x128x128 ![0, 0, 64, 64] ![0, 0, 0, 0] ![0, 0, 0, 0] (shapeCast _ (extractStridedSlice S32x4x1x64x64 ![0, 0, 1, 0, 0] (res_main_v225 V0) slices_S32x4x2x64x64_S32x4x1x64x64_0_0_1_0_0) shapeCasts_S32x4x1x64x64_S32x4x64x64) (sitofp .f32 (constantI S_ 32 0#32)) pads_S32x4x64x64_S32x4x128x128_000_000_6400_6400 h_S_)

abbrev rW : ℕ → ℕ → EReal := ofW (V0 (Proc.tc.devRef main_arg2))

theorem out213_at (b : Fin 32) (p : Fin 4) (r : Fin 256) (l : Fin 128) :
    out213 V0 (ix4 b p r l) = R (rP V0 b) (rL V0) (r.val / 128) (r.val % 128) (p.val * 128 + l.val) := by
  have hc : p.val * 128 + l.val < 512 := by omega
  pointwise [out213, res_main_v182]
  have ho (d : Fin 64) : res_main_v170 V0 (ix4 b r ⟨(p.val * 128 + l.val) / 64, by omega⟩ d)
      = MixSpec.O (rP V0 b) (rL V0) (r.val / 128) (r.val % 128) (64 * ((p.val * 128 + l.val) / 64) + d) := v170_at V0 b r _ d
  have hd : 64 * ((p.val * 128 + l.val) / 64) + (p.val * 128 + l.val) % 64 = p.val * 128 + l.val := by omega
  have hg : V0 (Proc.tc.devRef main_arg0) (ix3 b r ⟨1536 + (p.val * 128 + l.val), by omega⟩) = rP V0 b (128 * (r.val / 128) + r.val % 128) (1536 + (p.val * 128 + l.val)) := by
    rw [show 128 * (r.val / 128) + r.val % 128 = r.val by omega]
    exact (ofA_pos _ b r.val (1536 + (p.val * 128 + l.val)) ⟨r.isLt, by omega⟩).symm
  unfold R
  refine congrArg₂ (· * ·) (congrArg₂ (· * ·) ?_ (congrArg Ideal.rsqrt (congrArg (fun z : EReal => z + _) (congrArg (fun z : EReal => Ideal.div z _)
    (Finset.sum_congr rfl fun d _ => congrArg₂ (· * ·) (ho d) (ho d)))))) ?_
  · refine (ho ⟨(p.val * 128 + l.val) % 64, by omega⟩).trans ?_
    exact congrArg (MixSpec.O _ _ _ _) hd
  · exact congrArg₂ (· * ·) hg (congrArg (Ideal.div 1) (congrArg (fun z : EReal => 1 + Ideal.exp (-z)) hg))

theorem v189_at (b : Fin 32) (t : Fin 258) (c : Fin 256) (z : EReal) (h0 : ¬ (1 ≤ t.val ∧ t.val - 1 < 256) → z = 0)
    (h1 : 1 ≤ t.val ∧ t.val - 1 < 256 → z = gp (rP V0 b) (t.val - 1) c) :
    res_main_v189 V0 (ix3 b t c) = z := by
  pointwise [res_main_v189]
  change @Eq EReal _ _
  by_cases h : 1 ≤ t.val ∧ t.val - 1 < 256
  · rw [dif_pos h, h1 h]
    exact congrArg₂ (· * ·) (ofA_pos _ b (t.val - 1) (2560 + c.val) ⟨h.2, by omega⟩).symm (ofA_pos _ b (t.val - 1) (2816 + c.val) ⟨h.2, by omega⟩).symm
  · rw [dif_neg h, h0 h]
    exact (sitofp_num 0 (by omega)).trans num_zero

theorem out216_at (b : Fin 32) (p : Fin 2) (r : Fin 256) (l : Fin 128) :
    out216 V0 (ix4 b p r l) = C (rP V0 b) (rW V0) r.val (p.val * 128 + l.val) := by
  have hc : p.val * 128 + l.val < 256 := by omega
  have hr := r.isLt
  pointwise [out216]
  have hw (k : Fin 3) : V0 (Proc.tc.devRef main_arg2) (ix2 k ⟨p.val * 128 + l.val, hc⟩) = rW V0 k.val (p.val * 128 + l.val) :=
    (ofW_pos _ k.val (p.val * 128 + l.val) ⟨k.isLt, hc⟩).symm
  unfold C
  refine congrArg₂ (· * ·) (ofA_pos _ b r.val (2304 + (p.val * 128 + l.val)) ⟨r.isLt, by omega⟩).symm
    (congrArg₂ (· + ·) (congrArg₂ (· + ·) (congrArg₂ (· * ·) ?_ (hw 0)) (congrArg₂ (· * ·) ?_ (hw 1))) (congrArg₂ (· * ·) ?_ (hw 2)))
  · refine v189_at V0 b ⟨r.val, by omega⟩ ⟨_, hc⟩ _ (fun h => ?_) (fun h => ?_)
    · rw [if_pos (by simp only at h; omega)]
    · rw [if_neg (by simp only at h; omega)]
  · refine v189_at V0 b ⟨1 + r.val, by omega⟩ ⟨_, hc⟩ _ (fun h => ?_) (fun h => ?_)
    · exfalso; simp only at h; omega
    · rw [show 1 + r.val - 1 = r.val by omega]
  · refine v189_at V0 b ⟨2 + r.val, by omega⟩ ⟨_, hc⟩ _ (fun h => ?_) (fun h => ?_)
    · rw [if_pos (by simp only at h; omega)]
    · rw [if_neg (by simp only at h; omega), show 2 + r.val - 1 = r.val + 1 by omega]

/-- A block-diagonal pair assembled from two padded halves. -/
theorem halves {X : ℕ → ℕ → EReal} (p r l : ℕ) (hr : r < 128) (hl : l < 128) (z : EReal) (hz : z = 0) (f g : EReal)
    (hf : r < 64 ∧ l < 64 → f = X (64 * (p * 2 + 0) + r) (64 * (p * 2 + 0) + l))
    (hg : 64 ≤ r ∧ 64 ≤ l → g = X (64 * (p * 2 + 1) + (r - 64)) (64 * (p * 2 + 1) + (l - 64)))
    (hf' : ¬ (r < 64 ∧ l < 64) → f = z) (hg' : ¬ (64 ≤ r ∧ 64 ≤ l) → g = z) :
    f + g = if (r < 64 ↔ l < 64) then X (p * 128 + r) (p * 128 + l) else 0 := by
  subst hz
  by_cases h1 : r < 64 <;> by_cases h2 : l < 64
  · rw [hf ⟨h1, h2⟩, hg' (by omega), add_zero, if_pos (by omega), show 64 * (p * 2 + 0) = p * 128 by omega]
  · rw [hf' (by omega), hg' (by omega), add_zero, if_neg (by omega)]
  · rw [hf' (by omega), hg' (by omega), add_zero, if_neg (by omega)]
  · rw [hf' (by omega), hg ⟨by omega, by omega⟩, zero_add, if_pos (by omega), show 64 * (p * 2 + 1) + (r - 64) = p * 128 + r by omega,
      show 64 * (p * 2 + 1) + (l - 64) = p * 128 + l by omega]

theorem out224_at (b : Fin 32) (p : Fin 4) (r l : Fin 128) :
    out224 V0 (ix4 b p r l) = if (r.val < 64 ↔ l.val < 64) then FF (rP V0 b) (rL V0) (p.val * 128 + r.val) (p.val * 128 + l.val) else 0 := by
  have hr := r.isLt
  have hl := l.isLt
  pointwise [out224]
  refine halves (X := FF (rP V0 b) (rL V0)) p.val r.val l.val r.isLt l.isLt _ ((sitofp_num 0 (by omega)).trans num_zero) _ _
    (fun h => ?_) (fun h => ?_) (fun h => ?_) (fun h => ?_)
  · exact (dif_pos h).trans (v217_at V0 b p 0 ⟨r.val, h.1⟩ ⟨l.val, h.2⟩ (p.val * 2 + 0) rfl)
  · exact (dif_pos (show (64 ≤ r.val ∧ r.val - 64 < 64) ∧ 64 ≤ l.val ∧ l.val - 64 < 64 by omega)).trans
      (v217_at V0 b p 1 ⟨r.val - 64, by omega⟩ ⟨l.val - 64, by omega⟩ (p.val * 2 + 1) rfl)
  · exact dif_neg h
  · exact dif_neg (show ¬ ((64 ≤ r.val ∧ r.val - 64 < 64) ∧ 64 ≤ l.val ∧ l.val - 64 < 64) by omega)

theorem out232_at (b : Fin 32) (p : Fin 4) (r l : Fin 128) :
    out232 V0 (ix4 b p r l) = if (r.val < 64 ↔ l.val < 64) then FB (rP V0 b) (rL V0) (p.val * 128 + r.val) (p.val * 128 + l.val) else 0 := by
  have hr := r.isLt
  have hl := l.isLt
  pointwise [out232]
  refine halves (X := FB (rP V0 b) (rL V0)) p.val r.val l.val r.isLt l.isLt _ ((sitofp_num 0 (by omega)).trans num_zero) _ _
    (fun h => ?_) (fun h => ?_) (fun h => ?_) (fun h => ?_)
  · exact (dif_pos h).trans (v225_at V0 b p 0 ⟨r.val, h.1⟩ ⟨l.val, h.2⟩ (p.val * 2 + 0) rfl)
  · exact (dif_pos (show (64 ≤ r.val ∧ r.val - 64 < 64) ∧ 64 ≤ l.val ∧ l.val - 64 < 64 by omega)).trans
      (v225_at V0 b p 1 ⟨r.val - 64, by omega⟩ ⟨l.val - 64, by omega⟩ (p.val * 2 + 1) rfl)
  · exact dif_neg h
  · exact dif_neg (show ¬ ((64 ≤ r.val ∧ r.val - 64 < 64) ∧ 64 ≤ l.val ∧ l.val - 64 < 64) by omega)

end Outputs
end Cert.MixersReferenceIdeal.Mix
end
-- ==== Proof.MixFinal.lean ====
/-
  The kernel's results are the reference's.
-/
module

public import proofs.«01_k».proof.Proof.MixEnd
public import proofs.«01_k».proof.Proof.MixOut

@[expose] public section

set_option maxRecDepth 65536
noncomputable section
namespace Cert.MixersIdeal.Mix
open Cert.MixersIdeal Cert.MixersIdeal.Gen Idealize.ShloMosaic Idealize.ShloMosaic.TcCoe Idealize.SL.Sem
open Cert.MixSpec Idealize.ShloMosaic.StableHlo

/-- The decay logs the host computes are the reference's. -/
theorem logs_of (σ : Valuation τ sig (Elt Ideal)) (V0 : Valuation Cert.MixersReferenceIdeal.τ Cert.MixersReferenceIdeal.sig (Elt Ideal))
    (i : Fin 2) (j : Fin 8)
    (h : (V0 (Proc.tc.devRef Cert.MixersReferenceIdeal.main_arg1) : FVec Ideal S2x8 .f32) (ix2 i j) = (σ (Proc.tc.devRef main_arg1) : FVec Ideal S2x8 .f32) (ix2 i j)) :
    after hostOps0 σ (Proc.tc.devRef main_v0) (ix2 i j) = (Cert.MixersReferenceIdeal.Value.res_main_v1 V0 (ix2 i j) : EReal) := by
  simp only [hostOps0]
  simp only [TRef.binary, TRef.nullary, TRef.unary, TRef.ternary, TRef.toBuf, TRef.ofBuf, cast_eq]
  entry_read
  pointwise [Cert.MixersReferenceIdeal.Value.res_main_v1, Cert.MixersReferenceIdeal.Value.res_main_call0_v0, Cert.MixersReferenceIdeal.Value.res_main_call0_call0_v3, Cert.MixersReferenceIdeal.Value.res_main_call0_call0_cst]
  rw [h]

section Pair
variable (m : (ℓ : Loc nD τ sig) → Buf (Elt Ideal) ℓ) (c : Dev nD)
  (V0 : Valuation Cert.MixersReferenceIdeal.τ Cert.MixersReferenceIdeal.sig (Elt Ideal))
  (h0 : V0 (Proc.tc.devRef Cert.MixersReferenceIdeal.main_arg0) = m ((c.tc : Thread nD τ).loc main_arg0))
  (h1 : V0 (Proc.tc.devRef Cert.MixersReferenceIdeal.main_arg1) = m ((c.tc : Thread nD τ).loc main_arg1))
  (h2 : V0 (Proc.tc.devRef Cert.MixersReferenceIdeal.main_arg2) = m ((c.tc : Thread nD τ).loc main_arg2))

include h1 in
theorem logs : LL m c = Cert.MixersReferenceIdeal.Mix.rL V0 := by
  refine congrArg ofL (funext fun y => ?_)
  have e : y = (ix2 (⟨(y 0).val, (y 0).isLt⟩ : Fin 2) (⟨(y 1).val, (y 1).isLt⟩ : Fin 8) : S2x8.Idx) := by
    funext a
    match a with
    | 0 => rfl
    | 1 => rfl
  rw [e]
  exact logs_of (fun b => m (c, b)) V0 _ _ (congrFun h1 _)

include h0 in
theorem tokens (b : Fin 32) : ofA (aP m c) b = Cert.MixersReferenceIdeal.Mix.rP V0 b :=
  congrArg (fun a : FVec Ideal S32x256x3072 .f32 => ofA a b) h0.symm

include h0 h1 in
theorem pair12 : (dats m 0 c).arrAt 12 cfg0.N = Cert.MixersReferenceIdeal.Mix.out213 V0 :=
  final12 m c _ fun b p r l => by
    rw [tokens m c V0 h0 b, logs m c V0 h1]; exact Cert.MixersReferenceIdeal.Mix.out213_at V0 b p r l

include h0 h2 in
theorem pair13 : (dats m 0 c).arrAt 13 cfg0.N = Cert.MixersReferenceIdeal.Mix.out216 V0 :=
  final13 m c _ fun b p r l => by
    rw [tokens m c V0 h0 b, show WW m c = Cert.MixersReferenceIdeal.Mix.rW V0 from congrArg (fun w : FVec Ideal S3x256 .f32 => ofW w) h2.symm]
    exact Cert.MixersReferenceIdeal.Mix.out216_at V0 b p r l

include h0 h1 in
theorem pair14 : (dats m 0 c).arrAt 14 cfg0.N = Cert.MixersReferenceIdeal.Mix.out224 V0 :=
  final14 m c _ fun b p r l => by
    rw [tokens m c V0 h0 b, logs m c V0 h1]; exact Cert.MixersReferenceIdeal.Mix.out224_at V0 b p r l

include h0 h1 in
theorem pair15 : (dats m 0 c).arrAt 15 cfg0.N = Cert.MixersReferenceIdeal.Mix.out232 V0 :=
  final15 m c _ fun b p r l => by
    rw [tokens m c V0 h0 b, logs m c V0 h1]; exact Cert.MixersReferenceIdeal.Mix.out232_at V0 b p r l

end Pair

end Cert.MixersIdeal.Mix

end
-- ==== Proof.InRef.lean ====
/-
  The input projection's reference, stage by stage: the modulated norm, the projection, and the rotary step at an index.
-/
module

public import proofs.«01_k».proof.Proof.Gen.InProjReferenceIdeal.Run
public import proofs.«01_k».proof.Proof.Spec

@[expose] public section

set_option maxRecDepth 16384

noncomputable section

namespace Cert.InProjReferenceIdeal.InRef

open Cert.InProjReferenceIdeal Cert.InProjReferenceIdeal.Gen Idealize.ShloMosaic Idealize.ShloMosaic.TcCoe Idealize.SL.Sem

variable (X : FVec Ideal S32x2048x1024 .f32) (MD : FVec Ideal S32x1x6144 .f32) (W : FVec Ideal S1024x3072 .f32)

/-- The modulated norm at a token and channel. -/
def hx (b : Fin 32) (t : Fin 2048) (k : Fin 1024) : EReal :=
  X (ix3 b t k) * Ideal.rsqrt (Ideal.div (∑ j : Fin 1024, X (ix3 b t j) * X (ix3 b t j)) (Ideal.ofBits FTy.f32 0x44800000#32) + Ideal.ofBits FTy.f32 0x358637BD#32)
    * (1 + MD (ix3 b 0 ⟨1024 + k.val, by omega⟩)) + MD (ix3 b 0 ⟨k.val, by omega⟩)

/-- The projection at a token and column. -/
def pr (b : Fin 32) (t : Fin 2048) (q : Fin 3072) : EReal := ∑ k : Fin 1024, hx X MD b t k * W (ix2 k q)

/-- The projection of every token. -/
def PR : FVec Ideal S32x2048x3072 .f32 :=
  Host.dotGeneral dot_S32x2048x1024_S1024x3072_S32x2048x3072_2_0_01_1_n_n none (addf (mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S32x1x1024_S32x2048x1024_0_1_2 (addf (broadcastInDim S32x1x1024 ![] bcast_S_S32x1x1024 (constant S_ .f32 0x3F800000#32)) (extractStridedSlice S32x1x1024 ![0, 0, 1024] MD slices_S32x1x6144_S32x1x1024_0_0_1024)))) (broadcastInDim S32x2048x1024 ![0, 1, 2] bcast_S32x1x1024_S32x2048x1024_0_1_2 (extractStridedSlice S32x1x1024 ![0, 0, 0] MD slices_S32x1x6144_S32x1x1024_0_0_0))) W

theorem PR_at (b : Fin 32) (t : Fin 2048) (q : Fin 3072) : PR X MD W (ix3 b t q) = pr X MD W b t q := by
  pointwise [PR]
  rfl

/-- The sixteen rotary frequencies, across the tokens. -/
def FREQ : FVec Ideal S2048x16 .f32 :=
  broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))

/-- The angles that turn with a token's grid row, and those that turn with its column. -/
def ANGR : FVec Ideal S2048x16 .f32 :=
  mulf (broadcastInDim S2048x16 ![0, 1] bcast_S2048x1_S2048x16_0_1 (broadcastInDim S2048x1 ![0] bcast_S2048_S2048x1_0 (shapeCast _ (broadcastInDim S32x64 ![0] bcast_S32_S32x64_0 (sitofp .f32 (iotaInDim S32 32 0))) shapeCasts_S32x64_S2048))) FREQ
def ANGC : FVec Ideal S2048x16 .f32 :=
  mulf (broadcastInDim S2048x16 ![0, 1] bcast_S2048x1_S2048x16_0_1 (broadcastInDim S2048x1 ![0] bcast_S2048_S2048x1_0 (shapeCast _ (broadcastInDim S32x64 ![0, 1] bcast_S1x64_S32x64_0_1 (shapeCast _ (sitofp .f32 (iotaInDim S64 32 0)) shapeCasts_S64_S1x64)) shapeCasts_S32x64_S2048))) FREQ

/-- The rotary angles, thirty-two to a token. -/
def ANG : FVec Ideal S2048x32 .f32 :=
  concatenate S2048x32 1 [⟨S2048x16, ANGR⟩, ⟨S2048x16, ANGC⟩] concatenates_S2048x16_S2048x16_S2048x32_d1

/-- The rotary step of eight heads of 64 channels. -/
def ROT (T : FVec Ideal S32x2048x8x64 .f32) (A : FVec Ideal S2048x32 .f32) : FVec Ideal S32x2048x8x64 .f32 :=
  Value.fn_main_v65 (F := Ideal)
    (subf (mulf (extractStridedSlice S32x2048x8x32 ![0, 0, 0, 0] T slices_S32x2048x8x64_S32x2048x8x32_0_0_0_0) (broadcastInDim S32x2048x8x32 ![0, 1, 2, 3] bcast_S1x2048x1x32_S32x2048x8x32_0_1_2_3 (broadcastInDim S1x2048x1x32 ![1, 3] bcast_S2048x32_S1x2048x1x32_1_3 (Host.cos A))))
      (mulf (extractStridedSlice S32x2048x8x32 ![0, 0, 0, 32] T slices_S32x2048x8x64_S32x2048x8x32_0_0_0_32) (broadcastInDim S32x2048x8x32 ![0, 1, 2, 3] bcast_S1x2048x1x32_S32x2048x8x32_0_1_2_3 (broadcastInDim S1x2048x1x32 ![1, 3] bcast_S2048x32_S1x2048x1x32_1_3 (Host.sin A)))))
    (addf (mulf (extractStridedSlice S32x2048x8x32 ![0, 0, 0, 0] T slices_S32x2048x8x64_S32x2048x8x32_0_0_0_0) (broadcastInDim S32x2048x8x32 ![0, 1, 2, 3] bcast_S1x2048x1x32_S32x2048x8x32_0_1_2_3 (broadcastInDim S1x2048x1x32 ![1, 3] bcast_S2048x32_S1x2048x1x32_1_3 (Host.sin A))))
      (mulf (extractStridedSlice S32x2048x8x32 ![0, 0, 0, 32] T slices_S32x2048x8x64_S32x2048x8x32_0_0_0_32) (broadcastInDim S32x2048x8x32 ![0, 1, 2, 3] bcast_S1x2048x1x32_S32x2048x8x32_0_1_2_3 (broadcastInDim S1x2048x1x32 ![1, 3] bcast_S2048x32_S1x2048x1x32_1_3 (Host.cos A)))))

/-- Heads side by side, two to a block of 128 channels, blocks before tokens. -/
def BLKS (T : FVec Ideal S32x2048x8x64 .f32) : FVec Ideal S32x4x2048x128 .bf16 :=
  truncf .bf16 (transpose S32x4x2048x128 [0, 2, 1, 3] (shapeCast S32x2048x4x128 T shapeCasts_S32x2048x8x64_S32x2048x4x128) transposes_S32x2048x4x128_S32x4x2048x128_0_2_1_3) bitsLt_bf16_f32
def BLKC (T : FVec Ideal S32x2048x512 .f32) : FVec Ideal S32x4x2048x128 .bf16 :=
  truncf .bf16 (transpose S32x4x2048x128 [0, 2, 1, 3] (shapeCast S32x2048x4x128 T shapeCasts_S32x2048x512_S32x2048x4x128) transposes_S32x2048x4x128_S32x4x2048x128_0_2_1_3) bitsLt_bf16_f32

def QQ : FVec Ideal S32x4x2048x128 .bf16 :=
  BLKS (ROT (shapeCast S32x2048x8x64 (extractStridedSlice S32x2048x512 ![0, 0, 0] (PR X MD W) slices_S32x2048x3072_S32x2048x512_0_0_0) shapeCasts_S32x2048x512_S32x2048x8x64) ANG)
def KK : FVec Ideal S32x4x2048x128 .bf16 :=
  BLKS (ROT (mulf (shapeCast S32x2048x8x64 (extractStridedSlice S32x2048x512 ![0, 0, 512] (PR X MD W) slices_S32x2048x3072_S32x2048x512_0_0_512) shapeCasts_S32x2048x512_S32x2048x8x64) (broadcastInDim S32x2048x8x64 ![] bcast_S_S32x2048x8x64 (constant S_ .f32 0x3E000000#32))) ANG)
def VV : FVec Ideal S32x4x2048x128 .bf16 :=
  BLKC (extractStridedSlice S32x2048x512 ![0, 0, 1024] (PR X MD W) slices_S32x2048x3072_S32x2048x512_0_0_1024)
def GG : FVec Ideal S32x4x2048x128 .bf16 :=
  BLKC (mulf (extractStridedSlice S32x2048x512 ![0, 0, 1536] (PR X MD W) slices_S32x2048x3072_S32x2048x512_0_0_1536)
    (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf (extractStridedSlice S32x2048x512 ![0, 0, 1536] (PR X MD W) slices_S32x2048x3072_S32x2048x512_0_0_1536))))))
def CC : FVec Ideal S32x4x2048x128 .bf16 :=
  BLKC (Value.fn_main_v90 (F := Ideal) (extractStridedSlice S32x2048x256 ![0, 0, 2304] (PR X MD W) slices_S32x2048x3072_S32x2048x256_0_0_2304)
    (mulf (extractStridedSlice S32x2048x256 ![0, 0, 2560] (PR X MD W) slices_S32x2048x3072_S32x2048x256_0_0_2560) (extractStridedSlice S32x2048x256 ![0, 0, 2816] (PR X MD W) slices_S32x2048x3072_S32x2048x256_0_0_2816)))

/-- The rotary step of one channel `e` of a head: the value there, the values 32 channels above and below, and the angle's cosine and sine. -/
def rot (e : ℕ) (a up dn C S : EReal) : EReal := if e < 32 then a * C - up * S else dn * S + a * C

/-- The rotary step at a lane, of the projection's columns from `o` on. -/
def rotAt (o : ℕ) (ho : o + 512 ≤ 3072) (f : Fin 3072 → EReal) (A : Fin 32 → EReal) (p : Fin 4) (l : Fin 128) : EReal :=
  rot (l.val % 64) (f ⟨o + (p.val * 128 + l.val), by omega⟩) (f ⟨(o + (p.val * 128 + l.val) + 32) % 3072, by omega⟩) (f ⟨o + (p.val * 128 + l.val) - 32, by omega⟩)
    (Ideal.cos (A ⟨l.val % 32, by omega⟩)) (Ideal.sin (A ⟨l.val % 32, by omega⟩))

variable (b : Fin 32) (p : Fin 4) (t : Fin 2048) (l : Fin 128)

theorem ROT_at (T : FVec Ideal S32x2048x8x64 .f32) (A : FVec Ideal S2048x32 .f32) (hd : Fin 8) (e : Fin 64) :
    ROT T A (ix4 b t hd e) = if he : e.val < 32 then
      T (ix4 b t hd e) * Ideal.cos (A (ix2 t ⟨e.val, he⟩)) - T (ix4 b t hd ⟨32 + e.val, by omega⟩) * Ideal.sin (A (ix2 t ⟨e.val, he⟩))
      else T (ix4 b t hd ⟨e.val - 32, by omega⟩) * Ideal.sin (A (ix2 t ⟨e.val - 32, by omega⟩)) + T (ix4 b t hd ⟨32 + (e.val - 32), by omega⟩) * Ideal.cos (A (ix2 t ⟨e.val - 32, by omega⟩)) := by
  pointwise [ROT, Value.fn_main_v65]

theorem V_at : VV X MD W (ix4 b p t l) = pr X MD W b t ⟨1024 + (p.val * 128 + l.val), by omega⟩ := by
  rw [← PR_at]
  pointwise [VV, BLKC]

theorem G_at : GG X MD W (ix4 b p t l) = pr X MD W b t ⟨1536 + (p.val * 128 + l.val), by omega⟩ * Ideal.logistic (pr X MD W b t ⟨1536 + (p.val * 128 + l.val), by omega⟩) := by
  rw [← PR_at]
  pointwise [GG, BLKC]
  rfl

theorem C_at : CC X MD W (ix4 b p t l) = if h : p.val * 128 + l.val < 256 then pr X MD W b t ⟨2304 + (p.val * 128 + l.val), by omega⟩
      else pr X MD W b t ⟨2560 + (p.val * 128 + l.val - 256), by omega⟩ * pr X MD W b t ⟨2816 + (p.val * 128 + l.val - 256), by omega⟩ := by
  simp only [← PR_at]
  pointwise [CC, BLKC, Value.fn_main_v90]

theorem BLKS_at (T : FVec Ideal S32x2048x8x64 .f32) : BLKS T (ix4 b p t l) = T (ix4 b t ⟨p.val * 2 + l.val / 64, by omega⟩ ⟨l.val % 64, by omega⟩) := by
  pointwise [BLKS]

theorem headq (hd : Fin 8) (e : Fin 64) (q : Fin 3072) (hq : q.val = 0 + (hd.val * 64 + e.val)) :
    (shapeCast S32x2048x8x64 (extractStridedSlice S32x2048x512 ![0, 0, 0] (PR X MD W) slices_S32x2048x3072_S32x2048x512_0_0_0) shapeCasts_S32x2048x512_S32x2048x8x64) (ix4 b t hd e)
      = pr X MD W b t q := by
  rw [← PR_at]
  pointwise
  exact congrArg (fun z => PR X MD W (ix3 b t z)) (Fin.ext (by simp [hq]))

theorem headk (hd : Fin 8) (e : Fin 64) (q : Fin 3072) (hq : q.val = 512 + (hd.val * 64 + e.val)) :
    (mulf (shapeCast S32x2048x8x64 (extractStridedSlice S32x2048x512 ![0, 0, 512] (PR X MD W) slices_S32x2048x3072_S32x2048x512_0_0_512) shapeCasts_S32x2048x512_S32x2048x8x64) (broadcastInDim S32x2048x8x64 ![] bcast_S_S32x2048x8x64 (constant S_ .f32 0x3E000000#32))) (ix4 b t hd e)
      = pr X MD W b t q * Ideal.ofBits FTy.f32 0x3E000000#32 := by
  rw [← PR_at]
  pointwise
  exact congrArg (fun z => PR X MD W (ix3 b t z) * Ideal.ofBits FTy.f32 0x3E000000#32) (Fin.ext (by simp [hq]))

/-- A block read through the rotary step, when the heads hold the columns from `o` on of `f`. -/
theorem ROTS_at (T : FVec Ideal S32x2048x8x64 .f32) (o : ℕ) (ho : o + 512 ≤ 3072) (f : Fin 3072 → EReal)
    (hT : ∀ (hd : Fin 8) (e : Fin 64) (q : Fin 3072), q.val = o + (hd.val * 64 + e.val) → T (ix4 b t hd e) = f q) :
    BLKS (ROT T ANG) (ix4 b p t l) = rotAt o ho f (fun j => ANG (ix2 t j)) p l := by
  have hp := p.isLt
  have hl := l.isLt
  rw [BLKS_at, ROT_at]
  unfold rotAt rot
  by_cases h : l.val % 64 < 32
  · rw [dif_pos h, if_pos h]
    have e1 : (⟨l.val % 64, h⟩ : Fin 32) = ⟨l.val % 32, by omega⟩ := Fin.ext (by show l.val % 64 = l.val % 32; omega)
    rw [e1, hT _ _ ⟨o + (p.val * 128 + l.val), by omega⟩ (by show o + (p.val * 128 + l.val) = o + ((p.val * 2 + l.val / 64) * 64 + l.val % 64); omega),
      hT _ _ ⟨(o + (p.val * 128 + l.val) + 32) % 3072, by omega⟩ (by show (o + (p.val * 128 + l.val) + 32) % 3072 = o + ((p.val * 2 + l.val / 64) * 64 + (32 + l.val % 64)); omega)]
  · rw [dif_neg h, if_neg h]
    have e1 : (⟨l.val % 64 - 32, by omega⟩ : Fin 32) = ⟨l.val % 32, by omega⟩ := Fin.ext (by show l.val % 64 - 32 = l.val % 32; omega)
    rw [e1, hT _ _ ⟨o + (p.val * 128 + l.val) - 32, by omega⟩ (by show (o + (p.val * 128 + l.val) - 32) = o + ((p.val * 2 + l.val / 64) * 64 + (l.val % 64 - 32)); omega),
      hT _ _ ⟨o + (p.val * 128 + l.val), by omega⟩ (by show o + (p.val * 128 + l.val) = o + ((p.val * 2 + l.val / 64) * 64 + (32 + (l.val % 64 - 32))); omega)]

theorem Q_at : QQ X MD W (ix4 b p t l) = rotAt 0 (by omega) (pr X MD W b t) (fun j => ANG (ix2 t j)) p l :=
  ROTS_at b p t l _ 0 (by omega) _ (fun hd e q hq => headq X MD W b t hd e q hq)

theorem K_at : KK X MD W (ix4 b p t l) = rotAt 512 (by omega) (fun q => pr X MD W b t q * Ideal.ofBits FTy.f32 0x3E000000#32) (fun j => ANG (ix2 t j)) p l :=
  ROTS_at b p t l _ 512 (by omega) _ (fun hd e q hq => headk X MD W b t hd e q hq)

end Cert.InProjReferenceIdeal.InRef

end
-- ==== Proof.InHost.lean ====
/-
  The rotary tables the kernel's host lines prepare: the reference's angles, four copies side by side.
-/
module

public import proofs.«01_k».proof.Proof.Gen.InProjIdeal.Value
public import proofs.«01_k».proof.Proof.InRef

@[expose] public section

set_option maxRecDepth 16384
noncomputable section
namespace Cert.InProjIdeal.InBlk
open Cert.InProjIdeal Cert.InProjIdeal.Gen Idealize.ShloMosaic Idealize.ShloMosaic.TcCoe Idealize.SL.Sem
open Idealize.ShloMosaic.StableHlo
open Cert.InProjReferenceIdeal.InRef (ANG ANGR ANGC FREQ)

/-- The host's lines before the call. -/
abbrev lines : List (HloOp τ sig (Elt Ideal)) := [hostOps0, hostOps0_1, hostOps0_2, hostOps0_3, hostOps0_4, hostOps0_5, hostOps0_6, hostOps0_7, hostOps0_8,
  hostOps0_9, hostOps0_10, hostOps0_11, hostOps0_12, hostOps0_13, hostOps0_14].flatten

variable (σ : Valuation τ sig (Elt Ideal))

theorem ofm1 : Ideal.ofBits FTy.f32 3212836864#32 = -1 := by
  rw [show (-1 : EReal) = ((-1 : ℝ) : EReal) by rw [EReal.coe_neg, EReal.coe_one]]
  simp [Ideal.ofBits, Ideal.ieee, -EReal.coe_mul, -EReal.coe_neg]
  norm_num

/-- A sine with its sign by the lane. -/
theorem sgn (p : Prop) [Decidable p] (z : BitVec 1) (S : EReal) (hz : z = if p then 1#1 else 0#1) :
    S * (Scalar.select z (Ideal.ofBits FTy.f32 3212836864#32) 1 : EReal) = if p then S * (-1) else S := by
  subst hz
  by_cases h : p
  · rw [if_pos h, if_pos h, ofm1]
    rfl
  · rw [if_neg h, if_neg h]
    exact mul_one S

theorem cos_at (u : Fin 2048) (l : Fin 128) : after lines σ (Proc.tc.devRef main_v109) (ix2 u l) = (Ideal.cos (ANG (ix2 u ⟨l.val % 32, by omega⟩)) : EReal) := by
  simp only [lines, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil, List.append_nil, List.cons_append,
    List.nil_append]
  simp only [TRef.binary, TRef.nullary, TRef.unary, TRef.ternary, TRef.toBuf, TRef.ofBuf, cast_eq]
  entry_read
  pointwise [ANG, ANGR, ANGC, FREQ]

theorem sin_at (u : Fin 2048) (l : Fin 128) : after lines σ (Proc.tc.devRef main_v122) (ix2 u l) = (if l.val % 64 < 32 then Ideal.sin (ANG (ix2 u ⟨l.val % 32, by omega⟩)) * (-1) else Ideal.sin (ANG (ix2 u ⟨l.val % 32, by omega⟩)) : EReal) := by
  simp only [lines, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil, List.append_nil, List.cons_append,
    List.nil_append]
  simp only [TRef.binary, TRef.nullary, TRef.unary, TRef.ternary, TRef.toBuf, TRef.ofBuf, cast_eq]
  entry_read
  pointwise [ANG, ANGR, ANGC, FREQ]
  refine sgn _ _ _ ?_
  clear u
  revert l
  decide +kernel

end Cert.InProjIdeal.InBlk

end
-- ==== Proof.InBlk.lean ====
/-
  The input projection's blocks: what each window of the kernel holds at a grid point, over the arguments.
-/
module

public import proofs.«01_k».proof.Proof.Gen.InProjIdeal.Value
public import proofs.«01_k».proof.Proof.InHost

@[expose] public section

set_option maxRecDepth 16384
noncomputable section
namespace Cert.InProjIdeal.InBlk
open Cert.InProjIdeal Cert.InProjIdeal.Gen Idealize.ShloMosaic Idealize.ShloMosaic.TcCoe Idealize.SL.Sem
open Cert.InProjReferenceIdeal.InRef (ANG)

/-- Where each window's block lies. -/
theorem idx : ∀ t : Fin cfg0.N, win0_0.index t = ![(grid0.coords t 0).val, (grid0.coords t 1).val, 0]
    ∧ win0_1.index t = ![(grid0.coords t 0).val, 0, 0] ∧ win0_2.index t = ![0, 0]
    ∧ win0_5.index t = ![(grid0.coords t 1).val, 0] ∧ win0_6.index t = ![(grid0.coords t 1).val, 0]
    ∧ win0_8.index t = ![(grid0.coords t 0).val, 0, (grid0.coords t 1).val, 0]
    ∧ win0_9.index t = ![(grid0.coords t 0).val, 0, (grid0.coords t 1).val, 0]
    ∧ win0_10.index t = ![(grid0.coords t 0).val, 0, (grid0.coords t 1).val, 0]
    ∧ win0_11.index t = ![(grid0.coords t 0).val, 0, (grid0.coords t 1).val, 0]
    ∧ win0_14.index t = ![(grid0.coords t 0).val, 0, (grid0.coords t 1).val, 0] :=
  (by decide +kernel : ∀ t : Fin grid0.N, _)

variable (m : (ℓ : Loc nD τ sig) → Buf (Elt Ideal) ℓ) (c : Dev nD) (t : Fin cfg0.N)

abbrev aX : FVec Ideal S32x2048x1024 .f32 := m ((c.tc : Thread nD τ).loc main_arg0)
abbrev aM : FVec Ideal S32x1x6144 .f32 := m ((c.tc : Thread nD τ).loc main_arg1)
abbrev aW : FVec Ideal S1024x3072 .f32 := m ((c.tc : Thread nD τ).loc main_arg2)
abbrev row : Fin 32 := ⟨(grid0.coords t 0).val, (grid0.coords t 0).isLt⟩
abbrev half : ℕ := (grid0.coords t 1).val

theorem half_lt : half t < 2 := (grid0.coords t 1).isLt

theorem blk0 (r k : Fin 1024) (u : Fin 2048) (hu : u.val = half t * 1024 + r.val) :
    iblk m c 0 t (ix3 0 r k) = aX m c (ix3 (row t) u k) := by
  change u.val = (grid0.coords t 1).val * 1024 + r.val at hu
  blk_ext [iblk, V, idx t]

theorem blk1 (k : Fin 6144) : iblk m c 1 t (ix3 0 0 k) = aM m c (ix3 (row t) 0 k) := by
  blk_ext [iblk, V, idx t]

theorem blk2 (k : Fin 1024) (q : Fin 3072) : iblk m c 2 t (ix2 k q) = aW m c (ix2 k q) := by
  blk_simp [iblk]
  entry_read
  pointwise
  blk_ext [iblk, V, idx t]

theorem cell (r : Fin 1024) (l : Fin 128) (u : Fin 2048) (hu : u.val = half t * 1024 + r.val) :
    (((View.whole main_v109).slice (win0_5.rect t)).emb (ix2 r l)) = ix2 u l := by
  change u.val = (grid0.coords t 1).val * 1024 + r.val at hu
  blk_ext [idx t]

theorem cell' (r : Fin 1024) (l : Fin 128) (u : Fin 2048) (hu : u.val = half t * 1024 + r.val) :
    (((View.whole main_v122).slice (win0_6.rect t)).emb (ix2 r l)) = ix2 u l := by
  change u.val = (grid0.coords t 1).val * 1024 + r.val at hu
  blk_ext [idx t]

theorem blk5 (r : Fin 1024) (l : Fin 128) (u : Fin 2048) (hu : u.val = half t * 1024 + r.val) :
    iblk m c 5 t (ix2 r l) = (Ideal.cos (ANG (ix2 u ⟨l.val % 32, by omega⟩)) : EReal) := by
  blk_simp [iblk]
  entry_read
  exact (congrArg (StableHlo.after lines (fun b => m (c, b)) (Proc.tc.devRef main_v109)) (cell t r l u hu)).trans (cos_at (fun b => m (c, b)) u l)

theorem blk6 (r : Fin 1024) (l : Fin 128) (u : Fin 2048) (hu : u.val = half t * 1024 + r.val) :
    iblk m c 6 t (ix2 r l) = (if l.val % 64 < 32 then Ideal.sin (ANG (ix2 u ⟨l.val % 32, by omega⟩)) * (-1) else Ideal.sin (ANG (ix2 u ⟨l.val % 32, by omega⟩)) : EReal) := by
  blk_simp [iblk]
  entry_read
  exact (congrArg (StableHlo.after lines (fun b => m (c, b)) (Proc.tc.devRef main_v122)) (cell' t r l u hu)).trans (sin_at (fun b => m (c, b)) u l)

end Cert.InProjIdeal.InBlk

end
-- ==== Proof.InPay.lean ====
/-
  The input projection's stores at an index, over the values they read.
-/
module

public import proofs.«01_k».proof.Proof.Gen.InProjIdeal.Value
public import proofs.«01_k».proof.Proof.Spec

@[expose] public section

set_option maxRecDepth 16384
noncomputable section
namespace Cert.InProjIdeal.InBlk
open Cert.InProjIdeal Cert.InProjIdeal.Gen Idealize.ShloMosaic Idealize.ShloMosaic.TcCoe Idealize.SL.Sem

/-- The lanes in the lower half of their head. -/
abbrev mask : IVec S1024x128 1 := k0_pay9 (Scalar.select (Scalar.cmpi .eq 64#32 0#32) 1#32 64#32) k0_pay6 k0_pay7 k0_pay8

theorem mask_at (r : Fin 1024) (l : Fin 128) : mask (ix2 r l) = if l.val % 64 < 32 then 1#1 else 0#1 := by
  pointwise [mask, k0_pay9, k0_pay6, k0_pay7, k0_pay8]
  clear r
  revert l
  decide +kernel

/-- The modulated norm of the tile. -/
theorem norm_at (x : FVec Ideal S1x1024x1024 .f32) (sh sc : FVec Ideal S1x1x1024 .f32) (r k : Fin 1024) :
    k0_pay3 (F := Ideal) x sh sc (ix2 r k) = x (ix3 0 r k) * Ideal.rsqrt (Ideal.div (∑ j : Fin 1024, x (ix3 0 r j) * x (ix3 0 r j)) (Ideal.ofBits FTy.f32 0x44800000#32) + Ideal.ofBits FTy.f32 0x358637BD#32)
      * (1 + sc (ix3 0 0 k)) + sh (ix3 0 0 k) := by
  pointwise [k0_pay3]

theorem dot_at (h : FVec Ideal S1024x1024 .bf16) (w : FVec Ideal S1024x512 .bf16) (r : Fin 1024) (q : Fin 512) :
    k0_pay10 (F := Ideal) h w (ix2 r q) = ∑ k : Fin 1024, h (ix2 r k) * w (ix2 k q) := by
  pointwise [k0_pay10]

theorem dots_at (h : FVec Ideal S1024x1024 .bf16) (w : FVec Ideal S1024x1024 .bf16) (r : Fin 1024) (q : Fin 1024) :
    k0_pay47 (F := Ideal) h w (ix2 r q) = ∑ k : Fin 1024, h (ix2 r k) * w (ix2 k q) := by
  pointwise [k0_pay47]

theorem gate_at (h : FVec Ideal S1024x1024 .bf16) (w : FVec Ideal S1024x512 .bf16) (r : Fin 1024) (q : Fin 512) :
    k0_pay36 (F := Ideal) h w (ix2 r q) = k0_pay10 h w (ix2 r q) * Ideal.logistic (k0_pay10 h w (ix2 r q)) := by
  pointwise [k0_pay36, k0_pay10]

/-- The rotary step of a block of 128 lanes starting at lane `n`: the lanes 32 above or below, by the mask. -/
def kr (cs sn : FVec Ideal S1024x128 .f32) (mk : IVec S1024x128 1) (T : FVec Ideal S1024x512 .f32) (n : ℕ) (hn : n + 128 ≤ 512) (r : Fin 1024) (l : Fin 128) : EReal :=
  T (ix2 r ⟨n + l.val, by omega⟩) * cs (ix2 r l)
    + Scalar.select (mk (ix2 r l)) (T (ix2 r ⟨n + (l.val + 128 - 96) % 128, by omega⟩)) (T (ix2 r ⟨n + (l.val + 128 - 32) % 128, by omega⟩)) * sn (ix2 r l)

section Rotary
variable (cs sn : FVec Ideal S1024x128 .f32) (mk : IVec S1024x128 1) (T : FVec Ideal S1024x512 .f32) (r : Fin 1024) (l : Fin 128)

theorem q37_at : k0_pay37 (F := Ideal) cs sn mk T (ix4 0 0 r l) = kr cs sn mk T 0 (by omega) r l := by
  pointwise [k0_pay37, kr]
theorem q39_at : k0_pay39 (F := Ideal) cs sn mk T (ix4 0 0 r l) = kr cs sn mk T 128 (by omega) r l := by
  pointwise [k0_pay39, kr]
theorem q42_at : k0_pay42 (F := Ideal) cs sn mk T (ix4 0 0 r l) = kr cs sn mk T 256 (by omega) r l := by
  pointwise [k0_pay42, kr]
theorem q44_at : k0_pay44 (F := Ideal) cs sn mk T (ix4 0 0 r l) = kr cs sn mk T 384 (by omega) r l := by
  pointwise [k0_pay44, kr]
theorem k19_at : k0_pay19 (F := Ideal) cs sn mk T (ix4 0 0 r l) = kr cs sn mk T 128 (by omega) r l * Ideal.ofBits FTy.f32 0x3E000000#32 := by
  pointwise [k0_pay19, k0_pay18, kr]
theorem k25_at : k0_pay25 (F := Ideal) cs sn mk T (ix4 0 0 r l) = kr cs sn mk T 256 (by omega) r l * Ideal.ofBits FTy.f32 0x3E000000#32 := by
  pointwise [k0_pay25, k0_pay24, kr]
theorem k31_at : k0_pay31 (F := Ideal) (k0_pay30 cs sn mk T) (ix4 0 0 r l) = kr cs sn mk T 384 (by omega) r l * Ideal.ofBits FTy.f32 0x3E000000#32 := by
  pointwise [k0_pay31, k0_pay30, k0_pay29, kr]

/-- The block at lane 0 spells its mask and its product out. -/
theorem k13_at (h : FVec Ideal S1024x1024 .bf16) (w : FVec Ideal S1024x512 .bf16) :
    k0_pay13 (F := Ideal) h cs sn (Scalar.select (Scalar.cmpi .eq 64#32 0#32) 1#32 64#32) k0_pay6 k0_pay7 k0_pay8 w (ix4 0 0 r l)
      = kr cs sn mask (k0_pay10 h w) 0 (by omega) r l * Ideal.ofBits FTy.f32 0x3E000000#32 := by
  have e : k0_pay13 (F := Ideal) h cs sn (Scalar.select (Scalar.cmpi .eq 64#32 0#32) 1#32 64#32) k0_pay6 k0_pay7 k0_pay8 w
      = shapeCast S1x1x1024x128 (shapeCast S1x1024x128 (truncf .bf16 (k0_pay12 h cs sn (Scalar.select (Scalar.cmpi .eq 64#32 0#32) 1#32 64#32) k0_pay6 k0_pay7 k0_pay8 w) bitsLt_bf16_f32) shapeCasts_S1024x128_S1x1024x128) shapeCasts_S1x1024x128_S1x1x1024x128 := rfl
  rw [e]
  pointwise [k0_pay12, kr, mask, k0_pay10]
end Rotary

section Plain
variable (T : FVec Ideal S1024x512 .f32) (r : Fin 1024) (l : Fin 128)
theorem v17_at : k0_pay17 (F := Ideal) T (ix4 0 0 r l) = T (ix2 r ⟨0 + l.val, by omega⟩) := by
  pointwise [k0_pay17]
theorem v23_at : k0_pay23 (F := Ideal) T (ix4 0 0 r l) = T (ix2 r ⟨128 + l.val, by omega⟩) := by
  pointwise [k0_pay23]
theorem v28_at : k0_pay28 (F := Ideal) T (ix4 0 0 r l) = T (ix2 r ⟨256 + l.val, by omega⟩) := by
  pointwise [k0_pay28]
theorem v34_at : k0_pay34 (F := Ideal) T (ix4 0 0 r l) = T (ix2 r ⟨384 + l.val, by omega⟩) := by
  pointwise [k0_pay34]
theorem g43_at : k0_pay43 (F := Ideal) T (ix4 0 0 r l) = T (ix2 r ⟨256 + l.val, by omega⟩) := by
  pointwise [k0_pay43]
theorem g46_at : k0_pay46 (F := Ideal) (k0_pay45 T) (ix4 0 0 r l) = T (ix2 r ⟨384 + l.val, by omega⟩) := by
  pointwise [k0_pay46, k0_pay45]
theorem g38_at (h : FVec Ideal S1024x1024 .bf16) (w : FVec Ideal S1024x512 .bf16) : k0_pay38 (F := Ideal) h w (ix4 0 0 r l) = k0_pay36 h w (ix2 r ⟨0 + l.val, by omega⟩) := by
  pointwise [k0_pay38]
theorem g41_at (h : FVec Ideal S1024x1024 .bf16) (w : FVec Ideal S1024x512 .bf16) : k0_pay41 (F := Ideal) (k0_pay40 h w) (ix4 0 0 r l) = k0_pay36 h w (ix2 r ⟨128 + l.val, by omega⟩) := by
  pointwise [k0_pay41, k0_pay40]
end Plain

section Conv
variable (h : FVec Ideal S1024x1024 .bf16) (w : FVec Ideal S1024x1024 .bf16) (r : Fin 1024) (l : Fin 128)
theorem c51_at : k0_pay51 (F := Ideal) h w (ix4 0 0 r l) = k0_pay47 h w (ix2 r ⟨256 + l.val, by omega⟩) := by
  pointwise [k0_pay51, k0_pay49, k0_pay48]
theorem c53_at : k0_pay1 (F := Ideal) (k0_pay53 h w) (ix4 0 0 r l) = k0_pay47 h w (ix2 r ⟨256 + (128 + l.val), by omega⟩) := by
  pointwise [k0_pay1, k0_pay53, k0_pay49, k0_pay48]
theorem c52_at : k0_pay52 (F := Ideal) h w (ix4 0 0 r l) = k0_pay47 h w (ix2 r ⟨512 + l.val, by omega⟩) * k0_pay47 h w (ix2 r ⟨768 + l.val, by omega⟩) := by
  pointwise [k0_pay52, k0_pay50]
theorem c2_at : k0_pay2 (F := Ideal) (k0_pay50 h w) (ix4 0 0 r l) = k0_pay47 h w (ix2 r ⟨512 + (128 + l.val), by omega⟩) * k0_pay47 h w (ix2 r ⟨768 + (128 + l.val), by omega⟩) := by
  pointwise [k0_pay2, k0_pay50]
end Conv

/-- The pieces of a block of four heads' pairs, last first. -/
theorem canon4 (G : FVec Ideal S1x4x1024x128 .bf16) (p0 p1 p2 p3 : FVec Ideal S1x1x1024x128 .bf16)
    (h0 : ∀ r l, p0 (ix4 0 0 r l) = G (ix4 0 3 r l)) (h1 : ∀ r l, p1 (ix4 0 0 r l) = G (ix4 0 2 r l))
    (h2 : ∀ r l, p2 (ix4 0 0 r l) = G (ix4 0 1 r l)) (h3 : ∀ r l, p3 (ix4 0 0 r l) = G (ix4 0 0 r l)) (y : S1x4x1024x128.Idx) :
    (View.canon [⟨r0_18, p0⟩, ⟨r0_14, p1⟩, ⟨r0_10, p2⟩, ⟨r0_6, p3⟩] : Vec Ideal S1x4x1024x128 .bf16) y = G y := by
  have key : ∀ (q : Fin 4) (P : FVec Ideal S1x1x1024x128 .bf16) (hP : ∀ r l, P (ix4 0 0 r l) = G (ix4 0 q r l)) (x : S1x1x1024x128.Idx) (z : S1x4x1024x128.Idx)
      (_ : (z 1).val = q.val) (_ : (z 2).val = (x 2).val) (_ : (z 3).val = (x 3).val), P x = G z := by
    intro q P hP x z e1 e2 e3
    have ex : x = ix4 0 0 ⟨(x 2).val, (x 2).isLt⟩ ⟨(x 3).val, (x 3).isLt⟩ := funext fun a => match a with
      | ⟨0, _⟩ => Fin.ext (by have := (x 0).isLt; change _ < 1 at this; show (x 0).val = 0; omega)
      | ⟨1, _⟩ => Fin.ext (by have := (x 1).isLt; change _ < 1 at this; show (x 1).val = 0; omega)
      | ⟨2, _⟩ => rfl
      | ⟨3, _⟩ => rfl
    have ez : z = ix4 0 q ⟨(x 2).val, (x 2).isLt⟩ ⟨(x 3).val, (x 3).isLt⟩ := funext fun a => match a with
      | ⟨0, _⟩ => Fin.ext (by have := (z 0).isLt; change _ < 1 at this; show (z 0).val = 0; omega)
      | ⟨1, _⟩ => Fin.ext e1
      | ⟨2, _⟩ => Fin.ext e2
      | ⟨3, _⟩ => Fin.ext e3
    exact (congrArg P ex).trans ((hP _ _).trans (congrArg G ez).symm)
  refine View.canon_apply_of_pieces (Val := Elt Ideal) G _ ?_ y (cover0_10 _ _ _ _ y)
  intro pc hpc
  rcases List.mem_cons.mp hpc with rfl | hpc
  · exact fun x => key 3 _ h0 x _ (by have := (x 1).isLt; change _ < 1 at this; show 3 + 1 * (x 1).val = 3; omega) (by show 0 + 1 * (x 2).val = (x 2).val; omega) (by show 0 + 1 * (x 3).val = (x 3).val; omega)
  rcases List.mem_cons.mp hpc with rfl | hpc
  · exact fun x => key 2 _ h1 x _ (by have := (x 1).isLt; change _ < 1 at this; show 2 + 1 * (x 1).val = 2; omega) (by show 0 + 1 * (x 2).val = (x 2).val; omega) (by show 0 + 1 * (x 3).val = (x 3).val; omega)
  rcases List.mem_cons.mp hpc with rfl | hpc
  · exact fun x => key 1 _ h2 x _ (by have := (x 1).isLt; change _ < 1 at this; show 1 + 1 * (x 1).val = 1; omega) (by show 0 + 1 * (x 2).val = (x 2).val; omega) (by show 0 + 1 * (x 3).val = (x 3).val; omega)
  rcases List.mem_cons.mp hpc with rfl | hpc
  · exact fun x => key 0 _ h3 x _ (by have := (x 1).isLt; change _ < 1 at this; show 0 + 1 * (x 1).val = 0; omega) (by show 0 + 1 * (x 2).val = (x 2).val; omega) (by show 0 + 1 * (x 3).val = (x 3).val; omega)
  exact absurd hpc (List.not_mem_nil)

/-- The same, the two middle pieces in the other order. -/
theorem canon4c (G : FVec Ideal S1x4x1024x128 .bf16) (p0 p1 p2 p3 : FVec Ideal S1x1x1024x128 .bf16)
    (h0 : ∀ r l, p0 (ix4 0 0 r l) = G (ix4 0 3 r l)) (h1 : ∀ r l, p1 (ix4 0 0 r l) = G (ix4 0 2 r l))
    (h2 : ∀ r l, p2 (ix4 0 0 r l) = G (ix4 0 1 r l)) (h3 : ∀ r l, p3 (ix4 0 0 r l) = G (ix4 0 0 r l)) (y : S1x4x1024x128.Idx) :
    (View.canon [⟨r0_18, p0⟩, ⟨r0_10, p2⟩, ⟨r0_14, p1⟩, ⟨r0_6, p3⟩] : Vec Ideal S1x4x1024x128 .bf16) y = G y := by
  have key : ∀ (q : Fin 4) (P : FVec Ideal S1x1x1024x128 .bf16) (hP : ∀ r l, P (ix4 0 0 r l) = G (ix4 0 q r l)) (x : S1x1x1024x128.Idx) (z : S1x4x1024x128.Idx)
      (_ : (z 1).val = q.val) (_ : (z 2).val = (x 2).val) (_ : (z 3).val = (x 3).val), P x = G z := by
    intro q P hP x z e1 e2 e3
    have ex : x = ix4 0 0 ⟨(x 2).val, (x 2).isLt⟩ ⟨(x 3).val, (x 3).isLt⟩ := funext fun a => match a with
      | ⟨0, _⟩ => Fin.ext (by have := (x 0).isLt; change _ < 1 at this; show (x 0).val = 0; omega)
      | ⟨1, _⟩ => Fin.ext (by have := (x 1).isLt; change _ < 1 at this; show (x 1).val = 0; omega)
      | ⟨2, _⟩ => rfl
      | ⟨3, _⟩ => rfl
    have ez : z = ix4 0 q ⟨(x 2).val, (x 2).isLt⟩ ⟨(x 3).val, (x 3).isLt⟩ := funext fun a => match a with
      | ⟨0, _⟩ => Fin.ext (by have := (z 0).isLt; change _ < 1 at this; show (z 0).val = 0; omega)
      | ⟨1, _⟩ => Fin.ext e1
      | ⟨2, _⟩ => Fin.ext e2
      | ⟨3, _⟩ => Fin.ext e3
    exact (congrArg P ex).trans ((hP _ _).trans (congrArg G ez).symm)
  refine View.canon_apply_of_pieces (Val := Elt Ideal) G _ ?_ y (cover0_14 _ _ _ _ y)
  intro pc hpc
  rcases List.mem_cons.mp hpc with rfl | hpc
  · exact fun x => key 3 _ h0 x _ (by have := (x 1).isLt; change _ < 1 at this; show 3 + 1 * (x 1).val = 3; omega) (by show 0 + 1 * (x 2).val = (x 2).val; omega) (by show 0 + 1 * (x 3).val = (x 3).val; omega)
  rcases List.mem_cons.mp hpc with rfl | hpc
  · exact fun x => key 1 _ h2 x _ (by have := (x 1).isLt; change _ < 1 at this; show 1 + 1 * (x 1).val = 1; omega) (by show 0 + 1 * (x 2).val = (x 2).val; omega) (by show 0 + 1 * (x 3).val = (x 3).val; omega)
  rcases List.mem_cons.mp hpc with rfl | hpc
  · exact fun x => key 2 _ h1 x _ (by have := (x 1).isLt; change _ < 1 at this; show 2 + 1 * (x 1).val = 2; omega) (by show 0 + 1 * (x 2).val = (x 2).val; omega) (by show 0 + 1 * (x 3).val = (x 3).val; omega)
  rcases List.mem_cons.mp hpc with rfl | hpc
  · exact fun x => key 0 _ h3 x _ (by have := (x 1).isLt; change _ < 1 at this; show 0 + 1 * (x 1).val = 0; omega) (by show 0 + 1 * (x 2).val = (x 2).val; omega) (by show 0 + 1 * (x 3).val = (x 3).val; omega)
  exact absurd hpc (List.not_mem_nil)

end Cert.InProjIdeal.InBlk

end
-- ==== Proof.InOut.lean ====
/-
  The input projection's outputs, window by window: what each grid point leaves is the reference's block.
-/
module

public import proofs.«01_k».proof.Proof.InBlk
public import proofs.«01_k».proof.Proof.InPay

@[expose] public section

set_option maxRecDepth 16384
noncomputable section
namespace Cert.InProjIdeal.InBlk
open Cert.InProjIdeal Cert.InProjIdeal.Gen Idealize.ShloMosaic Idealize.ShloMosaic.TcCoe Idealize.SL.Sem
open Cert.InProjReferenceIdeal.InRef (ANG hx pr rot rotAt QQ KK VV GG CC Q_at K_at V_at G_at C_at)

theorem of8 : Ideal.ofBits FTy.f32 0x3E000000#32 = ((8⁻¹ : ℝ) : EReal) := by
  simp [Ideal.ofBits, Ideal.ieee, -EReal.coe_mul]
  norm_num

/-- A finite factor that is not negative distributes over the rotary step. -/
theorem rot_mul (e : ℕ) (a up dn C S : EReal) : rot e a up dn C S * Ideal.ofBits FTy.f32 0x3E000000#32
    = rot e (a * Ideal.ofBits FTy.f32 0x3E000000#32) (up * Ideal.ofBits FTy.f32 0x3E000000#32) (dn * Ideal.ofBits FTy.f32 0x3E000000#32) C S := by
  have h0 : (0 : EReal) ≤ ((8⁻¹ : ℝ) : EReal) := by exact_mod_cast (by norm_num : (0 : ℝ) ≤ 8⁻¹)
  have ht : ((8⁻¹ : ℝ) : EReal) ≠ ⊤ := EReal.coe_ne_top _
  have key : ∀ x y : EReal, (x + y) * ((8⁻¹ : ℝ) : EReal) = x * ((8⁻¹ : ℝ) : EReal) + y * ((8⁻¹ : ℝ) : EReal) := fun x y => by
    rw [mul_comm, EReal.left_distrib_of_nonneg_of_ne_top h0 ht, mul_comm, mul_comm y]
  rw [of8]
  unfold rot
  split
  · rw [sub_eq_add_neg, key, sub_eq_add_neg, neg_mul, mul_right_comm a, mul_right_comm up]
  · rw [key, mul_right_comm dn, mul_right_comm a]

section Lane
variable (cs sn : FVec Ideal S1024x128 .f32) (T : FVec Ideal S1024x512 .f32) (r : Fin 1024) (l : Fin 128)

/-- The kernel's rotary step is the reference's. -/
theorem kr_at (f : Fin 3072 → EReal) (A : Fin 32 → EReal) (o : ℕ) (ho : o + 512 ≤ 3072) (p : Fin 4) (n : ℕ) (hn : n + 128 ≤ 512) (hp : n = p.val * 128)
    (hT : ∀ (q : Fin 512) (z : Fin 3072), z.val = o + q.val → T (ix2 r q) = f z)
    (hc : cs (ix2 r l) = (Ideal.cos (A ⟨l.val % 32, by omega⟩) : EReal))
    (hs : sn (ix2 r l) = (if l.val % 64 < 32 then Ideal.sin (A ⟨l.val % 32, by omega⟩) * (-1) else Ideal.sin (A ⟨l.val % 32, by omega⟩) : EReal)) :
    kr cs sn mask T n hn r l = rotAt o ho f A p l := by
  have hpl := p.isLt
  have hl := l.isLt
  unfold kr rotAt rot
  rw [mask_at, hc, hs]
  by_cases h : l.val % 64 < 32
  · rw [if_pos h, if_pos h, if_pos h,
      hT ⟨n + l.val, by omega⟩ ⟨o + (p.val * 128 + l.val), by omega⟩ (by show o + (p.val * 128 + l.val) = o + (n + l.val); omega),
      show Scalar.select (1#1) (T (ix2 r ⟨n + (l.val + 128 - 96) % 128, by omega⟩)) (T (ix2 r ⟨n + (l.val + 128 - 32) % 128, by omega⟩)) = T (ix2 r ⟨n + (l.val + 128 - 96) % 128, by omega⟩) from rfl,
      hT ⟨n + (l.val + 128 - 96) % 128, by omega⟩ ⟨(o + (p.val * 128 + l.val) + 32) % 3072, by omega⟩
        (by show (o + (p.val * 128 + l.val) + 32) % 3072 = o + (n + (l.val + 128 - 96) % 128); omega)]
    generalize (f _ : EReal) = a
    generalize (Ideal.sin _ : EReal) = S
    generalize (f _ : EReal) = b
    rw [sub_eq_add_neg, mul_neg_one, mul_neg]
  · rw [if_neg h, if_neg h, if_neg h,
      hT ⟨n + l.val, by omega⟩ ⟨o + (p.val * 128 + l.val), by omega⟩ (by show o + (p.val * 128 + l.val) = o + (n + l.val); omega),
      show Scalar.select (0#1) (T (ix2 r ⟨n + (l.val + 128 - 96) % 128, by omega⟩)) (T (ix2 r ⟨n + (l.val + 128 - 32) % 128, by omega⟩)) = T (ix2 r ⟨n + (l.val + 128 - 32) % 128, by omega⟩) from rfl,
      hT ⟨n + (l.val + 128 - 32) % 128, by omega⟩ ⟨o + (p.val * 128 + l.val) - 32, by omega⟩
        (by show o + (p.val * 128 + l.val) - 32 = o + (n + (l.val + 128 - 32) % 128); omega)]
    exact add_comm _ _
end Lane

variable (m : (ℓ : Loc nD τ sig) → Buf (Elt Ideal) ℓ) (c : Dev nD) (t : Fin cfg0.N)

/-- The token a row of the tile holds. -/
abbrev tok (r : Fin 1024) : Fin 2048 := ⟨half t * 1024 + r.val, by have := half_lt t; omega⟩

/-- The tile's modulated norm. -/
abbrev HN : FVec Ideal S1024x1024 .bf16 := k0_pay3 (View.ld (iblk m c 0 t) r0_0) (View.ld (iblk m c 1 t) r0_1) (View.ld (iblk m c 1 t) r0_2)
abbrev CS : FVec Ideal S1024x128 .f32 := k0_pay4 (View.ld (iblk m c 5 t) r0_3)
abbrev SN : FVec Ideal S1024x128 .f32 := k0_pay5 (View.ld (iblk m c 6 t) r0_3)

theorem ld0 (r k : Fin 1024) : View.ld (iblk m c 0 t) r0_0 (ix3 0 r k) = aX m c (ix3 (row t) (tok t r) k) := by
  rw [← blk0 m c t r k (tok t r) rfl]
  pointwise
theorem ld1 (k : Fin 1024) : View.ld (iblk m c 1 t) r0_1 (ix3 0 0 k) = aM m c (ix3 (row t) 0 ⟨k.val, by omega⟩) := by
  rw [← blk1]
  pointwise
theorem ld2 (k : Fin 1024) : View.ld (iblk m c 1 t) r0_2 (ix3 0 0 k) = aM m c (ix3 (row t) 0 ⟨1024 + k.val, by omega⟩) := by
  rw [← blk1]
  pointwise
theorem cs_at (r : Fin 1024) (l : Fin 128) : CS m c t (ix2 r l) = (Ideal.cos (ANG (ix2 (tok t r) ⟨l.val % 32, by omega⟩)) : EReal) := by
  rw [← blk5 m c t r l (tok t r) rfl]
  pointwise [CS, k0_pay4]
theorem sn_at (r : Fin 1024) (l : Fin 128) : SN m c t (ix2 r l) = (if l.val % 64 < 32 then Ideal.sin (ANG (ix2 (tok t r) ⟨l.val % 32, by omega⟩)) * (-1) else Ideal.sin (ANG (ix2 (tok t r) ⟨l.val % 32, by omega⟩)) : EReal) := by
  rw [← blk6 m c t r l (tok t r) rfl]
  pointwise [SN, k0_pay5]

theorem hn_at (r k : Fin 1024) : HN m c t (ix2 r k) = hx (aX m c) (aM m c) (row t) (tok t r) k := by
  unfold HN hx
  rw [norm_at, ld1, ld2]
  simp only [ld0]

abbrev PP (r : Fin 1024) (q : Fin 3072) : EReal := pr (aX m c) (aM m c) (aW m c) (row t) (tok t r) q

theorem t4_at (r : Fin 1024) (q : Fin 512) (z : Fin 3072) (hz : z.val = 512 + q.val) : k0_pay10 (HN m c t) (View.ld (iblk m c 2 t) r0_4) (ix2 r q) = PP m c t r z := by
  have hw : ∀ k : Fin 1024, View.ld (iblk m c 2 t) r0_4 (ix2 k q) = aW m c (ix2 k z) := fun k => by
    have e : z = ⟨512 + q.val, by omega⟩ := Fin.ext hz
    rw [e, ← blk2 m c t]
    pointwise
  rw [dot_at]
  unfold PP pr
  exact Finset.sum_congr rfl fun k _ => by rw [hn_at, hw]
theorem t5_at (r : Fin 1024) (q : Fin 512) (z : Fin 3072) (hz : z.val = 1024 + q.val) : k0_pay10 (HN m c t) (View.ld (iblk m c 2 t) r0_5) (ix2 r q) = PP m c t r z := by
  have hw : ∀ k : Fin 1024, View.ld (iblk m c 2 t) r0_5 (ix2 k q) = aW m c (ix2 k z) := fun k => by
    have e : z = ⟨1024 + q.val, by omega⟩ := Fin.ext hz
    rw [e, ← blk2 m c t]
    pointwise
  rw [dot_at]
  unfold PP pr
  exact Finset.sum_congr rfl fun k _ => by rw [hn_at, hw]
theorem t22_at (r : Fin 1024) (q : Fin 512) (z : Fin 3072) (hz : z.val = 0 + q.val) : k0_pay10 (HN m c t) (View.ld (iblk m c 2 t) r0_22) (ix2 r q) = PP m c t r z := by
  have hw : ∀ k : Fin 1024, View.ld (iblk m c 2 t) r0_22 (ix2 k q) = aW m c (ix2 k z) := fun k => by
    have e : z = ⟨0 + q.val, by omega⟩ := Fin.ext hz
    rw [e, ← blk2 m c t]
    pointwise
  rw [dot_at]
  unfold PP pr
  exact Finset.sum_congr rfl fun k _ => by rw [hn_at, hw]
theorem t23_at (r : Fin 1024) (q : Fin 512) (z : Fin 3072) (hz : z.val = 1536 + q.val) : k0_pay10 (HN m c t) (View.ld (iblk m c 2 t) r0_23) (ix2 r q) = PP m c t r z := by
  have hw : ∀ k : Fin 1024, View.ld (iblk m c 2 t) r0_23 (ix2 k q) = aW m c (ix2 k z) := fun k => by
    have e : z = ⟨1536 + q.val, by omega⟩ := Fin.ext hz
    rw [e, ← blk2 m c t]
    pointwise
  rw [dot_at]
  unfold PP pr
  exact Finset.sum_congr rfl fun k _ => by rw [hn_at, hw]
theorem t24_at (r : Fin 1024) (q : Fin 1024) (z : Fin 3072) (hz : z.val = 2048 + q.val) : k0_pay47 (HN m c t) (View.ld (iblk m c 2 t) r0_24) (ix2 r q) = PP m c t r z := by
  have hw : ∀ k : Fin 1024, View.ld (iblk m c 2 t) r0_24 (ix2 k q) = aW m c (ix2 k z) := fun k => by
    have e : z = ⟨2048 + q.val, by omega⟩ := Fin.ext hz
    rw [e, ← blk2 m c t]
    pointwise
  rw [dots_at]
  unfold PP pr
  exact Finset.sum_congr rfl fun k _ => by rw [hn_at, hw]

/-- The block of an array of every token that the grid point's output windows cover. -/
abbrev BL (A : FVec Ideal S32x4x2048x128 .bf16) : FVec Ideal S1x4x1024x128 .bf16 := fun y => A (ix4 (row t) ⟨(y 1).val, (y 1).isLt⟩ (tok t ⟨(y 2).val, (y 2).isLt⟩) ⟨(y 3).val, (y 3).isLt⟩)

theorem q_lane (r : Fin 1024) (l : Fin 128) (p : Fin 4) (n : ℕ) (hn : n + 128 ≤ 512) (hp : n = p.val * 128) :
    kr (CS m c t) (SN m c t) mask (k0_pay35 (HN m c t) (View.ld (iblk m c 2 t) r0_22)) n hn r l = QQ (aX m c) (aM m c) (aW m c) (ix4 (row t) p (tok t r) l) := by
  rw [Q_at]
  exact kr_at _ _ _ r l (PP m c t r) (fun j => ANG (ix2 (tok t r) j)) 0 (by omega) p n hn hp (fun q z hz => t22_at m c t r q z hz) (cs_at m c t r l) (sn_at m c t r l)

theorem k_lane (r : Fin 1024) (l : Fin 128) (p : Fin 4) (n : ℕ) (hn : n + 128 ≤ 512) (hp : n = p.val * 128) :
    kr (CS m c t) (SN m c t) mask (k0_pay10 (HN m c t) (View.ld (iblk m c 2 t) r0_4)) n hn r l * Ideal.ofBits FTy.f32 0x3E000000#32 = KK (aX m c) (aM m c) (aW m c) (ix4 (row t) p (tok t r) l) := by
  rw [K_at, kr_at _ _ _ r l (PP m c t r) (fun j => ANG (ix2 (tok t r) j)) 512 (by omega) p n hn hp (fun q z hz => t4_at m c t r q z hz) (cs_at m c t r l) (sn_at m c t r l)]
  unfold rotAt
  rw [rot_mul]

theorem v_lane (r : Fin 1024) (l : Fin 128) (p : Fin 4) (q : Fin 512) (hp : q.val = p.val * 128 + l.val) :
    k0_pay11 (HN m c t) (View.ld (iblk m c 2 t) r0_5) (ix2 r q) = VV (aX m c) (aM m c) (aW m c) (ix4 (row t) p (tok t r) l) := by
  rw [V_at]
  exact t5_at m c t r q _ (by show 1024 + (p.val * 128 + l.val) = 1024 + q.val; omega)

theorem g_lane (r : Fin 1024) (l : Fin 128) (p : Fin 4) (q : Fin 512) (hp : q.val = p.val * 128 + l.val) :
    k0_pay36 (HN m c t) (View.ld (iblk m c 2 t) r0_23) (ix2 r q) = GG (aX m c) (aM m c) (aW m c) (ix4 (row t) p (tok t r) l) := by
  rw [G_at, gate_at, t23_at m c t r q ⟨1536 + (p.val * 128 + l.val), by omega⟩ (by show 1536 + (p.val * 128 + l.val) = 1536 + q.val; omega)]

theorem c_lo (r : Fin 1024) (l : Fin 128) (p : Fin 4) (q : Fin 1024) (hp : q.val = 256 + (p.val * 128 + l.val)) (h2 : p.val < 2) :
    k0_pay47 (HN m c t) (View.ld (iblk m c 2 t) r0_24) (ix2 r q) = CC (aX m c) (aM m c) (aW m c) (ix4 (row t) p (tok t r) l) := by
  have h : p.val * 128 + l.val < 256 := by omega
  rw [C_at, dif_pos h]
  exact t24_at m c t r q _ (by show 2304 + (p.val * 128 + l.val) = 2048 + q.val; omega)

theorem c_hi (r : Fin 1024) (l : Fin 128) (p : Fin 4) (q q' : Fin 1024) (hq : q.val = 512 + (p.val * 128 + l.val - 256)) (hq' : q'.val = 768 + (p.val * 128 + l.val - 256)) (h2 : 2 ≤ p.val) :
    k0_pay47 (HN m c t) (View.ld (iblk m c 2 t) r0_24) (ix2 r q) * k0_pay47 (HN m c t) (View.ld (iblk m c 2 t) r0_24) (ix2 r q') = CC (aX m c) (aM m c) (aW m c) (ix4 (row t) p (tok t r) l) := by
  have h : ¬ p.val * 128 + l.val < 256 := by omega
  rw [C_at, dif_neg h, t24_at m c t r q ⟨2560 + (p.val * 128 + l.val - 256), by omega⟩ (by show 2560 + (p.val * 128 + l.val - 256) = 2048 + q.val; omega),
    t24_at m c t r q' ⟨2816 + (p.val * 128 + l.val - 256), by omega⟩ (by show 2816 + (p.val * 128 + l.val - 256) = 2048 + q'.val; omega)]

theorem out8_at (y : S1x4x1024x128.Idx) : out0_8 (F := Ideal) (iblk m c 0 t) (iblk m c 1 t) (iblk m c 2 t) (iblk m c 3 t) (iblk m c 4 t) (iblk m c 5 t) (iblk m c 6 t) (iblk m c 7 t) y = BL t (QQ (aX m c) (aM m c) (aW m c)) y := by
  unfold_out out0_8
  exact canon4 (BL t (QQ (aX m c) (aM m c) (aW m c))) _ _ _ _
    (fun r l => (q44_at _ _ _ _ r l).trans (q_lane m c t r l 3 384 (by omega) rfl))
    (fun r l => (q42_at _ _ _ _ r l).trans (q_lane m c t r l 2 256 (by omega) rfl))
    (fun r l => (q39_at _ _ _ _ r l).trans (q_lane m c t r l 1 128 (by omega) rfl))
    (fun r l => (q37_at _ _ _ _ r l).trans (q_lane m c t r l 0 0 (by omega) rfl)) y

theorem out9_at (y : S1x4x1024x128.Idx) : out0_9 (F := Ideal) (iblk m c 0 t) (iblk m c 1 t) (iblk m c 2 t) (iblk m c 3 t) (iblk m c 4 t) (iblk m c 5 t) (iblk m c 6 t) (iblk m c 7 t) y = BL t (KK (aX m c) (aM m c) (aW m c)) y := by
  unfold_out out0_9
  exact canon4 (BL t (KK (aX m c) (aM m c) (aW m c))) _ _ _ _
    (fun r l => (k31_at _ _ _ _ r l).trans (k_lane m c t r l 3 384 (by omega) rfl))
    (fun r l => (k25_at _ _ _ _ r l).trans (k_lane m c t r l 2 256 (by omega) rfl))
    (fun r l => (k19_at _ _ _ _ r l).trans (k_lane m c t r l 1 128 (by omega) rfl))
    (fun r l => (k13_at _ _ r l _ _).trans (k_lane m c t r l 0 0 (by omega) rfl)) y

theorem out10_at (y : S1x4x1024x128.Idx) : out0_10 (F := Ideal) (iblk m c 0 t) (iblk m c 1 t) (iblk m c 2 t) (iblk m c 3 t) (iblk m c 4 t) (iblk m c 5 t) (iblk m c 6 t) (iblk m c 7 t) y = BL t (VV (aX m c) (aM m c) (aW m c)) y := by
  unfold_out out0_10
  exact canon4 (BL t (VV (aX m c) (aM m c) (aW m c))) _ _ _ _
    (fun r l => (v34_at _ r l).trans (v_lane m c t r l 3 ⟨384 + l.val, by omega⟩ rfl))
    (fun r l => (v28_at _ r l).trans (v_lane m c t r l 2 ⟨256 + l.val, by omega⟩ rfl))
    (fun r l => (v23_at _ r l).trans (v_lane m c t r l 1 ⟨128 + l.val, by omega⟩ rfl))
    (fun r l => (v17_at _ r l).trans (v_lane m c t r l 0 ⟨0 + l.val, by omega⟩ rfl)) y

theorem out11_at (y : S1x4x1024x128.Idx) : out0_11 (F := Ideal) (iblk m c 0 t) (iblk m c 1 t) (iblk m c 2 t) (iblk m c 3 t) (iblk m c 4 t) (iblk m c 5 t) (iblk m c 6 t) (iblk m c 7 t) y = BL t (GG (aX m c) (aM m c) (aW m c)) y := by
  unfold_out out0_11
  exact canon4 (BL t (GG (aX m c) (aM m c) (aW m c))) _ _ _ _
    (fun r l => (g46_at _ r l).trans (g_lane m c t r l 3 ⟨384 + l.val, by omega⟩ rfl))
    (fun r l => (g43_at _ r l).trans (g_lane m c t r l 2 ⟨256 + l.val, by omega⟩ rfl))
    (fun r l => (g41_at r l _ _).trans (g_lane m c t r l 1 ⟨128 + l.val, by omega⟩ rfl))
    (fun r l => (g38_at r l _ _).trans (g_lane m c t r l 0 ⟨0 + l.val, by omega⟩ rfl)) y

theorem out14_at (y : S1x4x1024x128.Idx) : out0_14 (F := Ideal) (iblk m c 0 t) (iblk m c 1 t) (iblk m c 2 t) (iblk m c 3 t) (iblk m c 4 t) (iblk m c 5 t) (iblk m c 6 t) (iblk m c 7 t) y = BL t (CC (aX m c) (aM m c) (aW m c)) y := by
  unfold_out out0_14
  exact canon4c (BL t (CC (aX m c) (aM m c) (aW m c))) _ _ _ _
    (fun r l => (c2_at _ _ r l).trans (c_hi m c t r l 3 ⟨512 + (128 + l.val), by omega⟩ ⟨768 + (128 + l.val), by omega⟩ (by show 512 + (128 + l.val) = 512 + (3 * 128 + l.val - 256); omega) (by show 768 + (128 + l.val) = 768 + (3 * 128 + l.val - 256); omega) (by decide)))
    (fun r l => (c52_at _ _ r l).trans (c_hi m c t r l 2 ⟨512 + l.val, by omega⟩ ⟨768 + l.val, by omega⟩ (by show 512 + l.val = 512 + (2 * 128 + l.val - 256); omega) (by show 768 + l.val = 768 + (2 * 128 + l.val - 256); omega) (by decide)))
    (fun r l => (c53_at _ _ r l).trans (c_lo m c t r l 1 ⟨256 + (128 + l.val), by omega⟩ (by show 256 + (128 + l.val) = 256 + (1 * 128 + l.val); omega) (by decide)))
    (fun r l => (c51_at _ _ r l).trans (c_lo m c t r l 0 ⟨256 + l.val, by omega⟩ (by show 256 + l.val = 256 + (0 * 128 + l.val); omega) (by decide))) y

theorem final8 : (dats m 0 c).arrAt 8 cfg0.N = QQ (aX m c) (aM m c) (aW m c) := by
  refine (dats m 0 c).arrAt_eq_of_covers 8 _ (by decide +kernel) fun t _ y => ?_
  blk_simp
  rw [after0_8]
  refine (out8_at m c t y).trans (congrArg (QQ (aX m c) (aM m c) (aW m c)) ?_)
  blk_ext [idx t]

theorem final9 : (dats m 0 c).arrAt 9 cfg0.N = KK (aX m c) (aM m c) (aW m c) := by
  refine (dats m 0 c).arrAt_eq_of_covers 9 _ (by decide +kernel) fun t _ y => ?_
  blk_simp
  rw [after0_9]
  refine (out9_at m c t y).trans (congrArg (KK (aX m c) (aM m c) (aW m c)) ?_)
  blk_ext [idx t]

theorem final10 : (dats m 0 c).arrAt 10 cfg0.N = VV (aX m c) (aM m c) (aW m c) := by
  refine (dats m 0 c).arrAt_eq_of_covers 10 _ (by decide +kernel) fun t _ y => ?_
  blk_simp
  rw [after0_10]
  refine (out10_at m c t y).trans (congrArg (VV (aX m c) (aM m c) (aW m c)) ?_)
  blk_ext [idx t]

theorem final11 : (dats m 0 c).arrAt 11 cfg0.N = GG (aX m c) (aM m c) (aW m c) := by
  refine (dats m 0 c).arrAt_eq_of_covers 11 _ (by decide +kernel) fun t _ y => ?_
  blk_simp
  rw [after0_11]
  refine (out11_at m c t y).trans (congrArg (GG (aX m c) (aM m c) (aW m c)) ?_)
  blk_ext [idx t]

theorem final14 : (dats m 0 c).arrAt 14 cfg0.N = CC (aX m c) (aM m c) (aW m c) := by
  refine (dats m 0 c).arrAt_eq_of_covers 14 _ (by decide +kernel) fun t _ y => ?_
  blk_simp
  rw [after0_14]
  refine (out14_at m c t y).trans (congrArg (CC (aX m c) (aM m c) (aW m c)) ?_)
  blk_ext [idx t]

end Cert.InProjIdeal.InBlk

end
-- ==== Proof.InRes.lean ====
/-
  The input projection's reference results are its stages.
-/
module

public import proofs.«01_k».proof.Proof.InRef

@[expose] public section

set_option maxRecDepth 16384

noncomputable section

namespace Cert.InProjReferenceIdeal.InRef

open Cert.InProjReferenceIdeal Cert.InProjReferenceIdeal.Gen Idealize.ShloMosaic Idealize.ShloMosaic.TcCoe Idealize.SL.Sem

section Results
variable (m : (ℓ : Loc nD τ sig) → Buf (Elt Ideal) ℓ) (c : Dev nD)

set_option maxHeartbeats 2000000 in
theorem res_q : Value.res_main_v93 m c = QQ (m ((c.tc : Thread nD τ).loc main_arg0)) (m ((c.tc : Thread nD τ).loc main_arg1)) (m ((c.tc : Thread nD τ).loc main_arg2)) := rfl
set_option maxHeartbeats 2000000 in
theorem res_k : Value.res_main_v96 m c = KK (m ((c.tc : Thread nD τ).loc main_arg0)) (m ((c.tc : Thread nD τ).loc main_arg1)) (m ((c.tc : Thread nD τ).loc main_arg2)) := rfl
theorem res_c : Value.res_main_v105 m c = CC (m ((c.tc : Thread nD τ).loc main_arg0)) (m ((c.tc : Thread nD τ).loc main_arg1)) (m ((c.tc : Thread nD τ).loc main_arg2)) := rfl
end Results

end Cert.InProjReferenceIdeal.InRef

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Inner.Frame
public import proofs.«01_k».proof.Proof.Gen.InnerIdeal.Value
public import proofs.«01_k».proof.Proof.Gen.InnerReferenceIdeal.Run
public import proofs.«01_k».proof.Proof.Gen.Mixers.Frame
public import proofs.«01_k».proof.Proof.Gen.MixersIdeal.Value
public import proofs.«01_k».proof.Proof.Gen.MixersReferenceIdeal.Run
public import proofs.«01_k».proof.Proof.Ffn
public import proofs.«01_k».proof.Proof.RefValue
public import proofs.«01_k».proof.Proof.FfnInner
public import proofs.«01_k».proof.Proof.Gen.InProj.Frame
public import proofs.«01_k».proof.Proof.Gen.InProjIdeal.Value
public import proofs.«01_k».proof.Proof.Gen.InProjReferenceIdeal.Run
public import proofs.«01_k».proof.Proof.MixFinal
public import proofs.«01_k».proof.Proof.InOut
public import proofs.«01_k».proof.Proof.InRes
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m ρ _ => Cert.Kernel.Gen.frame m ρ

theorem frame_kernelIdeal : Cert.quiescent_KernelIdeal (hKernelIdeal := Cert.KernelIdeal.Gen.facts) := fun m ρ _ => Cert.KernelIdeal.Gen.frame m ρ

/-- The reference runs host operations only: its arguments stay, and it declares no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The kernel's result array is the reference's, on equal arguments. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    obtain ⟨h0, h1, h2, h3, h4, h5, h6⟩ := hagree c
    rw [Cert.ReferenceIdeal.RefValue.res_eq m' c, h0, h1, h2, h3, h4, h5, h6]
    exact (Cert.KernelIdeal.Ffn.final m c _ fun b u l => Cert.ReferenceIdeal.RefValue.ref_at _ _ _ _ _ _ _ b u l).symm

theorem frame_inner : Cert.quiescent_Inner (hInner := Cert.Inner.Gen.facts) := fun m ρ _ => Cert.Inner.Gen.frame m ρ

theorem frame_innerIdeal : Cert.quiescent_InnerIdeal (hInnerIdeal := Cert.InnerIdeal.Gen.facts) := fun m ρ _ => Cert.InnerIdeal.Gen.frame m ρ

theorem frame_innerReferenceIdeal : Cert.quiescent_InnerReferenceIdeal (hInnerReferenceIdeal := Cert.InnerReferenceIdeal.Gen.facts) := fun m ρ _ =>
  (θ_run Cert.InnerReferenceIdeal.defs _ _).mono (fun r h => ⟨fun c => (h c).2, sem_eq_zero_of_no_sems (by decide) r.2⟩)
    (Cert.InnerReferenceIdeal.Value.run m ρ)

/-- The other layer's result array is its reference's, on equal arguments. -/
theorem algebraic_inner : Cert.algebraic_InnerIdeal_InnerReferenceIdeal (hInnerIdeal := Cert.InnerIdeal.Gen.facts)
    (hInnerReferenceIdeal := Cert.InnerReferenceIdeal.Gen.facts) := by
  pair_intro
  · run_from Cert.InnerIdeal.Value.run_blocks m g
  · run_from Cert.InnerReferenceIdeal.Value.run m' g'
    obtain ⟨h0, h1, h2, h3, h4, h5⟩ := hagree c
    rw [Cert.InnerReferenceIdeal.Value.res_eq m' c, h0, h1, h2, h3, h4, h5]
    exact (Cert.InnerIdeal.Ffn.final m c _ fun b u l => Cert.ReferenceIdeal.RefValue.mix_at _ _ _ _ _ _ b u l).symm

theorem frame_mixers : Cert.quiescent_Mixers (hMixers := Cert.Mixers.Gen.facts) := fun m ρ _ => Cert.Mixers.Gen.frame m ρ

theorem frame_mixersIdeal : Cert.quiescent_MixersIdeal (hMixersIdeal := Cert.MixersIdeal.Gen.facts) := fun m ρ _ => Cert.MixersIdeal.Gen.frame m ρ

theorem frame_mixersReferenceIdeal : Cert.quiescent_MixersReferenceIdeal (hMixersReferenceIdeal := Cert.MixersReferenceIdeal.Gen.facts) := fun m ρ _ =>
  (θ_run Cert.MixersReferenceIdeal.defs _ _).mono (fun r h => ⟨fun c => (h c).2.2.2.2, sem_eq_zero_of_no_sems (by decide) r.2⟩)
    (Cert.MixersReferenceIdeal.Value.run m ρ)

/-- The retention call's four result arrays are its reference's, on equal arguments. -/
theorem algebraic_mixers : Cert.algebraic_MixersIdeal_MixersReferenceIdeal (hMixersIdeal := Cert.MixersIdeal.Gen.facts)
    (hMixersReferenceIdeal := Cert.MixersReferenceIdeal.Gen.facts) := by
  pair_intro
  · run_from Cert.MixersIdeal.Value.run_blocks m g
  · run_from Cert.MixersReferenceIdeal.Value.run m' g'
    · obtain ⟨h0, h1, h2⟩ := hagree c
      rw [Cert.MixersIdeal.Mix.pair12 m c (StableHlo.launchContents m' c) h0 h1]; rfl
    · obtain ⟨h0, h1, h2⟩ := hagree c
      rw [Cert.MixersIdeal.Mix.pair13 m c (StableHlo.launchContents m' c) h0 h2, ← h0, ← h2]; rfl
    · obtain ⟨h0, h1, h2⟩ := hagree c
      rw [Cert.MixersIdeal.Mix.pair14 m c (StableHlo.launchContents m' c) h0 h1]; rfl
    · obtain ⟨h0, h1, h2⟩ := hagree c
      rw [Cert.MixersIdeal.Mix.pair15 m c (StableHlo.launchContents m' c) h0 h1]; rfl

theorem frame_inproj : Cert.quiescent_InProj (hInProj := Cert.InProj.Gen.facts) := fun m ρ _ => Cert.InProj.Gen.frame m ρ

theorem frame_inprojIdeal : Cert.quiescent_InProjIdeal (hInProjIdeal := Cert.InProjIdeal.Gen.facts) := fun m ρ _ => Cert.InProjIdeal.Gen.frame m ρ

theorem frame_inprojReferenceIdeal : Cert.quiescent_InProjReferenceIdeal (hInProjReferenceIdeal := Cert.InProjReferenceIdeal.Gen.facts) := fun m ρ _ =>
  (θ_run Cert.InProjReferenceIdeal.defs _ _).mono (fun r h => ⟨fun c => (h c).2.2.2.2.2, sem_eq_zero_of_no_sems (by decide) r.2⟩)
    (Cert.InProjReferenceIdeal.Value.run m ρ)

set_option maxHeartbeats 4000000 in
/-- The input projection's five result arrays are its reference's, on equal arguments. -/
theorem algebraic_inproj : Cert.algebraic_InProjIdeal_InProjReferenceIdeal (hInProjIdeal := Cert.InProjIdeal.Gen.facts)
    (hInProjReferenceIdeal := Cert.InProjReferenceIdeal.Gen.facts) := by
  pair_intro
  · run_from Cert.InProjIdeal.Value.run_blocks m g
  · run_from Cert.InProjReferenceIdeal.Value.run m' g'
    · obtain ⟨h0, h1, h2, h3⟩ := hagree c
      rw [Cert.InProjReferenceIdeal.InRef.res_q m' c, h0, h1, h2]
      exact (Cert.InProjIdeal.InBlk.final8 m c).symm
    · obtain ⟨h0, h1, h2, h3⟩ := hagree c
      rw [Cert.InProjReferenceIdeal.InRef.res_k m' c, h0, h1, h2]
      exact (Cert.InProjIdeal.InBlk.final9 m c).symm
    · have e := (Cert.InProjIdeal.InBlk.final10 m c).symm
      unfold Cert.InProjReferenceIdeal.InRef.VV Cert.InProjReferenceIdeal.InRef.BLKC Cert.InProjReferenceIdeal.InRef.PR at e
      exact e
    · have e := (Cert.InProjIdeal.InBlk.final11 m c).symm
      unfold Cert.InProjReferenceIdeal.InRef.GG Cert.InProjReferenceIdeal.InRef.BLKC Cert.InProjReferenceIdeal.InRef.PR at e
      exact e
    · obtain ⟨h0, h1, h2, h3⟩ := hagree c
      rw [Cert.InProjReferenceIdeal.InRef.res_c m' c, h0, h1, h2]
      exact (Cert.InProjIdeal.InBlk.final14 m c).symm

theorem claim : Cert.Claim := ⟨Cert.Kernel.Gen.facts, Cert.KernelIdeal.Gen.facts, Cert.ReferenceIdeal.Gen.facts, Cert.Inner.Gen.facts, Cert.InnerIdeal.Gen.facts, Cert.InnerReferenceIdeal.Gen.facts, Cert.Mixers.Gen.facts, Cert.MixersIdeal.Gen.facts, Cert.MixersReferenceIdeal.Gen.facts, Cert.InProj.Gen.facts, Cert.InProjIdeal.Gen.facts, Cert.InProjReferenceIdeal.Gen.facts,
  frame_kernel, frame_kernelIdeal, frame_referenceIdeal, frame_inner, frame_innerIdeal, frame_innerReferenceIdeal, frame_mixers, frame_mixersIdeal, frame_mixersReferenceIdeal, frame_inproj, frame_inprojIdeal, frame_inprojReferenceIdeal,
  trivial, algebraic, trivial, algebraic_inner, trivial, algebraic_mixers, trivial, algebraic_inproj⟩

end Cert.Proof

end
